-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384x26 : Shape := ⟨2, ![16384, 26]⟩
abbrev S16384x13 : Shape := ⟨2, ![16384, 13]⟩
abbrev S26x100000x16 : Shape := ⟨3, ![26, 100000, 16]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S16384x13 .f32) (main_arg2 : FVec F S26x100000x16 .f32) (main_arg3 : FVec F S128x429 .f32) (main_arg4 : FVec F S128 .f32) (main_arg5 : FVec F S128 .f32) (main_arg6 : FVec F S128 .f32) (main_arg7 : FVec F S64x128 .f32) (main_arg8 : FVec F S64 .f32) (main_arg9 : FVec F S64 .f32) (main_arg10 : FVec F S64 .f32) (main_arg11 : FVec F S1x64 .f32) (main_arg12 : FVec F S1 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  main_v4
-- ==== Pre_in_range_finite.lean ====
abbrev S16384x26 : Shape := ⟨2, ![16384, 26]⟩
abbrev S16384x13 : Shape := ⟨2, ![16384, 13]⟩
abbrev S26x100000x16 : Shape := ⟨3, ![26, 100000, 16]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel
  bcast_S_S16384x13 : S_.BroadcastsInDim S16384x13 (![] : Fin 0 → Fin S16384x13.rank)
  reducesTo_S16384x13_S_d0_1 : S16384x13.ReducesTo [0, 1] S_
  bcast_S_S26x100000x16 : S_.BroadcastsInDim S26x100000x16 (![] : Fin 0 → Fin S26x100000x16.rank)
  reducesTo_S26x100000x16_S_d0_1_2 : S26x100000x16.ReducesTo [0, 1, 2] S_
  bcast_S_S128x429 : S_.BroadcastsInDim S128x429 (![] : Fin 0 → Fin S128x429.rank)
  reducesTo_S128x429_S_d0_1 : S128x429.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x128 .f32) (main_arg8 : FVec F S64 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S64x128 .f32 := Host.absf main_arg7
  let main_cst_13 : FVec F S_ .f32 := constant S_ .f32 0x7F800000#32
  let main_v37 : FVec F S64x128 .f32 := broadcastInDim S64x128 ![] bcast_S_S64x128 main_cst_13
  let main_v38 : IVec S64x128 1 := cmpf .olt main_v36 main_v37
  let main_c_14 : IVec S_ 1 := constantI S_ 1 1#1
  let main_v39 : IVec S_ 1 := (fun x v => Host.reduce IntOp.andi x v reducesTo_S64x128_S_d0_1 h_S_) main_v38 main_c_14
  let main_v40 : IVec S_ 1 := andi main_v35 main_v39
  let main_v41 : FVec F S64 .f32 := Host.absf main_arg8
  let main_cst_15 : FVec F S_ .f32 := constant S_ .f32 0x7F800000#32
  let main_v42 : FVec F S64 .f32 := broadcastInDim S64 ![] bcast_S_S64 main_cst_15
  let main_v43 : IVec S64 1 := cmpf .olt main_v41 main_v42
  let main_c_16 : IVec S_ 1 := constantI S_ 1 1#1
  let main_v44 : IVec S_ 1 := (fun x v => Host.reduce IntOp.andi x v reducesTo_S64_S_d0 h_S_) main_v43 main_c_16
  let main_v45 : IVec S_ 1 := andi main_v40 main_v44
  main_v45

def fn_part1 {F : FTy → Type} [FloatOps F] (main_arg4 : FVec F S128 .f32) (main_arg5 : FVec F S128 .f32) (main_arg6 : FVec F S128 .f32) (main_arg7 : FVec F S64x128 .f32) (main_arg8 : FVec F S64 .f32) (main_v15 : IVec S_ 1) (main_v16 : FVec F S128x429 .f32) : IVec S_ 1 :=
  let main_cst_5 : FVec F S_ .f32 := constant S_ .f32 0x7F800000#32
  let main_v17 : FVec F S128x429 .f32 := broadcastInDim S128x429 ![] bcast_S_S128x429 main_cst_5
  let main_v18 : IVec S128x429 1 := cmpf .olt main_v16 main_v17
  let main_c_6 : IVec S_ 1 := constantI S_ 1 1#1
  let main_v19 : IVec S_ 1 := (fun x v => Host.reduce IntOp.andi x v reducesTo_S128x429_S_d0_1 h_S_) main_v18 main_c_6
  let main_v20 : IVec S_ 1 := andi main_v15 main_v19
  let main_v21 : FVec F S128 .f32 := Host.absf main_arg4
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v20 main_v24
  let main_v26 : FVec F S128 .f32 := Host.absf main_arg5
  let main_cst_9 : FVec F S_ .f32 := constant S_ .f32 0x7F800000#32
  let main_v27 : FVec F S128 .f32 := broadcastInDim S128 ![] bcast_S_S128 main_cst_9
  let main_v28 : IVec S128 1 := cmpf .olt main_v26 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v25 main_v29
  let main_v31 : FVec F S128 .f32 := Host.absf main_arg6
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg7 main_arg8 main_v30 main_v33

def fn {F : FTy → Type} [FloatOps F] (main_arg0 : IVec S16384x26 32) (main_arg1 : FVec F S16384x13 .f32) (main_arg2 : FVec F S26x100000x16 .f32) (main_arg3 : FVec F S128x429 .f32) (main_arg4 : FVec F S128 .f32) (main_arg5 : FVec F S128 .f32) (main_arg6 : FVec F S128 .f32) (main_arg7 : FVec F S64x128 .f32) (main_arg8 : FVec F S64 .f32) (main_arg9 : FVec F S64 .f32) (main_arg10 : FVec F S64 .f32) (main_arg11 : FVec F S1x64 .f32) (main_arg12 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  let main_v6 : FVec F S16384x13 .f32 := Host.absf main_arg1
  let main_cst : FVec F S_ .f32 := constant S_ .f32 0x7F800000#32
  let main_v7 : FVec F S16384x13 .f32 := broadcastInDim S16384x13 ![] bcast_S_S16384x13 main_cst
  let main_v8 : IVec S16384x13 1 := cmpf .olt main_v6 main_v7
  let main_c_2 : IVec S_ 1 := constantI S_ 1 1#1
  let main_v9 : IVec S_ 1 := (fun x v => Host.reduce IntOp.andi x v reducesTo_S16384x13_S_d0_1 h_S_) main_v8 main_c_2
  let main_v10 : IVec S_ 1 := andi main_v5 main_v9
  let main_v11 : FVec F S26x100000x16 .f32 := Host.absf main_arg2
  let main_cst_3 : FVec F S_ .f32 := constant S_ .f32 0x7F800000#32
  let main_v12 : FVec F S26x100000x16 .f32 := broadcastInDim S26x100000x16 ![] bcast_S_S26x100000x16 main_cst_3
  let main_v13 : IVec S26x100000x16 1 := cmpf .olt main_v11 main_v12
  let main_c_4 : IVec S_ 1 := constantI S_ 1 1#1
  let main_v14 : IVec S_ 1 := (fun x v => Host.reduce IntOp.andi x v reducesTo_S26x100000x16_S_d0_1_2 h_S_) main_v13 main_c_4
  let main_v15 : IVec S_ 1 := andi main_v10 main_v14
  let main_v16 : FVec F S128x429 .f32 := Host.absf main_arg3
  fn_part1 (F := F) main_arg4 main_arg5 main_arg6 main_arg7 main_arg8 main_v15 main_v16
-- ==== Kernel.lean ====
abbrev S16384x26 : Shape := ⟨2, ![16384, 26]⟩
abbrev S16384x13 : Shape := ⟨2, ![16384, 13]⟩
abbrev S26x100000x16 : Shape := ⟨3, ![26, 100000, 16]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S425984 : Shape := ⟨1, ![425984]⟩
abbrev S26x16x100000 : Shape := ⟨3, ![26, 16, 100000]⟩
abbrev S26x32x16 : Shape := ⟨3, ![26, 32, 16]⟩
abbrev S13312 : Shape := ⟨1, ![13312]⟩
abbrev S41600000 : Shape := ⟨1, ![41600000]⟩
abbrev S16x1408 : Shape := ⟨2, ![16, 1408]⟩
abbrev S22528 : Shape := ⟨1, ![22528]⟩
abbrev S512 : Shape := ⟨1, ![512]⟩
abbrev S_ : Shape := ⟨0, ![]⟩
abbrev S16 : Shape := ⟨1, ![16]⟩
abbrev S1x16x1408 : Shape := ⟨3, ![1, 16, 1408]⟩
abbrev S2600000x16 : Shape := ⟨2, ![2600000, 16]⟩
abbrev S425984x16 : Shape := ⟨2, ![425984, 16]⟩
abbrev S3328x16 : Shape := ⟨2, ![3328, 16]⟩
abbrev S3328 : Shape := ⟨1, ![3328]⟩
abbrev S16384x416 : Shape := ⟨2, ![16384, 416]⟩
abbrev S429x128 : Shape := ⟨2, ![429, 128]⟩
abbrev S416x128 : Shape := ⟨2, ![416, 128]⟩
abbrev S13x128 : Shape := ⟨2, ![13, 128]⟩
abbrev S1x128 : Shape := ⟨2, ![1, 128]⟩
abbrev S128x64 : Shape := ⟨2, ![128, 64]⟩
abbrev S1x1 : Shape := ⟨2, ![1, 1]⟩
abbrev S16384x1 : Shape := ⟨2, ![16384, 1]⟩
abbrev S2048x416 : Shape := ⟨2, ![2048, 416]⟩
abbrev S2048x13 : Shape := ⟨2, ![2048, 13]⟩
abbrev S2048x1 : Shape := ⟨2, ![2048, 1]⟩
abbrev S16384x128 : Shape := ⟨2, ![16384, 128]⟩
abbrev S16384x64 : Shape := ⟨2, ![16384, 64]⟩
abbrev S2x128 : Shape := ⟨2, ![2, 128]⟩
abbrev S2x64 : Shape := ⟨2, ![2, 64]⟩
abbrev S2048x128 : Shape := ⟨2, ![2048, 128]⟩
abbrev S2048x64 : Shape := ⟨2, ![2048, 64]⟩
abbrev S2048 : Shape := ⟨1, ![2048]⟩

abbrev nBuf : Table → Nat
  | .hbm => 33
  | .local .tc .vmem => 23
  | .local .scVector .vmem => 8
  | _ => 0

abbrev bufTy : (tb : Table) → Fin (nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S128x429, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1, .f32⟩
  | .hbm, ⟨13, _⟩ => ⟨S425984, .i32⟩
  | .hbm, ⟨14, _⟩ => ⟨S26x16x100000, .f32⟩
  | .hbm, ⟨15, _⟩ => ⟨S26x32x16, .f32⟩
  | .hbm, ⟨16, _⟩ => ⟨S13312, .f32⟩
  | .hbm, ⟨17, _⟩ => ⟨S41600000, .f32⟩
  | .hbm, ⟨18, _⟩ => ⟨S2600000x16, .f32⟩
  | .hbm, ⟨19, _⟩ => ⟨S425984x16, .f32⟩
  | .hbm, ⟨20, _⟩ => ⟨S16384x416, .f32⟩
  | .hbm, ⟨21, _⟩ => ⟨S429x128, .f32⟩
  | .hbm, ⟨22, _⟩ => ⟨S416x128, .f32⟩
  | .hbm, ⟨23, _⟩ => ⟨S13x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S128x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x1, .f32⟩
  | .hbm, ⟨32, _⟩ => ⟨S16384x1, .f32⟩
  | .local .tc .vmem, ⟨0, _⟩ => ⟨S2048x416, .f32⟩
  | .local .tc .vmem, ⟨1, _⟩ => ⟨S2048x416, .f32⟩
  | .local .tc .vmem, ⟨2, _⟩ => ⟨S2048x13, .f32⟩
  | .local .tc .vmem, ⟨3, _⟩ => ⟨S2048x13, .f32⟩
  | .local .tc .vmem, ⟨4, _⟩ => ⟨S416x128, .f32⟩
  | .local .tc .vmem, ⟨5, _⟩ => ⟨S13x128, .f32⟩
  | .local .tc .vmem, ⟨6, _⟩ => ⟨S1x128, .f32⟩
  | .local .tc .vmem, ⟨7, _⟩ => ⟨S1x128, .f32⟩
  | .local .tc .vmem, ⟨8, _⟩ => ⟨S1x128, .f32⟩
  | .local .tc .vmem, ⟨9, _⟩ => ⟨S128x64, .f32⟩
  | .local .tc .vmem, ⟨10, _⟩ => ⟨S1x64, .f32⟩
  | .local .tc .vmem, ⟨11, _⟩ => ⟨S1x64, .f32⟩
  | .local .tc .vmem, ⟨12, _⟩ => ⟨S1x64, .f32⟩
  | .local .tc .vmem, ⟨13, _⟩ => ⟨S1x64, .f32⟩
  | .local .tc .vmem, ⟨14, _⟩ => ⟨S1x1, .f32⟩
  | .local .tc .vmem, ⟨15, _⟩ => ⟨S2048x1, .f32⟩
  | .local .tc .vmem, ⟨16, _⟩ => ⟨S2048x1, .f32⟩
  | .local .tc .vmem, ⟨17, _⟩ => ⟨S16384x128, .f32⟩
  | .local .tc .vmem, ⟨18, _⟩ => ⟨S16384x64, .f32⟩
  | .local .tc .vmem, ⟨19, _⟩ => ⟨S2x128, .f32⟩
  | .local .tc .vmem, ⟨20, _⟩ => ⟨S2x64, .f32⟩
  | .local .tc .vmem, ⟨21, _⟩ => ⟨S2x128, .f32⟩
  | .local .tc .vmem, ⟨22, _⟩ => ⟨S2x64, .f32⟩
  | .local .scVector .vmem, ⟨0, _⟩ => ⟨S16x1408, .f32⟩
  | .local .scVector .vmem, ⟨1, _⟩ => ⟨S16x1408, .f32⟩
  | .local .scVector .vmem, ⟨2, _⟩ => ⟨S22528, .f32⟩
  | .local .scVector .vmem, ⟨3, _⟩ => ⟨S22528, .f32⟩
  | .local .scVector .vmem, ⟨4, _⟩ => ⟨S512, .f32⟩
  | .local .scVector .vmem, ⟨5, _⟩ => ⟨S13312, .i32⟩
  | .local .scVector .vmem, ⟨6, _⟩ => ⟨S3328x16, .f32⟩
  | .local .scVector .vmem, ⟨7, _⟩ => ⟨S3328x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v1_scv : Ref sig .scVector := ⟨.hbm, 14, rfl⟩
abbrev main_v3_scv : Ref sig .scVector := ⟨.hbm, 16, rfl⟩
abbrev main_v4_scv : Ref sig .scVector := ⟨.hbm, 17, rfl⟩
abbrev main_v5_scv : Ref sig .scVector := ⟨.hbm, 18, rfl⟩
abbrev main_v0_scv : Ref sig .scVector := ⟨.hbm, 13, rfl⟩
abbrev main_v6_scv : Ref sig .scVector := ⟨.hbm, 19, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg6_0 : Ref sig .tc := ⟨.vmem, 8, rfl⟩
abbrev cc2_stg7_0 : Ref sig .tc := ⟨.vmem, 9, rfl⟩
abbrev cc2_stg8_0 : Ref sig .tc := ⟨.vmem, 10, rfl⟩
abbrev cc2_stg9_0 : Ref sig .tc := ⟨.vmem, 11, rfl⟩
abbrev cc2_stg10_0 : Ref sig .tc := ⟨.vmem, 12, rfl⟩
abbrev cc2_stg11_0 : Ref sig .tc := ⟨.vmem, 13, rfl⟩
abbrev cc2_stg12_0 : Ref sig .tc := ⟨.vmem, 14, rfl⟩
abbrev cc2_stg13_0 : Ref sig .tc := ⟨.vmem, 15, rfl⟩
abbrev cc2_stg13_1 : Ref sig .tc := ⟨.vmem, 16, rfl⟩
abbrev cc2_scratch0 : Ref sig .tc := ⟨.vmem, 17, rfl⟩
abbrev cc2_scratch1 : Ref sig .tc := ⟨.vmem, 18, rfl⟩
abbrev cc2_scratch2 : Ref sig .tc := ⟨.vmem, 19, rfl⟩
abbrev cc2_scratch3 : Ref sig .tc := ⟨.vmem, 20, rfl⟩
abbrev cc2_scratch4 : Ref sig .tc := ⟨.vmem, 21, rfl⟩
abbrev cc2_scratch5 : Ref sig .tc := ⟨.vmem, 22, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem13_0 : DmaSem sig := 26
abbrev cc2_sem13_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1846_i32 : BitVec 32 := 1846#32
  let v3 : BitVec 1 := Scalar.cmpi .slt v1 c1846_i32
  let v4 : BitVec 32 := Scalar.extui v3
  let c0_i32 : BitVec 32 := 0#32
  let v5 : BitVec 1 := Scalar.cmpi .ne v4 c0_i32
  v5

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c71_i32 : BitVec 32 := 71#32
  let c0_i32_8 : BitVec 32 := 0#32
  let v14 : BitVec 1 := Scalar.cmpi .eq c71_i32 c0_i32_8
  let c1_i32_9 : BitVec 32 := 1#32
  let v15 : BitVec 32 := Scalar.select v14 c1_i32_9 c71_i32
  let v16 : BitVec 32 := Scalar.remsi v1 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1408_i32 : BitVec 32 := 1408#32
  let v41 : BitVec 32 := Scalar.muli v23 c1408_i32
  v41
def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14 : BitVec 32 := 0#32
  let v25 : BitVec 1 := Scalar.cmpi .sgt v1 c0_i32_14
  let v26 : BitVec 32 := Scalar.extui v25
  let c0_i32_15 : BitVec 32 := 0#32
  let v27 : BitVec 1 := Scalar.cmpi .slt v1 c0_i32_15
  let v28 : BitVec 32 := Scalar.extui v27
  let v29 : BitVec 32 := Scalar.subi v26 v28
  let c71_i32_13 : BitVec 32 := 71#32
  let c0_i32_16 : BitVec 32 := 0#32
  let v30 : BitVec 1 := Scalar.cmpi .sgt c71_i32_13 c0_i32_16
  let v31 : BitVec 32 := Scalar.extui v30
  let c0_i32_17 : BitVec 32 := 0#32
  let v32 : BitVec 1 := Scalar.cmpi .slt c71_i32_13 c0_i32_17
  let v33 : BitVec 32 := Scalar.extui v32
  let v34 : BitVec 32 := Scalar.subi v31 v33
  let v35 : BitVec 1 := Scalar.cmpi .ne v29 v34
  let v36 : BitVec 32 := Scalar.remsi v1 c71_i32_13
  let c0_i32_18 : BitVec 32 := 0#32
  let v37 : BitVec 1 := Scalar.cmpi .ne v36 c0_i32_18
  let v38 : BitVec 1 := Scalar.andi v35 v37
  let v24 : BitVec 32 := Scalar.divsi v1 c71_i32_13
  let c1_i32_19 : BitVec 32 := 1#32
  let v39 : BitVec 32 := Scalar.subi v24 c1_i32_19
  let v40 : BitVec 32 := Scalar.select v38 v39 v24
  let c0_i32_20 : BitVec 32 := 0#32
  let c71_i32 : BitVec 32 := 71#32
  let c0_i32_8 : BitVec 32 := 0#32
  let v14 : BitVec 1 := Scalar.cmpi .eq c71_i32 c0_i32_8
  let c1_i32_9 : BitVec 32 := 1#32
  let v15 : BitVec 32 := Scalar.select v14 c1_i32_9 c71_i32
  let v16 : BitVec 32 := Scalar.remsi v1 v15
  let c0_i32_11 : BitVec 32 := 0#32
  let v18 : BitVec 1 := Scalar.cmpi .slt v16 c0_i32_11
  let c0_i32_12 : BitVec 32 := 0#32
  let v19 : BitVec 1 := Scalar.cmpi .slt v15 c0_i32_12
  let v20 : BitVec 1 := Scalar.xori v18 v19
  let c0_i32_10 : BitVec 32 := 0#32
  let v17 : BitVec 1 := Scalar.cmpi .ne v16 c0_i32_10
  let v21 : BitVec 1 := Scalar.andi v20 v17
  let v22 : BitVec 32 := Scalar.addi v16 v15
  let v23 : BitVec 32 := Scalar.select v21 v22 v16
  let c1408_i32 : BitVec 32 := 1408#32
  let v41 : BitVec 32 := Scalar.muli v23 c1408_i32
  let v42 : BitVec 32 := v41
  ![v40.toNat, 0, v42.toNat]
@[reducible] def k0_t1_loop : Scf.Loop 32 :=
  let c0_i32_1 : BitVec 32 := 0#32
  let c29_i32 : BitVec 32 := 29#32
  let v6 : BitVec 32 := Scalar.addi c0_i32_1 c29_i32
  let c1_i32 : BitVec 32 := 1#32
  ⟨c0_i32_1, v6, c1_i32⟩
def k0_cond2 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c1846_i32_15 : BitVec 32 := 1846#32
  let v25 : BitVec 1 := Scalar.cmpi .slt v20 c1846_i32_15
  let v26 : BitVec 32 := Scalar.extui v25
  let c0_i32_16 : BitVec 32 := 0#32
  let v27 : BitVec 1 := Scalar.cmpi .ne v26 c0_i32_16
  v27

def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v20 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  v64
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c0_i32_29 : BitVec 32 := 0#32
  let v48 : BitVec 1 := Scalar.cmpi .sgt v20 c0_i32_29
  let v49 : BitVec 32 := Scalar.extui v48
  let c0_i32_30 : BitVec 32 := 0#32
  let v50 : BitVec 1 := Scalar.cmpi .slt v20 c0_i32_30
  let v51 : BitVec 32 := Scalar.extui v50
  let v52 : BitVec 32 := Scalar.subi v49 v51
  let c71_i32_28 : BitVec 32 := 71#32
  let c0_i32_31 : BitVec 32 := 0#32
  let v53 : BitVec 1 := Scalar.cmpi .sgt c71_i32_28 c0_i32_31
  let v54 : BitVec 32 := Scalar.extui v53
  let c0_i32_32 : BitVec 32 := 0#32
  let v55 : BitVec 1 := Scalar.cmpi .slt c71_i32_28 c0_i32_32
  let v56 : BitVec 32 := Scalar.extui v55
  let v57 : BitVec 32 := Scalar.subi v54 v56
  let v58 : BitVec 1 := Scalar.cmpi .ne v52 v57
  let v59 : BitVec 32 := Scalar.remsi v20 c71_i32_28
  let c0_i32_33 : BitVec 32 := 0#32
  let v60 : BitVec 1 := Scalar.cmpi .ne v59 c0_i32_33
  let v61 : BitVec 1 := Scalar.andi v58 v60
  let v47 : BitVec 32 := Scalar.divsi v20 c71_i32_28
  let c1_i32_34 : BitVec 32 := 1#32
  let v62 : BitVec 32 := Scalar.subi v47 c1_i32_34
  let v63 : BitVec 32 := Scalar.select v61 v62 v47
  let c0_i32_35 : BitVec 32 := 0#32
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v20 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  let v65 : BitVec 32 := v64
  ![v63.toNat, 0, v65.toNat]
def k0_cond3 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_8 : BitVec 32 := 2#32
  let c0_i32_1 : BitVec 32 := 0#32
  let c1_i32 : BitVec 32 := 1#32
  let arg14 : BitVec 32 := Scf.iv c0_i32_1 c1_i32 k0_t1
  let v14 : BitVec 32 := Scalar.muli c2_i32_8 arg14
  let c32_i32 : BitVec 32 := 32#32
  let v15 : BitVec 32 := Scalar.muli v14 c32_i32
  let v16 : BitVec 32 := Scalar.addi v1 v15
  let c1846_i32_17 : BitVec 32 := 1846#32
  let v28 : BitVec 1 := Scalar.cmpi .slt v16 c1846_i32_17
  let v29 : BitVec 32 := Scalar.extui v28
  let c0_i32_18 : BitVec 32 := 0#32
  let v30 : BitVec 1 := Scalar.cmpi .ne v29 c0_i32_18
  v30

def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_8 : BitVec 32 := 2#32
  let c0_i32_1 : BitVec 32 := 0#32
  let c1_i32 : BitVec 32 := 1#32
  let arg14 : BitVec 32 := Scf.iv c0_i32_1 c1_i32 k0_t1
  let v14 : BitVec 32 := Scalar.muli c2_i32_8 arg14
  let c32_i32 : BitVec 32 := 32#32
  let v15 : BitVec 32 := Scalar.muli v14 c32_i32
  let v16 : BitVec 32 := Scalar.addi v1 v15
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v16 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  v64
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_8 : BitVec 32 := 2#32
  let c0_i32_1 : BitVec 32 := 0#32
  let c1_i32 : BitVec 32 := 1#32
  let arg14 : BitVec 32 := Scf.iv c0_i32_1 c1_i32 k0_t1
  let v14 : BitVec 32 := Scalar.muli c2_i32_8 arg14
  let c32_i32 : BitVec 32 := 32#32
  let v15 : BitVec 32 := Scalar.muli v14 c32_i32
  let v16 : BitVec 32 := Scalar.addi v1 v15
  let c0_i32_29 : BitVec 32 := 0#32
  let v48 : BitVec 1 := Scalar.cmpi .sgt v16 c0_i32_29
  let v49 : BitVec 32 := Scalar.extui v48
  let c0_i32_30 : BitVec 32 := 0#32
  let v50 : BitVec 1 := Scalar.cmpi .slt v16 c0_i32_30
  let v51 : BitVec 32 := Scalar.extui v50
  let v52 : BitVec 32 := Scalar.subi v49 v51
  let c71_i32_28 : BitVec 32 := 71#32
  let c0_i32_31 : BitVec 32 := 0#32
  let v53 : BitVec 1 := Scalar.cmpi .sgt c71_i32_28 c0_i32_31
  let v54 : BitVec 32 := Scalar.extui v53
  let c0_i32_32 : BitVec 32 := 0#32
  let v55 : BitVec 1 := Scalar.cmpi .slt c71_i32_28 c0_i32_32
  let v56 : BitVec 32 := Scalar.extui v55
  let v57 : BitVec 32 := Scalar.subi v54 v56
  let v58 : BitVec 1 := Scalar.cmpi .ne v52 v57
  let v59 : BitVec 32 := Scalar.remsi v16 c71_i32_28
  let c0_i32_33 : BitVec 32 := 0#32
  let v60 : BitVec 1 := Scalar.cmpi .ne v59 c0_i32_33
  let v61 : BitVec 1 := Scalar.andi v58 v60
  let v47 : BitVec 32 := Scalar.divsi v16 c71_i32_28
  let c1_i32_34 : BitVec 32 := 1#32
  let v62 : BitVec 32 := Scalar.subi v47 c1_i32_34
  let v63 : BitVec 32 := Scalar.select v61 v62 v47
  let c0_i32_35 : BitVec 32 := 0#32
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v16 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  let v65 : BitVec 32 := v64
  ![v63.toNat, 0, v65.toNat]
@[reducible] def k0_t2_loop : Scf.Loop 32 :=
  let c0_i32_39 : BitVec 32 := 0#32
  let c176_i32 : BitVec 32 := 176#32
  let v73 : BitVec 32 := Scalar.addi c0_i32_39 c176_i32
  let c1_i32_40 : BitVec 32 := 1#32
  ⟨c0_i32_39, v73, c1_i32_40⟩

def k0_chk1 (i : grid0.Coords) (v2 : IVec S16 32) (k0_t1 : Fin k0_t1_loop.trips) (v113 : IVec S16 32) : Prop :=
  (∀ (k0_h3 : k0_cond3 i k0_t1 = 1#1), ∀ a x, ((![v2, v113] : Fin 2 → IVec S16 32) a x).toNat < S16x1408.size a)
theorem k0_idx1_inb : ∀ (i : grid0.Coords) (v2 : IVec S16 32) (k0_t1 : Fin k0_t1_loop.trips) (v113 : IVec S16 32) (k0_hw1 : k0_chk1 i v2 k0_t1 v113), ∀ (k0_h3 : k0_cond3 i k0_t1 = 1#1), ∀ a x, ((![v2, v113] : Fin 2 → IVec S16 32) a x).toNat < S16x1408.size a := fun i v2 k0_t1 v113 k0_hw1 k0_h3 => k0_hw1 k0_h3

def k0_chk2 (i : grid0.Coords) (v2 : IVec S16 32) (k0_t1 : Fin k0_t1_loop.trips) (v116 : IVec S16 32) : Prop :=
  (∀ (k0_h3 : k0_cond3 i k0_t1 = 1#1), ∀ a x, ((![v2, v116] : Fin 2 → IVec S16 32) a x).toNat < S16x1408.size a)
theorem k0_idx2_inb : ∀ (i : grid0.Coords) (v2 : IVec S16 32) (k0_t1 : Fin k0_t1_loop.trips) (v116 : IVec S16 32) (k0_hw2 : k0_chk2 i v2 k0_t1 v116), ∀ (k0_h3 : k0_cond3 i k0_t1 = 1#1), ∀ a x, ((![v2, v116] : Fin 2 → IVec S16 32) a x).toNat < S16x1408.size a := fun i v2 k0_t1 v116 k0_hw2 k0_h3 => k0_hw2 k0_h3

def k0_chk3 (i : grid0.Coords) (v2 : IVec S16 32) (k0_t1 : Fin k0_t1_loop.trips) (v119 : IVec S16 32) : Prop :=
  (∀ (k0_h3 : k0_cond3 i k0_t1 = 1#1), ∀ a x, ((![v2, v119] : Fin 2 → IVec S16 32) a x).toNat < S16x1408.size a)
theorem k0_idx3_inb : ∀ (i : grid0.Coords) (v2 : IVec S16 32) (k0_t1 : Fin k0_t1_loop.trips) (v119 : IVec S16 32) (k0_hw3 : k0_chk3 i v2 k0_t1 v119), ∀ (k0_h3 : k0_cond3 i k0_t1 = 1#1), ∀ a x, ((![v2, v119] : Fin 2 → IVec S16 32) a x).toNat < S16x1408.size a := fun i v2 k0_t1 v119 k0_hw3 k0_h3 => k0_hw3 k0_h3

def k0_chk4 (i : grid0.Coords) (v2 : IVec S16 32) (k0_t1 : Fin k0_t1_loop.trips) (v122 : IVec S16 32) : Prop :=
  (∀ (k0_h3 : k0_cond3 i k0_t1 = 1#1), ∀ a x, ((![v2, v122] : Fin 2 → IVec S16 32) a x).toNat < S16x1408.size a)
theorem k0_idx4_inb : ∀ (i : grid0.Coords) (v2 : IVec S16 32) (k0_t1 : Fin k0_t1_loop.trips) (v122 : IVec S16 32) (k0_hw4 : k0_chk4 i v2 k0_t1 v122), ∀ (k0_h3 : k0_cond3 i k0_t1 = 1#1), ∀ a x, ((![v2, v122] : Fin 2 → IVec S16 32) a x).toNat < S16x1408.size a := fun i v2 k0_t1 v122 k0_hw4 k0_h3 => k0_hw4 k0_h3

def k0_chk5 (i : grid0.Coords) (v2 : IVec S16 32) (k0_t1 : Fin k0_t1_loop.trips) (v125 : IVec S16 32) : Prop :=
  (∀ (k0_h3 : k0_cond3 i k0_t1 = 1#1), ∀ a x, ((![v2, v125] : Fin 2 → IVec S16 32) a x).toNat < S16x1408.size a)
theorem k0_idx5_inb : ∀ (i : grid0.Coords) (v2 : IVec S16 32) (k0_t1 : Fin k0_t1_loop.trips) (v125 : IVec S16 32) (k0_hw5 : k0_chk5 i v2 k0_t1 v125), ∀ (k0_h3 : k0_cond3 i k0_t1 = 1#1), ∀ a x, ((![v2, v125] : Fin 2 → IVec S16 32) a x).toNat < S16x1408.size a := fun i v2 k0_t1 v125 k0_hw5 k0_h3 => k0_hw5 k0_h3

def k0_chk6 (i : grid0.Coords) (v2 : IVec S16 32) (k0_t1 : Fin k0_t1_loop.trips) (v128 : IVec S16 32) : Prop :=
  (∀ (k0_h3 : k0_cond3 i k0_t1 = 1#1), ∀ a x, ((![v2, v128] : Fin 2 → IVec S16 32) a x).toNat < S16x1408.size a)
theorem k0_idx6_inb : ∀ (i : grid0.Coords) (v2 : IVec S16 32) (k0_t1 : Fin k0_t1_loop.trips) (v128 : IVec S16 32) (k0_hw6 : k0_chk6 i v2 k0_t1 v128), ∀ (k0_h3 : k0_cond3 i k0_t1 = 1#1), ∀ a x, ((![v2, v128] : Fin 2 → IVec S16 32) a x).toNat < S16x1408.size a := fun i v2 k0_t1 v128 k0_hw6 k0_h3 => k0_hw6 k0_h3

def k0_chk7 (i : grid0.Coords) (v2 : IVec S16 32) (k0_t1 : Fin k0_t1_loop.trips) (v131 : IVec S16 32) : Prop :=
  (∀ (k0_h3 : k0_cond3 i k0_t1 = 1#1), ∀ a x, ((![v2, v131] : Fin 2 → IVec S16 32) a x).toNat < S16x1408.size a)
theorem k0_idx7_inb : ∀ (i : grid0.Coords) (v2 : IVec S16 32) (k0_t1 : Fin k0_t1_loop.trips) (v131 : IVec S16 32) (k0_hw7 : k0_chk7 i v2 k0_t1 v131), ∀ (k0_h3 : k0_cond3 i k0_t1 = 1#1), ∀ a x, ((![v2, v131] : Fin 2 → IVec S16 32) a x).toNat < S16x1408.size a := fun i v2 k0_t1 v131 k0_hw7 k0_h3 => k0_hw7 k0_h3

def k0_chk8 (i : grid0.Coords) (v2 : IVec S16 32) (k0_t1 : Fin k0_t1_loop.trips) (v134 : IVec S16 32) : Prop :=
  (∀ (k0_h3 : k0_cond3 i k0_t1 = 1#1), ∀ a x, ((![v2, v134] : Fin 2 → IVec S16 32) a x).toNat < S16x1408.size a)
theorem k0_idx8_inb : ∀ (i : grid0.Coords) (v2 : IVec S16 32) (k0_t1 : Fin k0_t1_loop.trips) (v134 : IVec S16 32) (k0_hw8 : k0_chk8 i v2 k0_t1 v134), ∀ (k0_h3 : k0_cond3 i k0_t1 = 1#1), ∀ a x, ((![v2, v134] : Fin 2 → IVec S16 32) a x).toNat < S16x1408.size a := fun i v2 k0_t1 v134 k0_hw8 k0_h3 => k0_hw8 k0_h3
def k0_off4 (k0_t2 : Fin k0_t2_loop.trips) (c0_i32_61 : BitVec 32) : Fin 1 → Nat :=
  let c0_i32_57 : BitVec 32 := 0#32
  let c0_i32_39 : BitVec 32 := 0#32
  let c1_i32_40 : BitVec 32 := 1#32
  let arg15 : BitVec 32 := Scf.iv c0_i32_39 c1_i32_40 k0_t2
  let c1_i32_56 : BitVec 32 := 1#32
  let v108 : BitVec 32 := Scalar.muli arg15 c1_i32_56
  let v109 : BitVec 32 := Scalar.addi c0_i32_57 v108
  let c128_i32 : BitVec 32 := 128#32
  let v136 : BitVec 32 := Scalar.muli v109 c128_i32
  let v137 : BitVec 32 := Scalar.addi v136 c0_i32_61
  let v138 : Index := Scalar.indexCast v137
  ![v138.toNat]
def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_8 : BitVec 32 := 2#32
  let c0_i32_1 : BitVec 32 := 0#32
  let c1_i32 : BitVec 32 := 1#32
  let arg14 : BitVec 32 := Scf.iv c0_i32_1 c1_i32 k0_t1
  let v14 : BitVec 32 := Scalar.muli c2_i32_8 arg14
  let c32_i32 : BitVec 32 := 32#32
  let v15 : BitVec 32 := Scalar.muli v14 c32_i32
  let v16 : BitVec 32 := Scalar.addi v1 v15
  let c71_i32_42 : BitVec 32 := 71#32
  let c0_i32_43 : BitVec 32 := 0#32
  let v74 : BitVec 1 := Scalar.cmpi .eq c71_i32_42 c0_i32_43
  let c1_i32_44 : BitVec 32 := 1#32
  let v75 : BitVec 32 := Scalar.select v74 c1_i32_44 c71_i32_42
  let v76 : BitVec 32 := Scalar.remsi v16 v75
  let c0_i32_46 : BitVec 32 := 0#32
  let v78 : BitVec 1 := Scalar.cmpi .slt v76 c0_i32_46
  let c0_i32_47 : BitVec 32 := 0#32
  let v79 : BitVec 1 := Scalar.cmpi .slt v75 c0_i32_47
  let v80 : BitVec 1 := Scalar.xori v78 v79
  let c0_i32_45 : BitVec 32 := 0#32
  let v77 : BitVec 1 := Scalar.cmpi .ne v76 c0_i32_45
  let v81 : BitVec 1 := Scalar.andi v80 v77
  let v82 : BitVec 32 := Scalar.addi v76 v75
  let v83 : BitVec 32 := Scalar.select v81 v82 v76
  let c1408_i32_55 : BitVec 32 := 1408#32
  let v101 : BitVec 32 := Scalar.muli v83 c1408_i32_55
  v101
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_8 : BitVec 32 := 2#32
  let c0_i32_1 : BitVec 32 := 0#32
  let c1_i32 : BitVec 32 := 1#32
  let arg14 : BitVec 32 := Scf.iv c0_i32_1 c1_i32 k0_t1
  let v14 : BitVec 32 := Scalar.muli c2_i32_8 arg14
  let c32_i32 : BitVec 32 := 32#32
  let v15 : BitVec 32 := Scalar.muli v14 c32_i32
  let v16 : BitVec 32 := Scalar.addi v1 v15
  let c0_i32_49 : BitVec 32 := 0#32
  let v85 : BitVec 1 := Scalar.cmpi .sgt v16 c0_i32_49
  let v86 : BitVec 32 := Scalar.extui v85
  let c0_i32_50 : BitVec 32 := 0#32
  let v87 : BitVec 1 := Scalar.cmpi .slt v16 c0_i32_50
  let v88 : BitVec 32 := Scalar.extui v87
  let v89 : BitVec 32 := Scalar.subi v86 v88
  let c71_i32_48 : BitVec 32 := 71#32
  let c0_i32_51 : BitVec 32 := 0#32
  let v90 : BitVec 1 := Scalar.cmpi .sgt c71_i32_48 c0_i32_51
  let v91 : BitVec 32 := Scalar.extui v90
  let c0_i32_52 : BitVec 32 := 0#32
  let v92 : BitVec 1 := Scalar.cmpi .slt c71_i32_48 c0_i32_52
  let v93 : BitVec 32 := Scalar.extui v92
  let v94 : BitVec 32 := Scalar.subi v91 v93
  let v95 : BitVec 1 := Scalar.cmpi .ne v89 v94
  let v96 : BitVec 32 := Scalar.remsi v16 c71_i32_48
  let c0_i32_53 : BitVec 32 := 0#32
  let v97 : BitVec 1 := Scalar.cmpi .ne v96 c0_i32_53
  let v98 : BitVec 1 := Scalar.andi v95 v97
  let v84 : BitVec 32 := Scalar.divsi v16 c71_i32_48
  let c1_i32_54 : BitVec 32 := 1#32
  let v99 : BitVec 32 := Scalar.subi v84 c1_i32_54
  let v100 : BitVec 32 := Scalar.select v98 v99 v84
  let c1600000_i32 : BitVec 32 := 1600000#32
  let v103 : BitVec 32 := Scalar.muli v100 c1600000_i32
  let c71_i32_42 : BitVec 32 := 71#32
  let c0_i32_43 : BitVec 32 := 0#32
  let v74 : BitVec 1 := Scalar.cmpi .eq c71_i32_42 c0_i32_43
  let c1_i32_44 : BitVec 32 := 1#32
  let v75 : BitVec 32 := Scalar.select v74 c1_i32_44 c71_i32_42
  let v76 : BitVec 32 := Scalar.remsi v16 v75
  let c0_i32_46 : BitVec 32 := 0#32
  let v78 : BitVec 1 := Scalar.cmpi .slt v76 c0_i32_46
  let c0_i32_47 : BitVec 32 := 0#32
  let v79 : BitVec 1 := Scalar.cmpi .slt v75 c0_i32_47
  let v80 : BitVec 1 := Scalar.xori v78 v79
  let c0_i32_45 : BitVec 32 := 0#32
  let v77 : BitVec 1 := Scalar.cmpi .ne v76 c0_i32_45
  let v81 : BitVec 1 := Scalar.andi v80 v77
  let v82 : BitVec 32 := Scalar.addi v76 v75
  let v83 : BitVec 32 := Scalar.select v81 v82 v76
  let c1408_i32_55 : BitVec 32 := 1408#32
  let v101 : BitVec 32 := Scalar.muli v83 c1408_i32_55
  let v102 : BitVec 32 := v101
  let c16_i32 : BitVec 32 := 16#32
  let v104 : BitVec 32 := Scalar.muli v102 c16_i32
  let v105 : BitVec 32 := Scalar.addi v103 v104
  ![v105.toNat]
def k0_cond5 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_1 : BitVec 32 := 0#32
  let c1_i32 : BitVec 32 := 1#32
  let arg14 : BitVec 32 := Scf.iv c0_i32_1 c1_i32 k0_t1
  let v21 : BitVec 32 := Scalar.muli c2_i32_12 arg14
  let c2_i32_13 : BitVec 32 := 2#32
  let v22 : BitVec 32 := Scalar.addi v21 c2_i32_13
  let c32_i32_14 : BitVec 32 := 32#32
  let v23 : BitVec 32 := Scalar.muli v22 c32_i32_14
  let v24 : BitVec 32 := Scalar.addi v1 v23
  let c1846_i32_19 : BitVec 32 := 1846#32
  let v31 : BitVec 1 := Scalar.cmpi .slt v24 c1846_i32_19
  let v32 : BitVec 32 := Scalar.extui v31
  let c0_i32_20 : BitVec 32 := 0#32
  let v33 : BitVec 1 := Scalar.cmpi .ne v32 c0_i32_20
  v33

def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_1 : BitVec 32 := 0#32
  let c1_i32 : BitVec 32 := 1#32
  let arg14 : BitVec 32 := Scf.iv c0_i32_1 c1_i32 k0_t1
  let v21 : BitVec 32 := Scalar.muli c2_i32_12 arg14
  let c2_i32_13 : BitVec 32 := 2#32
  let v22 : BitVec 32 := Scalar.addi v21 c2_i32_13
  let c32_i32_14 : BitVec 32 := 32#32
  let v23 : BitVec 32 := Scalar.muli v22 c32_i32_14
  let v24 : BitVec 32 := Scalar.addi v1 v23
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v24 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  v64
def k0_off6 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_1 : BitVec 32 := 0#32
  let c1_i32 : BitVec 32 := 1#32
  let arg14 : BitVec 32 := Scf.iv c0_i32_1 c1_i32 k0_t1
  let v21 : BitVec 32 := Scalar.muli c2_i32_12 arg14
  let c2_i32_13 : BitVec 32 := 2#32
  let v22 : BitVec 32 := Scalar.addi v21 c2_i32_13
  let c32_i32_14 : BitVec 32 := 32#32
  let v23 : BitVec 32 := Scalar.muli v22 c32_i32_14
  let v24 : BitVec 32 := Scalar.addi v1 v23
  let c0_i32_29 : BitVec 32 := 0#32
  let v48 : BitVec 1 := Scalar.cmpi .sgt v24 c0_i32_29
  let v49 : BitVec 32 := Scalar.extui v48
  let c0_i32_30 : BitVec 32 := 0#32
  let v50 : BitVec 1 := Scalar.cmpi .slt v24 c0_i32_30
  let v51 : BitVec 32 := Scalar.extui v50
  let v52 : BitVec 32 := Scalar.subi v49 v51
  let c71_i32_28 : BitVec 32 := 71#32
  let c0_i32_31 : BitVec 32 := 0#32
  let v53 : BitVec 1 := Scalar.cmpi .sgt c71_i32_28 c0_i32_31
  let v54 : BitVec 32 := Scalar.extui v53
  let c0_i32_32 : BitVec 32 := 0#32
  let v55 : BitVec 1 := Scalar.cmpi .slt c71_i32_28 c0_i32_32
  let v56 : BitVec 32 := Scalar.extui v55
  let v57 : BitVec 32 := Scalar.subi v54 v56
  let v58 : BitVec 1 := Scalar.cmpi .ne v52 v57
  let v59 : BitVec 32 := Scalar.remsi v24 c71_i32_28
  let c0_i32_33 : BitVec 32 := 0#32
  let v60 : BitVec 1 := Scalar.cmpi .ne v59 c0_i32_33
  let v61 : BitVec 1 := Scalar.andi v58 v60
  let v47 : BitVec 32 := Scalar.divsi v24 c71_i32_28
  let c1_i32_34 : BitVec 32 := 1#32
  let v62 : BitVec 32 := Scalar.subi v47 c1_i32_34
  let v63 : BitVec 32 := Scalar.select v61 v62 v47
  let c0_i32_35 : BitVec 32 := 0#32
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v24 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  let v65 : BitVec 32 := v64
  ![v63.toNat, 0, v65.toNat]
def k0_cond6 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c1846_i32_21 : BitVec 32 := 1846#32
  let v34 : BitVec 1 := Scalar.cmpi .slt v20 c1846_i32_21
  let v35 : BitVec 32 := Scalar.extui v34
  let c0_i32_22 : BitVec 32 := 0#32
  let v36 : BitVec 1 := Scalar.cmpi .ne v35 c0_i32_22
  v36

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v20 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  v64
def k0_off7 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c0_i32_29 : BitVec 32 := 0#32
  let v48 : BitVec 1 := Scalar.cmpi .sgt v20 c0_i32_29
  let v49 : BitVec 32 := Scalar.extui v48
  let c0_i32_30 : BitVec 32 := 0#32
  let v50 : BitVec 1 := Scalar.cmpi .slt v20 c0_i32_30
  let v51 : BitVec 32 := Scalar.extui v50
  let v52 : BitVec 32 := Scalar.subi v49 v51
  let c71_i32_28 : BitVec 32 := 71#32
  let c0_i32_31 : BitVec 32 := 0#32
  let v53 : BitVec 1 := Scalar.cmpi .sgt c71_i32_28 c0_i32_31
  let v54 : BitVec 32 := Scalar.extui v53
  let c0_i32_32 : BitVec 32 := 0#32
  let v55 : BitVec 1 := Scalar.cmpi .slt c71_i32_28 c0_i32_32
  let v56 : BitVec 32 := Scalar.extui v55
  let v57 : BitVec 32 := Scalar.subi v54 v56
  let v58 : BitVec 1 := Scalar.cmpi .ne v52 v57
  let v59 : BitVec 32 := Scalar.remsi v20 c71_i32_28
  let c0_i32_33 : BitVec 32 := 0#32
  let v60 : BitVec 1 := Scalar.cmpi .ne v59 c0_i32_33
  let v61 : BitVec 1 := Scalar.andi v58 v60
  let v47 : BitVec 32 := Scalar.divsi v20 c71_i32_28
  let c1_i32_34 : BitVec 32 := 1#32
  let v62 : BitVec 32 := Scalar.subi v47 c1_i32_34
  let v63 : BitVec 32 := Scalar.select v61 v62 v47
  let c0_i32_35 : BitVec 32 := 0#32
  let c71_i32 : BitVec 32 := 71#32
  let c0_i32_23 : BitVec 32 := 0#32
  let v37 : BitVec 1 := Scalar.cmpi .eq c71_i32 c0_i32_23
  let c1_i32_24 : BitVec 32 := 1#32
  let v38 : BitVec 32 := Scalar.select v37 c1_i32_24 c71_i32
  let v39 : BitVec 32 := Scalar.remsi v20 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1408_i32 : BitVec 32 := 1408#32
  let v64 : BitVec 32 := Scalar.muli v46 c1408_i32
  let v65 : BitVec 32 := v64
  ![v63.toNat, 0, v65.toNat]
@[reducible] def k0_t3_loop : Scf.Loop 32 :=
  let c0_i32_39 : BitVec 32 := 0#32
  let c176_i32 : BitVec 32 := 176#32
  let v73 : BitVec 32 := Scalar.addi c0_i32_39 c176_i32
  let c1_i32_40 : BitVec 32 := 1#32
  ⟨c0_i32_39, v73, c1_i32_40⟩

def k0_chk9 (i : grid0.Coords) (v2 : IVec S16 32) (k0_t1 : Fin k0_t1_loop.trips) (v113 : IVec S16 32) : Prop :=
  (∀ (k0_h6 : k0_cond6 i k0_t1 = 1#1), ∀ a x, ((![v2, v113] : Fin 2 → IVec S16 32) a x).toNat < S16x1408.size a)
theorem k0_idx9_inb : ∀ (i : grid0.Coords) (v2 : IVec S16 32) (k0_t1 : Fin k0_t1_loop.trips) (v113 : IVec S16 32) (k0_hw9 : k0_chk9 i v2 k0_t1 v113), ∀ (k0_h6 : k0_cond6 i k0_t1 = 1#1), ∀ a x, ((![v2, v113] : Fin 2 → IVec S16 32) a x).toNat < S16x1408.size a := fun i v2 k0_t1 v113 k0_hw9 k0_h6 => k0_hw9 k0_h6

def k0_chk10 (i : grid0.Coords) (v2 : IVec S16 32) (k0_t1 : Fin k0_t1_loop.trips) (v116 : IVec S16 32) : Prop :=
  (∀ (k0_h6 : k0_cond6 i k0_t1 = 1#1), ∀ a x, ((![v2, v116] : Fin 2 → IVec S16 32) a x).toNat < S16x1408.size a)
theorem k0_idx10_inb : ∀ (i : grid0.Coords) (v2 : IVec S16 32) (k0_t1 : Fin k0_t1_loop.trips) (v116 : IVec S16 32) (k0_hw10 : k0_chk10 i v2 k0_t1 v116), ∀ (k0_h6 : k0_cond6 i k0_t1 = 1#1), ∀ a x, ((![v2, v116] : Fin 2 → IVec S16 32) a x).toNat < S16x1408.size a := fun i v2 k0_t1 v116 k0_hw10 k0_h6 => k0_hw10 k0_h6

def k0_chk11 (i : grid0.Coords) (v2 : IVec S16 32) (k0_t1 : Fin k0_t1_loop.trips) (v119 : IVec S16 32) : Prop :=
  (∀ (k0_h6 : k0_cond6 i k0_t1 = 1#1), ∀ a x, ((![v2, v119] : Fin 2 → IVec S16 32) a x).toNat < S16x1408.size a)
theorem k0_idx11_inb : ∀ (i : grid0.Coords) (v2 : IVec S16 32) (k0_t1 : Fin k0_t1_loop.trips) (v119 : IVec S16 32) (k0_hw11 : k0_chk11 i v2 k0_t1 v119), ∀ (k0_h6 : k0_cond6 i k0_t1 = 1#1), ∀ a x, ((![v2, v119] : Fin 2 → IVec S16 32) a x).toNat < S16x1408.size a := fun i v2 k0_t1 v119 k0_hw11 k0_h6 => k0_hw11 k0_h6

def k0_chk12 (i : grid0.Coords) (v2 : IVec S16 32) (k0_t1 : Fin k0_t1_loop.trips) (v122 : IVec S16 32) : Prop :=
  (∀ (k0_h6 : k0_cond6 i k0_t1 = 1#1), ∀ a x, ((![v2, v122] : Fin 2 → IVec S16 32) a x).toNat < S16x1408.size a)
theorem k0_idx12_inb : ∀ (i : grid0.Coords) (v2 : IVec S16 32) (k0_t1 : Fin k0_t1_loop.trips) (v122 : IVec S16 32) (k0_hw12 : k0_chk12 i v2 k0_t1 v122), ∀ (k0_h6 : k0_cond6 i k0_t1 = 1#1), ∀ a x, ((![v2, v122] : Fin 2 → IVec S16 32) a x).toNat < S16x1408.size a := fun i v2 k0_t1 v122 k0_hw12 k0_h6 => k0_hw12 k0_h6

def k0_chk13 (i : grid0.Coords) (v2 : IVec S16 32) (k0_t1 : Fin k0_t1_loop.trips) (v125 : IVec S16 32) : Prop :=
  (∀ (k0_h6 : k0_cond6 i k0_t1 = 1#1), ∀ a x, ((![v2, v125] : Fin 2 → IVec S16 32) a x).toNat < S16x1408.size a)
theorem k0_idx13_inb : ∀ (i : grid0.Coords) (v2 : IVec S16 32) (k0_t1 : Fin k0_t1_loop.trips) (v125 : IVec S16 32) (k0_hw13 : k0_chk13 i v2 k0_t1 v125), ∀ (k0_h6 : k0_cond6 i k0_t1 = 1#1), ∀ a x, ((![v2, v125] : Fin 2 → IVec S16 32) a x).toNat < S16x1408.size a := fun i v2 k0_t1 v125 k0_hw13 k0_h6 => k0_hw13 k0_h6

def k0_chk14 (i : grid0.Coords) (v2 : IVec S16 32) (k0_t1 : Fin k0_t1_loop.trips) (v128 : IVec S16 32) : Prop :=
  (∀ (k0_h6 : k0_cond6 i k0_t1 = 1#1), ∀ a x, ((![v2, v128] : Fin 2 → IVec S16 32) a x).toNat < S16x1408.size a)
theorem k0_idx14_inb : ∀ (i : grid0.Coords) (v2 : IVec S16 32) (k0_t1 : Fin k0_t1_loop.trips) (v128 : IVec S16 32) (k0_hw14 : k0_chk14 i v2 k0_t1 v128), ∀ (k0_h6 : k0_cond6 i k0_t1 = 1#1), ∀ a x, ((![v2, v128] : Fin 2 → IVec S16 32) a x).toNat < S16x1408.size a := fun i v2 k0_t1 v128 k0_hw14 k0_h6 => k0_hw14 k0_h6

def k0_chk15 (i : grid0.Coords) (v2 : IVec S16 32) (k0_t1 : Fin k0_t1_loop.trips) (v131 : IVec S16 32) : Prop :=
  (∀ (k0_h6 : k0_cond6 i k0_t1 = 1#1), ∀ a x, ((![v2, v131] : Fin 2 → IVec S16 32) a x).toNat < S16x1408.size a)
theorem k0_idx15_inb : ∀ (i : grid0.Coords) (v2 : IVec S16 32) (k0_t1 : Fin k0_t1_loop.trips) (v131 : IVec S16 32) (k0_hw15 : k0_chk15 i v2 k0_t1 v131), ∀ (k0_h6 : k0_cond6 i k0_t1 = 1#1), ∀ a x, ((![v2, v131] : Fin 2 → IVec S16 32) a x).toNat < S16x1408.size a := fun i v2 k0_t1 v131 k0_hw15 k0_h6 => k0_hw15 k0_h6

def k0_chk16 (i : grid0.Coords) (v2 : IVec S16 32) (k0_t1 : Fin k0_t1_loop.trips) (v134 : IVec S16 32) : Prop :=
  (∀ (k0_h6 : k0_cond6 i k0_t1 = 1#1), ∀ a x, ((![v2, v134] : Fin 2 → IVec S16 32) a x).toNat < S16x1408.size a)
theorem k0_idx16_inb : ∀ (i : grid0.Coords) (v2 : IVec S16 32) (k0_t1 : Fin k0_t1_loop.trips) (v134 : IVec S16 32) (k0_hw16 : k0_chk16 i v2 k0_t1 v134), ∀ (k0_h6 : k0_cond6 i k0_t1 = 1#1), ∀ a x, ((![v2, v134] : Fin 2 → IVec S16 32) a x).toNat < S16x1408.size a := fun i v2 k0_t1 v134 k0_hw16 k0_h6 => k0_hw16 k0_h6
def k0_off8 (k0_t3 : Fin k0_t3_loop.trips) (c0_i32_61 : BitVec 32) : Fin 1 → Nat :=
  let c0_i32_57 : BitVec 32 := 0#32
  let c0_i32_39 : BitVec 32 := 0#32
  let c1_i32_40 : BitVec 32 := 1#32
  let arg15 : BitVec 32 := Scf.iv c0_i32_39 c1_i32_40 k0_t3
  let c1_i32_56 : BitVec 32 := 1#32
  let v108 : BitVec 32 := Scalar.muli arg15 c1_i32_56
  let v109 : BitVec 32 := Scalar.addi c0_i32_57 v108
  let c128_i32 : BitVec 32 := 128#32
  let v136 : BitVec 32 := Scalar.muli v109 c128_i32
  let v137 : BitVec 32 := Scalar.addi v136 c0_i32_61
  let v138 : Index := Scalar.indexCast v137
  ![v138.toNat]
def k0_mult7 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c71_i32_42 : BitVec 32 := 71#32
  let c0_i32_43 : BitVec 32 := 0#32
  let v74 : BitVec 1 := Scalar.cmpi .eq c71_i32_42 c0_i32_43
  let c1_i32_44 : BitVec 32 := 1#32
  let v75 : BitVec 32 := Scalar.select v74 c1_i32_44 c71_i32_42
  let v76 : BitVec 32 := Scalar.remsi v20 v75
  let c0_i32_46 : BitVec 32 := 0#32
  let v78 : BitVec 1 := Scalar.cmpi .slt v76 c0_i32_46
  let c0_i32_47 : BitVec 32 := 0#32
  let v79 : BitVec 1 := Scalar.cmpi .slt v75 c0_i32_47
  let v80 : BitVec 1 := Scalar.xori v78 v79
  let c0_i32_45 : BitVec 32 := 0#32
  let v77 : BitVec 1 := Scalar.cmpi .ne v76 c0_i32_45
  let v81 : BitVec 1 := Scalar.andi v80 v77
  let v82 : BitVec 32 := Scalar.addi v76 v75
  let v83 : BitVec 32 := Scalar.select v81 v82 v76
  let c1408_i32_55 : BitVec 32 := 1408#32
  let v101 : BitVec 32 := Scalar.muli v83 c1408_i32_55
  v101
def k0_off9 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_9 : BitVec 32 := 2#32
  let c0_i32_1 : BitVec 32 := 0#32
  let c1_i32 : BitVec 32 := 1#32
  let arg14 : BitVec 32 := Scf.iv c0_i32_1 c1_i32 k0_t1
  let v17 : BitVec 32 := Scalar.muli c2_i32_9 arg14
  let c1_i32_10 : BitVec 32 := 1#32
  let v18 : BitVec 32 := Scalar.addi v17 c1_i32_10
  let c32_i32_11 : BitVec 32 := 32#32
  let v19 : BitVec 32 := Scalar.muli v18 c32_i32_11
  let v20 : BitVec 32 := Scalar.addi v1 v19
  let c0_i32_49 : BitVec 32 := 0#32
  let v85 : BitVec 1 := Scalar.cmpi .sgt v20 c0_i32_49
  let v86 : BitVec 32 := Scalar.extui v85
  let c0_i32_50 : BitVec 32 := 0#32
  let v87 : BitVec 1 := Scalar.cmpi .slt v20 c0_i32_50
  let v88 : BitVec 32 := Scalar.extui v87
  let v89 : BitVec 32 := Scalar.subi v86 v88
  let c71_i32_48 : BitVec 32 := 71#32
  let c0_i32_51 : BitVec 32 := 0#32
  let v90 : BitVec 1 := Scalar.cmpi .sgt c71_i32_48 c0_i32_51
  let v91 : BitVec 32 := Scalar.extui v90
  let c0_i32_52 : BitVec 32 := 0#32
  let v92 : BitVec 1 := Scalar.cmpi .slt c71_i32_48 c0_i32_52
  let v93 : BitVec 32 := Scalar.extui v92
  let v94 : BitVec 32 := Scalar.subi v91 v93
  let v95 : BitVec 1 := Scalar.cmpi .ne v89 v94
  let v96 : BitVec 32 := Scalar.remsi v20 c71_i32_48
  let c0_i32_53 : BitVec 32 := 0#32
  let v97 : BitVec 1 := Scalar.cmpi .ne v96 c0_i32_53
  let v98 : BitVec 1 := Scalar.andi v95 v97
  let v84 : BitVec 32 := Scalar.divsi v20 c71_i32_48
  let c1_i32_54 : BitVec 32 := 1#32
  let v99 : BitVec 32 := Scalar.subi v84 c1_i32_54
  let v100 : BitVec 32 := Scalar.select v98 v99 v84
  let c1600000_i32 : BitVec 32 := 1600000#32
  let v103 : BitVec 32 := Scalar.muli v100 c1600000_i32
  let c71_i32_42 : BitVec 32 := 71#32
  let c0_i32_43 : BitVec 32 := 0#32
  let v74 : BitVec 1 := Scalar.cmpi .eq c71_i32_42 c0_i32_43
  let c1_i32_44 : BitVec 32 := 1#32
  let v75 : BitVec 32 := Scalar.select v74 c1_i32_44 c71_i32_42
  let v76 : BitVec 32 := Scalar.remsi v20 v75
  let c0_i32_46 : BitVec 32 := 0#32
  let v78 : BitVec 1 := Scalar.cmpi .slt v76 c0_i32_46
  let c0_i32_47 : BitVec 32 := 0#32
  let v79 : BitVec 1 := Scalar.cmpi .slt v75 c0_i32_47
  let v80 : BitVec 1 := Scalar.xori v78 v79
  let c0_i32_45 : BitVec 32 := 0#32
  let v77 : BitVec 1 := Scalar.cmpi .ne v76 c0_i32_45
  let v81 : BitVec 1 := Scalar.andi v80 v77
  let v82 : BitVec 32 := Scalar.addi v76 v75
  let v83 : BitVec 32 := Scalar.select v81 v82 v76
  let c1408_i32_55 : BitVec 32 := 1408#32
  let v101 : BitVec 32 := Scalar.muli v83 c1408_i32_55
  let v102 : BitVec 32 := v101
  let c16_i32 : BitVec 32 := 16#32
  let v104 : BitVec 32 := Scalar.muli v102 c16_i32
  let v105 : BitVec 32 := Scalar.addi v103 v104
  ![v105.toNat]
def k0_cond8 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v11 : BitVec 1 := Scalar.cmpi .slt v1 c26_i32
  let v12 : BitVec 32 := Scalar.extui v11
  let c0_i32_7 : BitVec 32 := 0#32
  let v13 : BitVec 1 := Scalar.cmpi .ne v12 c0_i32_7
  v13

def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v14 : BitVec 32 := Scalar.muli v1 c512_i32
  ![v14.toNat]
def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600000_i32 : BitVec 32 := 1600000#32
  let v15 : BitVec 32 := Scalar.muli v1 c1600000_i32
  let c1599488_i32 : BitVec 32 := 1599488#32
  let v16 : BitVec 32 := Scalar.addi v15 c1599488_i32
  ![v16.toNat]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  ![v2.toNat]
@[reducible] def k1_t1_loop : Scf.Loop 32 :=
  let c0_i32 : BitVec 32 := 0#32
  let c832_i32 : BitVec 32 := 832#32
  let v4 : BitVec 32 := Scalar.addi c0_i32 c832_i32
  let c1_i32 : BitVec 32 := 1#32
  ⟨c0_i32, v4, c1_i32⟩
def k1_off2 (k1_t1 : Fin k1_t1_loop.trips) : Fin 1 → Nat :=
  let c0_i32_43 : BitVec 32 := 0#32
  let c0_i32 : BitVec 32 := 0#32
  let c1_i32 : BitVec 32 := 1#32
  let arg12 : BitVec 32 := Scf.iv c0_i32 c1_i32 k1_t1
  let c1_i32_42 : BitVec 32 := 1#32
  let v41 : BitVec 32 := Scalar.muli arg12 c1_i32_42
  let v42 : BitVec 32 := Scalar.addi c0_i32_43 v41
  let c16_i32_55 : BitVec 32 := 16#32
  let v74 : BitVec 32 := Scalar.muli v42 c16_i32_55
  let v75 : Index := Scalar.indexCast v74
  ![v75.toNat]
def k1_off3 (i : grid1.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v11 : BitVec 32 := Scalar.addi v2 c0_i32_9
  let c0_i32_10 : BitVec 32 := 0#32
  ![v11.toNat, 0]
abbrev grid2 : Pipeline.Grid := ⟨2, ![3, 8], ![false, false]⟩

def k2_mult1 (i : grid2.Coords) : BitVec 32 :=
  let arg1 : BitVec 32 := BitVec.ofNat 32 (i 1).val
  let c2048_i32 : BitVec 32 := 2048#32
  let v0 : BitVec 32 := Scalar.muli arg1 c2048_i32
  v0
def k2_cond1 (i : grid2.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k2_off1 (i : grid2.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v28 : Index := Scalar.indexCast v1
  let c0_15 : Index := 0#32
  ![v28.toNat, 0]
def k2_cond4 (i : grid2.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k2_off2 (i : grid2.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v14 : Index := Scalar.indexCast v1
  let c0 : Index := 0#32
  ![v14.toNat, 0]
def k2_off3 (i : grid2.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v38 : Index := Scalar.indexCast v1
  let c0_17 : Index := 0#32
  ![v38.toNat, 0]
def k2_cond7 (i : grid2.Coords) : BitVec 1 :=
  let arg0 : BitVec 32 := BitVec.ofNat 32 (i 0).val
  let c2_i32 : BitVec 32 := 2#32
  let v8 : BitVec 1 := Scalar.cmpi .eq arg0 c2_i32
  let v9 : BitVec 32 := Scalar.extui v8
  let c0_i32_2 : BitVec 32 := 0#32
  let v10 : BitVec 1 := Scalar.cmpi .ne v9 c0_i32_2
  v10

def k2_off4 (i : grid2.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v11 : Index := Scalar.indexCast v1
  let c0 : Index := 0#32
  ![v11.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage2_0 : Fin 2 → Memref sig .tc .vmem S2048x416 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x13 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S416x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S13x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 2 → Memref sig .tc .vmem S2048x1 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![false, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x26 : Shape := ⟨2, ![16384, 26]⟩
abbrev S16384x13 : Shape := ⟨2, ![16384, 13]⟩
abbrev S26x100000x16 : Shape := ⟨3, ![26, 100000, 16]⟩
abbrev S128x429 : Shape := ⟨2, ![128, 429]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x416 : Shape := ⟨2, ![16384, 416]⟩
abbrev S16384x429 : Shape := ⟨2, ![16384, 429]⟩
abbrev S429x128 : Shape := ⟨2, ![429, 128]⟩
abbrev S16384x128 : Shape := ⟨2, ![16384, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩
abbrev S16384x1 : Shape := ⟨2, ![16384, 1]⟩
abbrev S1x1 : Shape := ⟨2, ![1, 1]⟩

abbrev nBuf : Space → Nat
  | .hbm => 145
  | .vmem => 0
  | .smem => 0
  | _ => 0

abbrev hbmTy0_0 (i : Nat) : BufTy := match i % 128 with
  | 0 => ⟨S16384x26, .i32⟩
  | 1 => ⟨S16384x13, .f32⟩
  | 2 => ⟨S26x100000x16, .f32⟩
  | 3 => ⟨S128x429, .f32⟩
  | 4 => ⟨S128, .f32⟩
  | 5 => ⟨S128, .f32⟩
  | 6 => ⟨S128, .f32⟩
  | 7 => ⟨S64x128, .f32⟩
  | 8 => ⟨S64, .f32⟩
  | 9 => ⟨S64, .f32⟩
  | 10 => ⟨S64, .f32⟩
  | 11 => ⟨S1x64, .f32⟩
  | 12 => ⟨S1, .f32⟩
  | 13 => ⟨S26, .i32⟩
  | 14 => ⟨S1x26, .i32⟩
  | 15 => ⟨S_, .i32⟩
  | 16 => ⟨S1x26, .i32⟩
  | 17 => ⟨S1x26, .i1⟩
  | 18 => ⟨S_, .i32⟩
  | 19 => ⟨S1x26, .i32⟩
  | 20 => ⟨S1x26, .i32⟩
  | 21 => ⟨S1x26, .i32⟩
  | 22 => ⟨S_, .i32⟩
  | 23 => ⟨S16384x26, .i32⟩
  | 24 => ⟨S16384x26, .i1⟩
  | 25 => ⟨S_, .i32⟩
  | 26 => ⟨S16384x26, .i32⟩
  | 27 => ⟨S16384x26, .i32⟩
  | 28 => ⟨S16384x26, .i32⟩
  | 29 => ⟨S16384x26, .i32⟩
  | 30 => ⟨S16384x26x1, .i32⟩
  | 31 => ⟨S16384x26x1, .i32⟩
  | 32 => ⟨S16384x26x2, .i32⟩
  | 33 => ⟨S16384x26x16, .f32⟩
  | 34 => ⟨S16384x416, .f32⟩
  | 35 => ⟨S16384x429, .f32⟩
  | 36 => ⟨S429x128, .f32⟩
  | 37 => ⟨S16384x128, .f32⟩
  | 38 => ⟨S1x128, .f32⟩
  | 39 => ⟨S16384x128, .f32⟩
  | 40 => ⟨S16384x128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S16384x128, .f32⟩
  | 54 => ⟨S16384x128, .f32⟩
  | 55 => ⟨S16384x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S1x128, .f32⟩
  | 70 => ⟨S16384x128, .f32⟩
  | 71 => ⟨S16384x128, .f32⟩
  | 72 => ⟨S_, .f32⟩
  | 73 => ⟨S128, .f32⟩
  | 74 => ⟨S128, .f32⟩
  | 75 => ⟨S128, .f32⟩
  | 76 => ⟨S1x128, .f32⟩
  | 77 => ⟨S16384x128, .f32⟩
  | 78 => ⟨S16384x128, .f32⟩
  | 79 => ⟨S1x128, .f32⟩
  | 80 => ⟨S16384x128, .f32⟩
  | 81 => ⟨S16384x128, .f32⟩
  | 82 => ⟨S1x128, .f32⟩
  | 83 => ⟨S16384x128, .f32⟩
  | 84 => ⟨S16384x128, .f32⟩
  | 85 => ⟨S_, .f32⟩
  | 86 => ⟨S16384x128, .f32⟩
  | 87 => ⟨S16384x128, .f32⟩
  | 88 => ⟨S128x64, .f32⟩
  | 89 => ⟨S16384x64, .f32⟩
  | 90 => ⟨S1x64, .f32⟩
  | 91 => ⟨S16384x64, .f32⟩
  | 92 => ⟨S16384x64, .f32⟩
  | 93 => ⟨S_, .f32⟩
  | 94 => ⟨S64, .f32⟩
  | 95 => ⟨S_, .f32⟩
  | 96 => ⟨S64, .f32⟩
  | 97 => ⟨S64, .f32⟩
  | 98 => ⟨S_, .i32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S16384x64, .f32⟩
  | 106 => ⟨S16384x64, .f32⟩
  | 107 => ⟨S16384x64, .f32⟩
  | 108 => ⟨S_, .f32⟩
  | 109 => ⟨S_, .f32⟩
  | 110 => ⟨S_, .f32⟩
  | 111 => ⟨S_, .f32⟩
  | 112 => ⟨S64, .f32⟩
  | 113 => ⟨S64, .f32⟩
  | 114 => ⟨S64, .f32⟩
  | 115 => ⟨S_, .f32⟩
  | 116 => ⟨S_, .i1⟩
  | 117 => ⟨S_, .f32⟩
  | 118 => ⟨S_, .f32⟩
  | 119 => ⟨S64, .f32⟩
  | 120 => ⟨S64, .f32⟩
  | 121 => ⟨S1x64, .f32⟩
  | 122 => ⟨S16384x64, .f32⟩
  | 123 => ⟨S16384x64, .f32⟩
  | 124 => ⟨S_, .f32⟩
  | 125 => ⟨S64, .f32⟩
  | 126 => ⟨S64, .f32⟩
  | 127 => ⟨S64, .f32⟩
  | _ => ⟨S16384x26, .i32⟩

abbrev hbmTy0_1 (i : Nat) : BufTy := match i % 128 with
  | 0 => ⟨S1x64, .f32⟩
  | 1 => ⟨S16384x64, .f32⟩
  | 2 => ⟨S16384x64, .f32⟩
  | 3 => ⟨S1x64, .f32⟩
  | 4 => ⟨S16384x64, .f32⟩
  | 5 => ⟨S16384x64, .f32⟩
  | 6 => ⟨S1x64, .f32⟩
  | 7 => ⟨S16384x64, .f32⟩
  | 8 => ⟨S16384x64, .f32⟩
  | 9 => ⟨S_, .f32⟩
  | 10 => ⟨S16384x64, .f32⟩
  | 11 => ⟨S16384x64, .f32⟩
  | 12 => ⟨S64x1, .f32⟩
  | 13 => ⟨S16384x1, .f32⟩
  | 14 => ⟨S1x1, .f32⟩
  | 15 => ⟨S16384x1, .f32⟩
  | 16 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_5 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_call1_cst : Ref sig .tc := ⟨.hbm, 85, rfl⟩
abbrev main_call1_v0 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_6 : Ref sig .tc := ⟨.hbm, 93, rfl⟩
abbrev main_v49 : Ref sig .tc := ⟨.hbm, 94, rfl⟩
abbrev main_cst_7 : Ref sig .tc := ⟨.hbm, 95, rfl⟩
abbrev main_v50 : Ref sig .tc := ⟨.hbm, 96, rfl⟩
abbrev main_v51 : Ref sig .tc := ⟨.hbm, 97, rfl⟩
abbrev main_c_8 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_cst_3 : Ref sig .tc := ⟨.hbm, 115, rfl⟩
abbrev main_call2_v12 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_call3_cst : Ref sig .tc := ⟨.hbm, 137, rfl⟩
abbrev main_call3_v0 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩

abbrev nD : Nat := 1
abbrev τ : Topo := Topo.v7x

variable {F : FTy → Type} [FloatOps F]
-- ==== Proof.Stats.lean ====
/-
  A normalized layer over a batch, two ways: with the variance as the mean of the squares less the square of the mean and
  one reciprocal root, or with the variance as the mean of the squared differences and a quotient by a root. On real
  entries the two agree.
-/
module

public import Idealize.ShloMosaic.PureOps.Ideal.Laws

@[expose] public section

noncomputable section

namespace Cert.Proof

open Idealize.ShloMosaic
open scoped BigOperators

/-- An extended real that is a real number. -/
def IsReal (x : EReal) : Prop := ∃ r : ℝ, x = (r : EReal)

namespace IsReal

theorem coe (r : ℝ) : IsReal (r : EReal) := ⟨r, rfl⟩

theorem add {x y : EReal} : IsReal x → IsReal y → IsReal (x + y)
  | ⟨a, ha⟩, ⟨b, hb⟩ => ⟨a + b, by rw [ha, hb, EReal.coe_add]⟩

theorem mul {x y : EReal} : IsReal x → IsReal y → IsReal (x * y)
  | ⟨a, ha⟩, ⟨b, hb⟩ => ⟨a * b, by rw [ha, hb, EReal.coe_mul]⟩

theorem sub {x y : EReal} : IsReal x → IsReal y → IsReal (x - y)
  | ⟨a, ha⟩, ⟨b, hb⟩ => ⟨a - b, by rw [ha, hb, EReal.coe_sub]⟩

theorem max_zero {x : EReal} : IsReal x → IsReal (max x 0)
  | ⟨a, ha⟩ => by
    rcases le_total x 0 with h | h
    · rw [max_eq_right h]; exact ⟨0, rfl⟩
    · rw [max_eq_left h]; exact ⟨a, ha⟩

theorem sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact add (h a) ih

end IsReal

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- One over the number of rows. -/
theorem inv_rows : Ideal.ofBits .f32 0x38800000#32 = ((1 / 16384 : ℝ) : EReal) := by
  simp [Ideal.ofBits, Ideal.ieee]
  norm_num
  rw [← EReal.coe_mul]
  congr 1
  norm_num

/-- The number of rows. -/
theorem rows : Ideal.ofBits .f32 0x46800000#32 = ((16384 : ℝ) : EReal) := by
  simp [Ideal.ofBits, Ideal.ieee]
  norm_num
  rw [← EReal.coe_mul]
  congr 1
  norm_num

/-- What is added to a variance is a positive real. -/
theorem eps_pos : ∃ e : ℝ, 0 < e ∧ Ideal.ofBits .f32 0x3727C5AC#32 = (e : EReal) := by
  refine ⟨(10995116 : ℝ) * 2 ^ (-40 : ℤ), by positivity, ?_⟩
  simp [Ideal.ofBits, Ideal.ieee]

variable (h : Fin 16384 → EReal) (g b : EReal)

def kMean : EReal := (∑ i, h i) * Ideal.ofBits .f32 0x38800000#32

def kRoot : EReal :=
  Ideal.rsqrt ((∑ i, h i * h i) * Ideal.ofBits .f32 0x38800000#32 - kMean h * kMean h + Ideal.ofBits .f32 0x3727C5AC#32)

/-- The first way. -/
def kNorm (i : Fin 16384) : EReal := (h i - kMean h) * (kRoot h * g) + b

def rMean : EReal := Ideal.div (∑ i, h i) (Ideal.ofBits .f32 0x46800000#32)

def rVar : EReal := Ideal.div (∑ i, (h i - rMean h) * (h i - rMean h)) (Ideal.ofBits .f32 0x46800000#32)

/-- The second way. -/
def rNorm (i : Fin 16384) : EReal :=
  Ideal.div (h i - rMean h) (Ideal.sqrt (rVar h + Ideal.ofBits .f32 0x3727C5AC#32)) * g + b

theorem div_real (x y : ℝ) (hy : y ≠ 0) : Ideal.div (x : EReal) (y : EReal) = ((x * y⁻¹ : ℝ) : EReal) := by
  unfold Ideal.div
  rw [if_neg (by rw [← EReal.coe_zero, EReal.coe_eq_coe_iff]; exact hy), ← EReal.coe_inv, EReal.coe_mul]

theorem rsqrt_real (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

theorem sqrt_real (x : ℝ) (hx : 0 < x) : Ideal.sqrt (x : EReal) = ((Real.sqrt x : ℝ) : EReal) := by
  show (if x < 0 then (⊥ : EReal) else ((Real.sqrt x : ℝ) : EReal)) = _
  rw [if_neg (not_lt.mpr hx.le)]

/-- The mean of the squared differences is the mean of the squares less the square of the mean. -/
theorem var_real (f : Fin 16384 → ℝ) (μ : ℝ) (hμ : μ = (∑ i, f i) * (1 / 16384)) :
    (∑ i, f i * f i) * (1 / 16384) - μ * μ = (∑ i, (f i - μ) * (f i - μ)) * (16384 : ℝ)⁻¹ := by
  have e : ∀ i, (f i - μ) * (f i - μ) = f i * f i - 2 * μ * f i + μ * μ := fun i => by ring
  simp only [e, Finset.sum_add_distrib, Finset.sum_sub_distrib, ← Finset.mul_sum, Finset.sum_const, Finset.card_univ, Fintype.card_fin, nsmul_eq_mul]
  have hs : (∑ i, f i) = μ * 16384 := by rw [hμ]; ring
  rw [hs]
  push_cast
  ring

section
variable {h}

/-- On real entries: the mean, the two divisors, both ways. -/
theorem norm_forms (hh : ∀ i, IsReal (h i)) : ∃ (f : Fin 16384 → ℝ) (μ s : ℝ), (∀ i, h i = (f i : EReal)) ∧ s ≠ 0 ∧ kMean h = (μ : EReal)
    ∧ kRoot h = ((s⁻¹ : ℝ) : EReal) ∧ rMean h = (μ : EReal) ∧ Ideal.sqrt (rVar h + Ideal.ofBits .f32 0x3727C5AC#32) = (s : EReal) := by
  choose f hf using hh
  obtain ⟨e, he, hE⟩ := eps_pos
  obtain rfl : h = fun i => (f i : EReal) := funext hf
  have hk : kMean (fun i => (f i : EReal)) = (((∑ i, f i) * (1 / 16384) : ℝ) : EReal) := by
    unfold kMean; rw [coe_sum, inv_rows, ← EReal.coe_mul]
  have hr : rMean (fun i => (f i : EReal)) = (((∑ i, f i) * (1 / 16384) : ℝ) : EReal) := by
    unfold rMean; rw [coe_sum, rows, div_real _ _ (by norm_num), one_div]
  generalize hμ : (∑ i, f i) * (1 / 16384 : ℝ) = μ at hk hr
  have hv := var_real f μ hμ.symm
  have hpos : 0 < (∑ i, (f i - μ) * (f i - μ)) * (16384 : ℝ)⁻¹ + e :=
    add_pos_of_nonneg_of_pos (mul_nonneg (Finset.sum_nonneg fun i _ => mul_self_nonneg _) (by norm_num)) he
  refine ⟨f, μ, Real.sqrt ((∑ i, (f i - μ) * (f i - μ)) * (16384 : ℝ)⁻¹ + e), fun _ => rfl, (Real.sqrt_pos.mpr hpos).ne', hk, ?_, hr, ?_⟩
  · unfold kRoot
    simp only [hk, ← EReal.coe_mul, coe_sum, inv_rows, hE, ← EReal.coe_sub, ← EReal.coe_add]
    rw [hv, rsqrt_real _ hpos]
  · unfold rVar
    simp only [hr, rows, hE, ← EReal.coe_sub, ← EReal.coe_mul, coe_sum]
    rw [div_real _ _ (by norm_num), ← EReal.coe_add, sqrt_real _ hpos]

theorem norm_eq (hh : ∀ i, IsReal (h i)) (i : Fin 16384) : kNorm h g b i = rNorm h g b i := by
  obtain ⟨f, μ, s, hf, hs, h1, h2, h3, h4⟩ := norm_forms hh
  unfold kNorm rNorm
  rw [h4, h1, h2, h3, hf, ← EReal.coe_sub, div_real _ _ hs, ← mul_assoc, ← EReal.coe_mul]

theorem norm_real (hh : ∀ i, IsReal (h i)) {g b : EReal} (hg : IsReal g) (hb : IsReal b) (i : Fin 16384) : IsReal (kNorm h g b i) := by
  obtain ⟨f, μ, s, hf, -, h1, h2, -, -⟩ := norm_forms hh
  unfold kNorm
  rw [h1, h2, hf]
  exact (((IsReal.coe _).sub (IsReal.coe _)).mul ((IsReal.coe _).mul hg)).add hb

end

/-- A sum over the rows, taken 2048 rows at a time. -/
theorem sum_bands {S : ℕ → EReal} (f : Fin 16384 → EReal) (h0 : S 0 = 0)
    (hs : ∀ k, S (k + 1) = S k + ∑ r : Fin 2048, f ⟨(2048 * k + r.val) % 16384, Nat.mod_lt _ (by decide)⟩) : S 8 = ∑ i, f i := by
  have H : ∀ k, S k = ∑ i ∈ Finset.range (2048 * k), f ⟨i % 16384, Nat.mod_lt _ (by decide)⟩ := by
    intro k
    induction k with
    | zero => rw [h0]; simp
    | succ k ih =>
      rw [hs, ih, Nat.mul_succ, Finset.sum_range_add, ← Fin.sum_univ_eq_sum_range (fun x => f ⟨(2048 * k + x) % 16384, Nat.mod_lt _ (by decide)⟩)]
  rw [H, show 2048 * 8 = 16384 from rfl, ← Fin.sum_univ_eq_sum_range (fun x => f ⟨x % 16384, Nat.mod_lt _ (by decide)⟩)]
  exact Finset.sum_congr rfl fun i _ => congrArg f (Fin.ext (Nat.mod_eq_of_lt i.isLt))

end Cert.Proof

end
-- ==== Proof.Finite.lean ====
/-
  What the preconditions say: every index names a row, and the float arguments' entries are real numbers.
-/
module

public import proofs.«01_k».proof.Proof.Stats
public import proofs.«01_k».proof.Proof.Gen.Pre_in_range
public import proofs.«01_k».proof.Proof.Gen.Pre_in_range_finite
public import Idealize.ShloMosaic.Lib.ReduceAll
public import Idealize.ShloMosaic.Lib.Pointwise.Index

@[expose] public section

set_option maxRecDepth 65536

noncomputable section

namespace Cert.Proof

open Idealize.ShloMosaic

/-- An index that is at least 0 and below 100000, both signed, names a row. -/
theorem lt_of_word (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

section
variable {F : FTy → Type} [FloatOps F]
open Cert.Pre_in_range

/-- Indices that satisfy the precondition name rows. -/
theorem lt_of_pre {a0 : IVec S16384x26 32} {a1 : FVec F S16384x13 .f32} {a2 : FVec F S26x100000x16 .f32} {a3 : FVec F S128x429 .f32} {a4 a5 a6 : FVec F S128 .f32}
    {a7 : FVec F S64x128 .f32} {a8 a9 a10 : FVec F S64 .f32} {a11 : FVec F S1x64 .f32} {a12 : FVec F S1 .f32}
    (h : Cert.Pre_in_range.fn (F := F) a0 a1 a2 a3 a4 a5 a6 a7 a8 a9 a10 a11 a12 = fun _ => 1#1) (i : S16384x26.Idx) : (a0 i).toNat < 100000 := by
  have e := congrFun h i
  simp only [Cert.Pre_in_range.fn, andi, cmpi, broadcastInDim, constantI] at e
  exact lt_of_word _ e

end

/-- A number whose size is below the infinity is real. -/
theorem real_of_lt (x : EReal) (e : Ideal.cmp .olt (max x (-x)) (Ideal.ofBits .f32 0x7F800000#32) = 1#1) : IsReal x := by
  have ofBool_eq_one (p : Bool) : (BitVec.ofBool p = 1#1) ↔ p = true := by cases p <;> decide
  have ht : Ideal.ofBits .f32 0x7F800000#32 = ⊤ := by simp [Ideal.ofBits, Ideal.ieee]
  have h : max x (-x) < ⊤ := by
    rw [ht] at e
    exact of_decide_eq_true ((ofBool_eq_one _).mp e)
  obtain ⟨h1, h2⟩ := max_lt_iff.mp h
  induction x using EReal.rec with
  | bot => simp at h2
  | coe r => exact ⟨r, rfl⟩
  | top => exact absurd h1 (lt_irrefl _)

section
open Cert.Pre_in_range_finite Facts

instance : Subsingleton S_.Idx := ⟨fun a b => funext fun k => k.elim0⟩

/-- An array all of whose entries are below the infinity in size has real entries. -/
theorem real_of_all {s : Shape} {axes : List (Fin s.rank)} (x : FVec Ideal s .f32) (hb : S_.BroadcastsInDim s (![] : Fin 0 → Fin s.rank)) (hr : s.ReducesTo axes S_) (hS : 0 < S_.numel)
    (e : Host.reduce IntOp.andi (cmpf .olt (Host.absf x) (broadcastInDim s ![] hb (constant S_ .f32 0x7F800000#32))) (constantI S_ 1 1#1) hr hS ix0 = 1#1) (i : s.Idx) :
    IsReal (x i) :=
  real_of_lt _ (Host.reduce_andi_all _ _ hr hS ix0 e i)

/-- The arguments that satisfy the value claim's precondition: rows named, entries real. -/
theorem finite_of_pre {a0 : IVec S16384x26 32} {a1 : FVec Ideal S16384x13 .f32} {a2 : FVec Ideal S26x100000x16 .f32} {a3 : FVec Ideal S128x429 .f32} {a4 a5 a6 : FVec Ideal S128 .f32}
    {a7 : FVec Ideal S64x128 .f32} {a8 a9 a10 : FVec Ideal S64 .f32} {a11 : FVec Ideal S1x64 .f32} {a12 : FVec Ideal S1 .f32}
    (h : Cert.Pre_in_range_finite.fn (F := Ideal) a0 a1 a2 a3 a4 a5 a6 a7 a8 a9 a10 a11 a12 = fun _ => 1#1) :
    (∀ i, (a0 i).toNat < 100000) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have e := congrFun h ix0
  dsimp only [fn, fn_part1, fn_part2, andi] at e
  simp only [IntOp.andi_eq_one] at e
  obtain ⟨⟨⟨⟨⟨⟨⟨⟨e0, e1⟩, e2⟩, e3⟩, e4⟩, e5⟩, e6⟩, e7⟩, e8⟩ := e
  exact ⟨fun i => lt_of_word _ (Host.reduce_andi_all _ _ _ _ ix0 e0 i), real_of_all _ _ _ _ e1, real_of_all _ _ _ _ e2, real_of_all _ _ _ _ e3, real_of_all _ _ _ _ e4,
    real_of_all _ _ _ _ e5, real_of_all _ _ _ _ e6, real_of_all _ _ _ _ e7, real_of_all _ _ _ _ e8⟩

end

end Cert.Proof

end
-- ==== Proof.Base.lean ====
/-
  The program as the SparseCore launch theorem sees it: its calls, its body table, the ghost algebra the proofs
  share (the handshakes' rounds, the TensorCore pipeline's rounds, the counters of the local copies), and the
  names of the arrays.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-! ## The calls and the body table -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 2) : (K (F := F)).nSub q = 16 := by fin_cases q <;> rfl
theorem nCore_eq (q : Fin 2) : (K (F := F)).nCore q = 2 := by fin_cases q <;> rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

/-- The handshakes' rounds. -/
abbrev UH : Type := URounds (GSem nD τ sig) ℕ
/-- The TensorCore pipeline's rounds. -/
abbrev UP : Type := URounds (GSem nD τ sig) Unit
/-- Both, beside the counters of the copies a thread waits for itself. -/
abbrev UU : Type := UH × (UP × Counters)

abbrev MM (F : FTy → Type) := MT nD τ sig (HIx 2) (Elt F) ℕ UU ℕ

abbrev EH : Emb UH (MM F) := embL

/-! ## Arrays -/

variable (m : (ℓ : Loc nD τ sig) → Buf (Elt F) ℓ)

/-- A tile's coordinates in call 0 and in call 1: its SparseCore, its subcore. -/
def coords (c : Fin 2) (s : Fin 16) : grid0.Coords :=
  fun | 0 => c | 1 => s | ⟨_ + 2, h⟩ => absurd h (Nat.not_lt.2 (Nat.le_add_left _ _))

/-- A tile's number among the 32: twice its subcore plus its SparseCore. -/
def wid (i : grid0.Coords) : Nat := 2 * (i 1).val + (i 0).val

theorem wid_lt (i : grid0.Coords) : wid i < 32 := by
  have h0 : (i 0).val < 2 := (i 0).isLt
  have h1 : (i 1).val < 16 := (i 1).isLt
  unfold wid; omega

end Cert.Proof
-- ==== Proof.RelayMath.lean ====
/-
  The relayout call's arithmetic, with no program in it: which unit a tile works on at each trip and where that
  unit lies in the table and in the flat result (the printed offsets, in closed form); which positions of the flat
  result each tile owns; what the flat result holds.
-/
module

public import proofs.«01_k».proof.Proof.Base

@[expose] public section

noncomputable section

namespace Cert.Proof

open Cert.KernelIdeal Cert.KernelIdeal.Gen
open Idealize.ShloMosaic

/-! ## The printed conditions and offsets -/

/-- The unit tile `i` works on first at trip `t`; the second is 32 further. -/
def u0 (i : grid0.Coords) (t : Nat) : Nat := wid i + 64 * t

/-- Where a unit's slab begins in the table. -/
def uoff3 (u : Nat) : Fin 3 → Nat := ![u / 71, 0, (u % 71) * 1408]
/-- Where a unit's block begins in the flat result. -/
def uoff1 (u : Nat) : Fin 1 → Nat := ![(u / 71) * 1600000 + (u % 71) * 22528]

theorem cond1 : ∀ i : grid0.Coords, k0_cond1 i = 1#1 := by decide +kernel
theorem cond3 : ∀ (i : grid0.Coords) (t : Fin k0_t1_loop.trips), k0_cond3 i t = 1#1 := by decide +kernel
theorem cond2 : ∀ (i : grid0.Coords) (t : Fin k0_t1_loop.trips), k0_cond2 i t = 1#1 ↔ 2 * (i 1).val + (i 0).val + 64 * t.val + 32 < 1846 := by decide +kernel
theorem cond6 : ∀ (i : grid0.Coords) (t : Fin k0_t1_loop.trips), k0_cond6 i t = 1#1 ↔ 2 * (i 1).val + (i 0).val + 64 * t.val + 32 < 1846 := by decide +kernel
theorem cond5 : ∀ (i : grid0.Coords) (t : Fin k0_t1_loop.trips), k0_cond5 i t = 1#1 ↔ 2 * (i 1).val + (i 0).val + 64 * t.val + 64 < 1846 := by decide +kernel
theorem cond8 : ∀ i : grid0.Coords, k0_cond8 i = 1#1 ↔ 2 * (i 1).val + (i 0).val < 26 := by decide +kernel

theorem off1_eq : ∀ i : grid0.Coords, k0_off1 i = ![(2 * (i 1).val + (i 0).val) / 71, 0, ((2 * (i 1).val + (i 0).val) % 71) * 1408] := by decide +kernel
theorem off3_eq : ∀ (i : grid0.Coords) (t : Fin k0_t1_loop.trips), k0_off3 i t
    = ![(2 * (i 1).val + (i 0).val + 64 * t.val) / 71, 0, ((2 * (i 1).val + (i 0).val + 64 * t.val) % 71) * 1408] := by decide +kernel
theorem off5_eq : ∀ (i : grid0.Coords) (t : Fin k0_t1_loop.trips), k0_off5 i t
    = ![(2 * (i 1).val + (i 0).val + 64 * t.val) / 71 * 1600000 + ((2 * (i 1).val + (i 0).val + 64 * t.val) % 71) * 22528] := by decide +kernel
theorem off2_eq : ∀ (i : grid0.Coords) (t : Fin k0_t1_loop.trips), k0_cond2 i t = 1#1 → k0_off2 i t
    = ![(2 * (i 1).val + (i 0).val + 64 * t.val + 32) / 71, 0, ((2 * (i 1).val + (i 0).val + 64 * t.val + 32) % 71) * 1408] := by decide +kernel
theorem off7_eq : ∀ (i : grid0.Coords) (t : Fin k0_t1_loop.trips), k0_cond6 i t = 1#1 → k0_off7 i t
    = ![(2 * (i 1).val + (i 0).val + 64 * t.val + 32) / 71, 0, ((2 * (i 1).val + (i 0).val + 64 * t.val + 32) % 71) * 1408] := by decide +kernel
theorem off9_eq : ∀ (i : grid0.Coords) (t : Fin k0_t1_loop.trips), k0_cond6 i t = 1#1 → k0_off9 i t
    = ![(2 * (i 1).val + (i 0).val + 64 * t.val + 32) / 71 * 1600000 + ((2 * (i 1).val + (i 0).val + 64 * t.val + 32) % 71) * 22528] := by decide +kernel
theorem off6_eq : ∀ (i : grid0.Coords) (t : Fin k0_t1_loop.trips), k0_cond5 i t = 1#1 → k0_off6 i t
    = ![(2 * (i 1).val + (i 0).val + 64 * t.val + 64) / 71, 0, ((2 * (i 1).val + (i 0).val + 64 * t.val + 64) % 71) * 1408] := by decide +kernel

end Cert.Proof
-- ==== Proof.RelayInner.lean ====
/-
  The relayout call's inner loop: one trip moves sixteen-lane vectors, each a column of the slab, into the stage.
-/
module

public import proofs.«01_k».proof.Proof.RelayMath

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

set_option maxRecDepth 65536

/-- Tile `i`'s thread in call 0. -/
abbrev thr0 (d : Dev nD) (i : grid0.Coords) : Thread nD τ := V d ((i 0).castLE hcore0) ((i 1).castLE hsub0)

theorem pay11_lane : ∀ (t : Fin k0_t3_loop.trips) (x : S16.Idx), (k0_pay11 0#32 1#32 t x).toNat = 8 * t.val + 0 := by decide +kernel
theorem pay2_lane : ∀ (t : Fin k0_t2_loop.trips) (x : S16.Idx), (k0_pay2 0#32 1#32 t x).toNat = 8 * t.val + 0 := by decide +kernel
theorem pay12_lane : ∀ (t : Fin k0_t3_loop.trips) (x : S16.Idx), (k0_pay12 0#32 1#32 t x).toNat = 8 * t.val + 1 := by decide +kernel
theorem pay3_lane : ∀ (t : Fin k0_t2_loop.trips) (x : S16.Idx), (k0_pay3 0#32 1#32 t x).toNat = 8 * t.val + 1 := by decide +kernel
theorem pay13_lane : ∀ (t : Fin k0_t3_loop.trips) (x : S16.Idx), (k0_pay13 0#32 1#32 t x).toNat = 8 * t.val + 2 := by decide +kernel
theorem pay4_lane : ∀ (t : Fin k0_t2_loop.trips) (x : S16.Idx), (k0_pay4 0#32 1#32 t x).toNat = 8 * t.val + 2 := by decide +kernel
theorem pay14_lane : ∀ (t : Fin k0_t3_loop.trips) (x : S16.Idx), (k0_pay14 0#32 1#32 t x).toNat = 8 * t.val + 3 := by decide +kernel
theorem pay5_lane : ∀ (t : Fin k0_t2_loop.trips) (x : S16.Idx), (k0_pay5 0#32 1#32 t x).toNat = 8 * t.val + 3 := by decide +kernel
theorem pay15_lane : ∀ (t : Fin k0_t3_loop.trips) (x : S16.Idx), (k0_pay15 0#32 1#32 t x).toNat = 8 * t.val + 4 := by decide +kernel
theorem pay6_lane : ∀ (t : Fin k0_t2_loop.trips) (x : S16.Idx), (k0_pay6 0#32 1#32 t x).toNat = 8 * t.val + 4 := by decide +kernel
theorem pay16_lane : ∀ (t : Fin k0_t3_loop.trips) (x : S16.Idx), (k0_pay16 0#32 1#32 t x).toNat = 8 * t.val + 5 := by decide +kernel
theorem pay7_lane : ∀ (t : Fin k0_t2_loop.trips) (x : S16.Idx), (k0_pay7 0#32 1#32 t x).toNat = 8 * t.val + 5 := by decide +kernel
theorem pay17_lane : ∀ (t : Fin k0_t3_loop.trips) (x : S16.Idx), (k0_pay17 0#32 1#32 t x).toNat = 8 * t.val + 6 := by decide +kernel
theorem pay8_lane : ∀ (t : Fin k0_t2_loop.trips) (x : S16.Idx), (k0_pay8 0#32 1#32 t x).toNat = 8 * t.val + 6 := by decide +kernel
theorem pay18_lane : ∀ (t : Fin k0_t3_loop.trips) (x : S16.Idx), (k0_pay18 0#32 1#32 t x).toNat = 8 * t.val + 7 := by decide +kernel
theorem pay9_lane : ∀ (t : Fin k0_t2_loop.trips) (x : S16.Idx), (k0_pay9 0#32 1#32 t x).toNat = 8 * t.val + 7 := by decide +kernel

/-- The row a lane reads: its own number. -/
theorem iota_lane : ∀ x : S16.Idx, ((iota .scVector S16 32 [0] iota_S16_d0_w32_scVector) x).toNat = (x 0).val := by decide +kernel

theorem t2_trips : k0_t2_loop.trips = 176 := by decide +kernel

/-- What the stage holds once a slab is moved: position `q` holds row `q % 16`, column `q / 16`. -/
def stg (g : S16x1408.Idx → Elt F .f32) : S22528.Idx → Elt F .f32 := fun q =>
  g (ix2 ⟨(q 0).val % 16, Nat.mod_lt _ (by decide)⟩ ⟨(q 0).val / 16, by have h : (q 0).val < 22528 := (q 0).isLt; omega⟩)

/-- The slab's lanes at column `8 t + k`, in bounds. -/
theorem chk_of (t : Fin k0_t2_loop.trips) (k : Fin 8) (v : IVec S16 32) (hv : ∀ x, (v x).toNat = 8 * t.val + k.val) :
    ∀ a x, ((![iota .scVector S16 32 [0] iota_S16_d0_w32_scVector, v] : Fin 2 → IVec S16 32) a x).toNat < S16x1408.size a := by
  have ht : t.val < 176 := t2_trips ▸ t.isLt
  intro a x
  fin_cases a
  · show ((iota .scVector S16 32 [0] iota_S16_d0_w32_scVector) x).toNat < 16
    rw [iota_lane]; exact (x 0).isLt
  · show (v x).toNat < 1408
    rw [hv]; have := k.isLt; omega

/-- The vector loaded at column `8 t + k` is what the stage holds in the sixteen positions from `128 t + 16 k`. -/
theorem load_eq (g g' : S16x1408.Idx → Elt F .f32) (hg : g' = g) (t : Fin k0_t2_loop.trips) (k : Fin 8) (v : IVec S16 32)
    (hv : ∀ x, (v x).toNat = 8 * t.val + k.val) (h) (off : Fin 1 → Nat) (hoff : off = ![128 * t.val + 16 * k.val]) (inb)
    (x : S16.Idx) :
    loadIdx (F := F) (s := S16x1408) (e := .f32) g' (![iota .scVector S16 32 [0] iota_S16_d0_w32_scVector, v] : Fin 2 → IVec S16 32) h x
      = stg g ((Rect.unit (s := S22528) off S16.size inb).emb x) := by
  rw [hg]; subst hoff
  have ht : t.val < 176 := t2_trips ▸ t.isLt
  have hx : (x 0).val < 16 := (x 0).isLt
  have hk := k.isLt
  unfold loadIdx stg
  congr 1
  have he : (((Rect.unit (s := S22528) ![128 * t.val + 16 * k.val] S16.size inb).emb x) 0).val = 128 * t.val + 16 * k.val + 1 * (x 0).val := rfl
  funext a
  apply Fin.ext
  fin_cases a
  · show ((iota .scVector S16 32 [0] iota_S16_d0_w32_scVector) x).toNat
      = (((Rect.unit (s := S22528) ![128 * t.val + 16 * k.val] S16.size inb).emb x) 0).val % 16
    rw [iota_lane, he]; omega
  · show (v x).toNat = (((Rect.unit (s := S22528) ![128 * t.val + 16 * k.val] S16.size inb).emb x) 0).val / 16
    rw [hv, he]; omega

/-- A position lies under one of a trip's stores. -/
theorem mem_store (t k : Nat) (off : Fin 1 → Nat) (hoff : off = ![128 * t + 16 * k]) (inb) (q : S22528.Idx)
    (h : 128 * t + 16 * k ≤ (q 0).val ∧ (q 0).val < 128 * t + 16 * k + 16) :
    q ∈ (Rect.unit (s := S22528) off S16.size inb).set := by
  subst hoff
  rw [Rect.mem_set_unit]
  intro a
  have ha : a = 0 := Fin.eq_zero a
  subst ha
  exact h

/-- A list of stores each holding what `G` says there: a position that is under one of them, or that already held
    what `G` says, holds it afterwards. -/
theorem writes_agree {κ : Kind} {sp : Space} {s : Shape} {e : EltTy} (v : View sig κ sp s e) (f : v.ty.Contents (Elt F)) (G : s.Idx → Elt F e)
    (L : List (View.Piece (Elt F) s e)) (hL : ∀ p ∈ L, ∀ x : p.1.shape.Idx, p.2 x = G (p.1.emb x)) (y : s.Idx)
    (h : (∃ p ∈ L, y ∈ p.1.set) ∨ v.read (Elt F) f y = G y) : v.read (Elt F) (v.writes (Elt F) f L) y = G y := by
  by_cases hy : ∃ p ∈ L, y ∈ p.1.set
  · exact View.read_writes_apply_of_pieces v f G L hL y hy
  · rw [View.read_writes_apply_of_forall_not_mem v f y L (fun p hp hm => hy ⟨p, hp, hm⟩)]
    exact h.resolve_left hy

/-- One trip of the first inner loop: the stage's next 128 positions hold the slab's next eight columns, the positions
    before them what they held. -/
theorem t2_trip (d : Dev nD) (i : grid0.Coords) (t1 : Fin k0_t1_loop.trips) (h3 : k0_cond3 i t1 = 1#1) (t2 : Fin k0_t2_loop.trips)
    (g : S16x1408.Idx → Elt F .f32) (f : S22528.Idx → Elt F .f32) (hf : ∀ q, (q 0).val < 128 * t2.val → f q = stg g q) :
    (iprop(((Memref.whole cc0_scratch0 : Memref sig .scVector .vmem S16x1408 .f32).view.loc (thr0 d i) ↦{fullShare} g)
      ∗ ((Memref.whole cc0_scratch2 : Memref sig .scVector .vmem S22528 .f32).view.loc (thr0 d i) ↦{fullShare} f)) : sProp (MM F))
    ⊢ wp frame (wpE (defs₀ (F := F)) 𝒱₀ (thr0 d i) none) Set.univ
      (k0_t2_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1
        (iota .scVector S16 32 [0] iota_S16_d0_w32_scVector) t1 h3 0#32 1#32 t2 ())
      fun _ => iprop(((Memref.whole cc0_scratch0 : Memref sig .scVector .vmem S16x1408 .f32).view.loc (thr0 d i) ↦{fullShare} g)
        ∗ ∃ f' : S22528.Idx → Elt F .f32, ⌜∀ q, (q 0).val < 128 * (t2.val + 1) → f' q = stg g q⌝
          ∗ ((Memref.whole cc0_scratch2 : Memref sig .scVector .vmem S22528 .f32).view.loc (thr0 d i) ↦{fullShare} f')) := by
  unfold k0_t2_body
  rw [k0_part1_eq_skeleton]; unfold k0_part1_skel
  simp only [Prog.lift, Prog.bind_op, Prog.bind_ret, Prog.bind_assoc, Prog.pure_eq_ret]
  iintro ⟨Hg, Hf⟩
  rw [wp_assume_of _ _ _ _ (show k0_chk1 i (iota .scVector S16 32 [0] iota_S16_d0_w32_scVector) t1 (k0_pay2 0#32 1#32 t2) from fun _ => chk_of t2 0 _ (pay2_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk2 i (iota .scVector S16 32 [0] iota_S16_d0_w32_scVector) t1 (k0_pay3 0#32 1#32 t2) from fun _ => chk_of t2 1 _ (pay3_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk3 i (iota .scVector S16 32 [0] iota_S16_d0_w32_scVector) t1 (k0_pay4 0#32 1#32 t2) from fun _ => chk_of t2 2 _ (pay4_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk4 i (iota .scVector S16 32 [0] iota_S16_d0_w32_scVector) t1 (k0_pay5 0#32 1#32 t2) from fun _ => chk_of t2 3 _ (pay5_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk5 i (iota .scVector S16 32 [0] iota_S16_d0_w32_scVector) t1 (k0_pay6 0#32 1#32 t2) from fun _ => chk_of t2 4 _ (pay6_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk6 i (iota .scVector S16 32 [0] iota_S16_d0_w32_scVector) t1 (k0_pay7 0#32 1#32 t2) from fun _ => chk_of t2 5 _ (pay7_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk7 i (iota .scVector S16 32 [0] iota_S16_d0_w32_scVector) t1 (k0_pay8 0#32 1#32 t2) from fun _ => chk_of t2 6 _ (pay8_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  rw [wp_assume_of _ _ _ _ (show k0_chk8 i (iota .scVector S16 32 [0] iota_S16_d0_w32_scVector) t1 (k0_pay9 0#32 1#32 t2) from fun _ => chk_of t2 7 _ (pay9_lane t2))]
  iapply (SparseCore.wp_vectorLoadIdx 𝒱₀ (thr0 d i) none Set.univ (base := (Memref.whole cc0_scratch0 : Memref sig .scVector .vmem S16x1408 .f32)) (S := Finset.univ) (q := fullShare) (f := g) (Finset.subset_univ _)) $$ Hg; iintro Hg
  iapply (wp_load 𝒱₀ (thr0 d i) none Set.univ (m := (Memref.whole cc0_scratch2 : Memref sig .scVector .vmem S22528 .f32)) (S := Finset.univ) (Finset.subset_univ _)) $$ Hf; iintro Hf
  iapply (wp_store_writes₀ 𝒱₀ (thr0 d i) none Set.univ (m := (Memref.whole cc0_scratch2 : Memref sig .scVector .vmem S22528 .f32)) (r := Rect.unit (s := S22528) (k0_off4 t2 0#32) S16.size (k0_off4_inb i t1 t2 h3 0)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 16#32) S16.size (k0_off4_inb i t1 t2 h3 1)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 32#32) S16.size (k0_off4_inb i t1 t2 h3 2)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 48#32) S16.size (k0_off4_inb i t1 t2 h3 3)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 64#32) S16.size (k0_off4_inb i t1 t2 h3 4)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 80#32) S16.size (k0_off4_inb i t1 t2 h3 5)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 96#32) S16.size (k0_off4_inb i t1 t2 h3 6)) (S := Finset.univ) (f := f) (Finset.subset_univ _)) $$ Hf; iintro Hf
  iapply (wp_load 𝒱₀ (thr0 d i) none Set.univ (m := (Memref.whole cc0_scratch2 : Memref sig .scVector .vmem S22528 .f32)) (S := Finset.univ) (Finset.subset_univ _)) $$ Hf; iintro Hf
  iapply (wp_store_writes 𝒱₀ (thr0 d i) none Set.univ (m := (Memref.whole cc0_scratch2 : Memref sig .scVector .vmem S22528 .f32)) (r := Rect.unit (s := S22528) (k0_off4 t2 112#32) S16.size (k0_off4_inb i t1 t2 h3 7)) (S := Finset.univ) (f := f) (Finset.subset_univ _)) $$ Hf; iintro Hf
  rw [wp_ret]
  isplitl [Hg]; · iexact Hg
  iexists _
  isplitr
  rotate_left
  · iexact Hf
  ipureintro
  intro q hq
  generalize hw : View.writes _ _ _ _ = w
  rw [← show (Memref.whole cc0_scratch2 : Memref sig .scVector .vmem S22528 .f32).view.read (Elt F) w q = w q from rfl, ← hw]
  refine writes_agree (Memref.whole cc0_scratch2 : Memref sig .scVector .vmem S22528 .f32).view f (stg g) _ ?_ q ?_
  · intro p hp
    simp only [List.mem_cons, List.not_mem_nil, or_false] at hp
    rcases hp with rfl | rfl | rfl | rfl | rfl | rfl | rfl | rfl
    · intro x; exact load_eq g _ (Memref.read_access_whole (Elt F) cc0_scratch0 g) t2 7 _ (pay9_lane t2) _ (k0_off4 t2 112#32) (k0_off4_eq t2 7) (k0_off4_inb i t1 t2 h3 7) x
    · intro x; exact load_eq g _ (Memref.read_access_whole (Elt F) cc0_scratch0 g) t2 6 _ (pay8_lane t2) _ (k0_off4 t2 96#32) (k0_off4_eq t2 6) (k0_off4_inb i t1 t2 h3 6) x
    · intro x; exact load_eq g _ (Memref.read_access_whole (Elt F) cc0_scratch0 g) t2 5 _ (pay7_lane t2) _ (k0_off4 t2 80#32) (k0_off4_eq t2 5) (k0_off4_inb i t1 t2 h3 5) x
    · intro x; exact load_eq g _ (Memref.read_access_whole (Elt F) cc0_scratch0 g) t2 4 _ (pay6_lane t2) _ (k0_off4 t2 64#32) (k0_off4_eq t2 4) (k0_off4_inb i t1 t2 h3 4) x
    · intro x; exact load_eq g _ (Memref.read_access_whole (Elt F) cc0_scratch0 g) t2 3 _ (pay5_lane t2) _ (k0_off4 t2 48#32) (k0_off4_eq t2 3) (k0_off4_inb i t1 t2 h3 3) x
    · intro x; exact load_eq g _ (Memref.read_access_whole (Elt F) cc0_scratch0 g) t2 2 _ (pay4_lane t2) _ (k0_off4 t2 32#32) (k0_off4_eq t2 2) (k0_off4_inb i t1 t2 h3 2) x
    · intro x; exact load_eq g _ (Memref.read_access_whole (Elt F) cc0_scratch0 g) t2 1 _ (pay3_lane t2) _ (k0_off4 t2 16#32) (k0_off4_eq t2 1) (k0_off4_inb i t1 t2 h3 1) x
    · intro x; exact load_eq g _ (Memref.read_access_whole (Elt F) cc0_scratch0 g) t2 0 _ (pay2_lane t2) _ (k0_off4 t2 0#32) (k0_off4_eq t2 0) (k0_off4_inb i t1 t2 h3 0) x
  · by_cases h : (q 0).val < 128 * t2.val
    · exact .inr (hf q h)
    · left
      by_cases hk7 : 128 * t2.val + 16 * 7 ≤ (q 0).val
      · exact ⟨_, List.mem_cons_self, mem_store t2.val 7 (k0_off4 t2 112#32) (k0_off4_eq t2 7) (k0_off4_inb i t1 t2 h3 7) q ⟨hk7, by omega⟩⟩
      by_cases hk6 : 128 * t2.val + 16 * 6 ≤ (q 0).val
      · exact ⟨_, (List.mem_cons_of_mem _ (List.mem_cons_self)), mem_store t2.val 6 (k0_off4 t2 96#32) (k0_off4_eq t2 6) (k0_off4_inb i t1 t2 h3 6) q ⟨hk6, by omega⟩⟩
      by_cases hk5 : 128 * t2.val + 16 * 5 ≤ (q 0).val
      · exact ⟨_, (List.mem_cons_of_mem _ (List.mem_cons_of_mem _ (List.mem_cons_self))), mem_store t2.val 5 (k0_off4 t2 80#32) (k0_off4_eq t2 5) (k0_off4_inb i t1 t2 h3 5) q ⟨hk5, by omega⟩⟩
      by_cases hk4 : 128 * t2.val + 16 * 4 ≤ (q 0).val
      · exact ⟨_, (List.mem_cons_of_mem _ (List.mem_cons_of_mem _ (List.mem_cons_of_mem _ (List.mem_cons_self)))), mem_store t2.val 4 (k0_off4 t2 64#32) (k0_off4_eq t2 4) (k0_off4_inb i t1 t2 h3 4) q ⟨hk4, by omega⟩⟩
      by_cases hk3 : 128 * t2.val + 16 * 3 ≤ (q 0).val
      · exact ⟨_, (List.mem_cons_of_mem _ (List.mem_cons_of_mem _ (List.mem_cons_of_mem _ (List.mem_cons_of_mem _ (List.mem_cons_self))))), mem_store t2.val 3 (k0_off4 t2 48#32) (k0_off4_eq t2 3) (k0_off4_inb i t1 t2 h3 3) q ⟨hk3, by omega⟩⟩
      by_cases hk2 : 128 * t2.val + 16 * 2 ≤ (q 0).val
      · exact ⟨_, (List.mem_cons_of_mem _ (List.mem_cons_of_mem _ (List.mem_cons_of_mem _ (List.mem_cons_of_mem _ (List.mem_cons_of_mem _ (List.mem_cons_self)))))), mem_store t2.val 2 (k0_off4 t2 32#32) (k0_off4_eq t2 2) (k0_off4_inb i t1 t2 h3 2) q ⟨hk2, by omega⟩⟩
      by_cases hk1 : 128 * t2.val + 16 * 1 ≤ (q 0).val
      · exact ⟨_, (List.mem_cons_of_mem _ (List.mem_cons_of_mem _ (List.mem_cons_of_mem _ (List.mem_cons_of_mem _ (List.mem_cons_of_mem _ (List.mem_cons_of_mem _ (List.mem_cons_self))))))), mem_store t2.val 1 (k0_off4 t2 16#32) (k0_off4_eq t2 1) (k0_off4_inb i t1 t2 h3 1) q ⟨hk1, by omega⟩⟩
      by_cases hk0 : 128 * t2.val + 16 * 0 ≤ (q 0).val
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), mem_store t2.val 0 (k0_off4 t2 0#32) (k0_off4_eq t2 0) (k0_off4_inb i t1 t2 h3 0) q ⟨hk0, by omega⟩⟩
      omega

/-- One trip of the second inner loop: the stage's next 128 positions hold the slab's next eight columns, the positions
    before them what they held. -/
theorem t3_trip (d : Dev nD) (i : grid0.Coords) (t1 : Fin k0_t1_loop.trips) (h6 : k0_cond6 i t1 = 1#1) (t2 : Fin k0_t3_loop.trips)
    (g : S16x1408.Idx → Elt F .f32) (f : S22528.Idx → Elt F .f32) (hf : ∀ q, (q 0).val < 128 * t2.val → f q = stg g q) :
    (iprop(((Memref.whole cc0_scratch1 : Memref sig .scVector .vmem S16x1408 .f32).view.loc (thr0 d i) ↦{fullShare} g)
      ∗ ((Memref.whole cc0_scratch3 : Memref sig .scVector .vmem S22528 .f32).view.loc (thr0 d i) ↦{fullShare} f)) : sProp (MM F))
    ⊢ wp frame (wpE (defs₀ (F := F)) 𝒱₀ (thr0 d i) none) Set.univ
      (k0_t3_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1
        (iota .scVector S16 32 [0] iota_S16_d0_w32_scVector) t1 h6 0#32 1#32 t2 ())
      fun _ => iprop(((Memref.whole cc0_scratch1 : Memref sig .scVector .vmem S16x1408 .f32).view.loc (thr0 d i) ↦{fullShare} g)
        ∗ ∃ f' : S22528.Idx → Elt F .f32, ⌜∀ q, (q 0).val < 128 * (t2.val + 1) → f' q = stg g q⌝
          ∗ ((Memref.whole cc0_scratch3 : Memref sig .scVector .vmem S22528 .f32).view.loc (thr0 d i) ↦{fullShare} f')) := by
  unfold k0_t3_body
  rw [k0_part3_eq_skeleton]; unfold k0_part3_skel
  simp only [Prog.lift, Prog.bind_op, Prog.bind_ret, Prog.bind_assoc, Prog.pure_eq_ret]
  iintro ⟨Hg, Hf⟩
  rw [wp_assume_of _ _ _ _ (show k0_chk9 i (iota .scVector S16 32 [0] iota_S16_d0_w32_scVector) t1 (k0_pay11 0#32 1#32 t2) from fun _ => chk_of t2 0 _ (pay11_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk10 i (iota .scVector S16 32 [0] iota_S16_d0_w32_scVector) t1 (k0_pay12 0#32 1#32 t2) from fun _ => chk_of t2 1 _ (pay12_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk11 i (iota .scVector S16 32 [0] iota_S16_d0_w32_scVector) t1 (k0_pay13 0#32 1#32 t2) from fun _ => chk_of t2 2 _ (pay13_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk12 i (iota .scVector S16 32 [0] iota_S16_d0_w32_scVector) t1 (k0_pay14 0#32 1#32 t2) from fun _ => chk_of t2 3 _ (pay14_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk13 i (iota .scVector S16 32 [0] iota_S16_d0_w32_scVector) t1 (k0_pay15 0#32 1#32 t2) from fun _ => chk_of t2 4 _ (pay15_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk14 i (iota .scVector S16 32 [0] iota_S16_d0_w32_scVector) t1 (k0_pay16 0#32 1#32 t2) from fun _ => chk_of t2 5 _ (pay16_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk15 i (iota .scVector S16 32 [0] iota_S16_d0_w32_scVector) t1 (k0_pay17 0#32 1#32 t2) from fun _ => chk_of t2 6 _ (pay17_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  rw [wp_assume_of _ _ _ _ (show k0_chk16 i (iota .scVector S16 32 [0] iota_S16_d0_w32_scVector) t1 (k0_pay18 0#32 1#32 t2) from fun _ => chk_of t2 7 _ (pay18_lane t2))]
  iapply (SparseCore.wp_vectorLoadIdx 𝒱₀ (thr0 d i) none Set.univ (base := (Memref.whole cc0_scratch1 : Memref sig .scVector .vmem S16x1408 .f32)) (S := Finset.univ) (q := fullShare) (f := g) (Finset.subset_univ _)) $$ Hg; iintro Hg
  iapply (wp_load 𝒱₀ (thr0 d i) none Set.univ (m := (Memref.whole cc0_scratch3 : Memref sig .scVector .vmem S22528 .f32)) (S := Finset.univ) (Finset.subset_univ _)) $$ Hf; iintro Hf
  iapply (wp_store_writes₀ 𝒱₀ (thr0 d i) none Set.univ (m := (Memref.whole cc0_scratch3 : Memref sig .scVector .vmem S22528 .f32)) (r := Rect.unit (s := S22528) (k0_off8 t2 0#32) S16.size (k0_off8_inb i t1 t2 h6 0)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 16#32) S16.size (k0_off8_inb i t1 t2 h6 1)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 32#32) S16.size (k0_off8_inb i t1 t2 h6 2)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 48#32) S16.size (k0_off8_inb i t1 t2 h6 3)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 64#32) S16.size (k0_off8_inb i t1 t2 h6 4)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 80#32) S16.size (k0_off8_inb i t1 t2 h6 5)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 96#32) S16.size (k0_off8_inb i t1 t2 h6 6)) (S := Finset.univ) (f := f) (Finset.subset_univ _)) $$ Hf; iintro Hf
  iapply (wp_load 𝒱₀ (thr0 d i) none Set.univ (m := (Memref.whole cc0_scratch3 : Memref sig .scVector .vmem S22528 .f32)) (S := Finset.univ) (Finset.subset_univ _)) $$ Hf; iintro Hf
  iapply (wp_store_writes 𝒱₀ (thr0 d i) none Set.univ (m := (Memref.whole cc0_scratch3 : Memref sig .scVector .vmem S22528 .f32)) (r := Rect.unit (s := S22528) (k0_off8 t2 112#32) S16.size (k0_off8_inb i t1 t2 h6 7)) (S := Finset.univ) (f := f) (Finset.subset_univ _)) $$ Hf; iintro Hf
  rw [wp_ret]
  isplitl [Hg]; · iexact Hg
  iexists _
  isplitr
  rotate_left
  · iexact Hf
  ipureintro
  intro q hq
  generalize hw : View.writes _ _ _ _ = w
  rw [← show (Memref.whole cc0_scratch3 : Memref sig .scVector .vmem S22528 .f32).view.read (Elt F) w q = w q from rfl, ← hw]
  refine writes_agree (Memref.whole cc0_scratch3 : Memref sig .scVector .vmem S22528 .f32).view f (stg g) _ ?_ q ?_
  · intro p hp
    simp only [List.mem_cons, List.not_mem_nil, or_false] at hp
    rcases hp with rfl | rfl | rfl | rfl | rfl | rfl | rfl | rfl
    · intro x; exact load_eq g _ (Memref.read_access_whole (Elt F) cc0_scratch1 g) t2 7 _ (pay18_lane t2) _ (k0_off8 t2 112#32) (k0_off8_eq t2 7) (k0_off8_inb i t1 t2 h6 7) x
    · intro x; exact load_eq g _ (Memref.read_access_whole (Elt F) cc0_scratch1 g) t2 6 _ (pay17_lane t2) _ (k0_off8 t2 96#32) (k0_off8_eq t2 6) (k0_off8_inb i t1 t2 h6 6) x
    · intro x; exact load_eq g _ (Memref.read_access_whole (Elt F) cc0_scratch1 g) t2 5 _ (pay16_lane t2) _ (k0_off8 t2 80#32) (k0_off8_eq t2 5) (k0_off8_inb i t1 t2 h6 5) x
    · intro x; exact load_eq g _ (Memref.read_access_whole (Elt F) cc0_scratch1 g) t2 4 _ (pay15_lane t2) _ (k0_off8 t2 64#32) (k0_off8_eq t2 4) (k0_off8_inb i t1 t2 h6 4) x
    · intro x; exact load_eq g _ (Memref.read_access_whole (Elt F) cc0_scratch1 g) t2 3 _ (pay14_lane t2) _ (k0_off8 t2 48#32) (k0_off8_eq t2 3) (k0_off8_inb i t1 t2 h6 3) x
    · intro x; exact load_eq g _ (Memref.read_access_whole (Elt F) cc0_scratch1 g) t2 2 _ (pay13_lane t2) _ (k0_off8 t2 32#32) (k0_off8_eq t2 2) (k0_off8_inb i t1 t2 h6 2) x
    · intro x; exact load_eq g _ (Memref.read_access_whole (Elt F) cc0_scratch1 g) t2 1 _ (pay12_lane t2) _ (k0_off8 t2 16#32) (k0_off8_eq t2 1) (k0_off8_inb i t1 t2 h6 1) x
    · intro x; exact load_eq g _ (Memref.read_access_whole (Elt F) cc0_scratch1 g) t2 0 _ (pay11_lane t2) _ (k0_off8 t2 0#32) (k0_off8_eq t2 0) (k0_off8_inb i t1 t2 h6 0) x
  · by_cases h : (q 0).val < 128 * t2.val
    · exact .inr (hf q h)
    · left
      by_cases hk7 : 128 * t2.val + 16 * 7 ≤ (q 0).val
      · exact ⟨_, List.mem_cons_self, mem_store t2.val 7 (k0_off8 t2 112#32) (k0_off8_eq t2 7) (k0_off8_inb i t1 t2 h6 7) q ⟨hk7, by omega⟩⟩
      by_cases hk6 : 128 * t2.val + 16 * 6 ≤ (q 0).val
      · exact ⟨_, (List.mem_cons_of_mem _ (List.mem_cons_self)), mem_store t2.val 6 (k0_off8 t2 96#32) (k0_off8_eq t2 6) (k0_off8_inb i t1 t2 h6 6) q ⟨hk6, by omega⟩⟩
      by_cases hk5 : 128 * t2.val + 16 * 5 ≤ (q 0).val
      · exact ⟨_, (List.mem_cons_of_mem _ (List.mem_cons_of_mem _ (List.mem_cons_self))), mem_store t2.val 5 (k0_off8 t2 80#32) (k0_off8_eq t2 5) (k0_off8_inb i t1 t2 h6 5) q ⟨hk5, by omega⟩⟩
      by_cases hk4 : 128 * t2.val + 16 * 4 ≤ (q 0).val
      · exact ⟨_, (List.mem_cons_of_mem _ (List.mem_cons_of_mem _ (List.mem_cons_of_mem _ (List.mem_cons_self)))), mem_store t2.val 4 (k0_off8 t2 64#32) (k0_off8_eq t2 4) (k0_off8_inb i t1 t2 h6 4) q ⟨hk4, by omega⟩⟩
      by_cases hk3 : 128 * t2.val + 16 * 3 ≤ (q 0).val
      · exact ⟨_, (List.mem_cons_of_mem _ (List.mem_cons_of_mem _ (List.mem_cons_of_mem _ (List.mem_cons_of_mem _ (List.mem_cons_self))))), mem_store t2.val 3 (k0_off8 t2 48#32) (k0_off8_eq t2 3) (k0_off8_inb i t1 t2 h6 3) q ⟨hk3, by omega⟩⟩
      by_cases hk2 : 128 * t2.val + 16 * 2 ≤ (q 0).val
      · exact ⟨_, (List.mem_cons_of_mem _ (List.mem_cons_of_mem _ (List.mem_cons_of_mem _ (List.mem_cons_of_mem _ (List.mem_cons_of_mem _ (List.mem_cons_self)))))), mem_store t2.val 2 (k0_off8 t2 32#32) (k0_off8_eq t2 2) (k0_off8_inb i t1 t2 h6 2) q ⟨hk2, by omega⟩⟩
      by_cases hk1 : 128 * t2.val + 16 * 1 ≤ (q 0).val
      · exact ⟨_, (List.mem_cons_of_mem _ (List.mem_cons_of_mem _ (List.mem_cons_of_mem _ (List.mem_cons_of_mem _ (List.mem_cons_of_mem _ (List.mem_cons_of_mem _ (List.mem_cons_self))))))), mem_store t2.val 1 (k0_off8 t2 16#32) (k0_off8_eq t2 1) (k0_off8_inb i t1 t2 h6 1) q ⟨hk1, by omega⟩⟩
      by_cases hk0 : 128 * t2.val + 16 * 0 ≤ (q 0).val
      · exact ⟨_, (List.mem_cons_of_mem _ (List.mem_cons_of_mem _ (List.mem_cons_of_mem _ (List.mem_cons_of_mem _ (List.mem_cons_of_mem _ (List.mem_cons_of_mem _ (List.mem_cons_of_mem _ (List.mem_cons_self)))))))), mem_store t2.val 0 (k0_off8 t2 0#32) (k0_off8_eq t2 0) (k0_off8_inb i t1 t2 h6 0) q ⟨hk0, by omega⟩⟩
      omega

end Cert.Proof
-- ==== Proof.RelaySets.lean ====
/-
  The relayout call's sets and contents: which positions of the flat result belong to which tile's which unit, and
  what the flat result holds; a unit's slab, moved through the stage, is exactly its block of the flat result.
-/
module

public import proofs.«01_k».proof.Proof.RelayInner
public import Idealize.ShloMosaic.Lib.Pipeline.Value

@[expose] public section

set_option maxRecDepth 65536

noncomputable section

namespace Cert.Proof

open Cert.KernelIdeal Cert.KernelIdeal.Gen
open Idealize.ShloMosaic

variable {F : FTy → Type} [FloatOps F]

/-- The flat result's content: each of the 26 tables in turn, its rows one after another; the last 32 rows of a table
    from the tail list. -/
def relG (tb : S26x16x100000.Idx → Elt F .f32) (tl : S13312.Idx → Elt F .f32) : S41600000.Idx → Elt F .f32 := fun q =>
  have hq : (q 0).val < 41600000 := (q 0).isLt
  if h : (q 0).val % 1600000 < 1599488 then
    tb (ix3 ⟨(q 0).val / 1600000, by omega⟩ ⟨(q 0).val % 1600000 % 16, by omega⟩ ⟨(q 0).val % 1600000 / 16, by omega⟩)
  else tl (ix1 ⟨(q 0).val / 1600000 * 512 + ((q 0).val % 1600000 - 1599488), by omega⟩)

/-- The unit a position outside the tails lies in. -/
def unitOf (n : Nat) : Nat := n / 1600000 * 71 + n % 1600000 / 22528

/-- Tile `w`'s units of parity `p` whose turn is at least `a` and below `b`. -/
def Eset (w p a b : Nat) : Finset S41600000.Idx :=
  Finset.univ.filter fun q => (q 0).val % 1600000 < 1599488 ∧ unitOf (q 0).val % 64 = w + 32 * p ∧ a ≤ unitOf (q 0).val / 64 ∧ unitOf (q 0).val / 64 < b

/-- Tile `w`'s tail. -/
def Tset (w : Nat) : Finset S41600000.Idx :=
  Finset.univ.filter fun q => ¬ (q 0).val % 1600000 < 1599488 ∧ (q 0).val / 1600000 = w

theorem mem_Eset (w p a b : Nat) (q : S41600000.Idx) : q ∈ Eset w p a b ↔
    (q 0).val % 1600000 < 1599488 ∧ unitOf (q 0).val % 64 = w + 32 * p ∧ a ≤ unitOf (q 0).val / 64 ∧ unitOf (q 0).val / 64 < b := by
  unfold Eset; rw [Finset.mem_filter]; exact ⟨fun h => h.2, fun h => ⟨Finset.mem_univ _, h⟩⟩

theorem mem_Tset (w : Nat) (q : S41600000.Idx) : q ∈ Tset w ↔ ¬ (q 0).val % 1600000 < 1599488 ∧ (q 0).val / 1600000 = w := by
  unfold Tset; rw [Finset.mem_filter]; exact ⟨fun h => h.2, fun h => ⟨Finset.mem_univ _, h⟩⟩

theorem Eset_disj (w p a b c : Nat) : Disjoint (Eset w p a b) (Eset w p b c) := by
  rw [Finset.disjoint_left]; intro q h h'
  rw [mem_Eset] at h h'; omega

theorem Eset_union (w p a b c : Nat) (hab : a ≤ b) (hbc : b ≤ c) : Eset w p a b ∪ Eset w p b c = Eset w p a c := by
  ext q; rw [Finset.mem_union, mem_Eset, mem_Eset, mem_Eset]; constructor
  · rintro (h | h) <;> exact ⟨h.1, h.2.1, by omega, by omega⟩
  · intro h
    by_cases hb : unitOf (q 0).val / 64 < b
    · exact .inl ⟨h.1, h.2.1, h.2.2.1, hb⟩
    · exact .inr ⟨h.1, h.2.1, by omega, h.2.2.2⟩

theorem Eset_self (w p a : Nat) : Eset w p a a = ∅ := by
  ext q; rw [mem_Eset]; constructor
  · intro h; omega
  · intro h; exact absurd h (Finset.notMem_empty _)

/-- There are 1846 units. -/
theorem unitOf_lt (n : Nat) (hn : n < 41600000) (h : n % 1600000 < 1599488) : unitOf n < 1846 := by
  unfold unitOf; omega

/-- The last turn of parity one exists only for the first 22 tiles. -/
theorem Eset_last (w : Nat) (hw : 22 ≤ w) : Eset w 1 28 29 = ∅ := by
  ext q; rw [mem_Eset]; constructor
  · intro h
    have := unitOf_lt (q 0).val (q 0).isLt h.1
    omega
  · intro h; exact absurd h (Finset.notMem_empty _)

/-- A unit's block of the flat result, as the copy names it, is the positions of that unit. -/
theorem Eset_window (w p t : Nat) (hw : w < 32) (hp : p < 2) (hu : w + 32 * p + 64 * t < 1846) (off : Fin 1 → Nat)
    (hoff : off = ![(w + 32 * p + 64 * t) / 71 * 1600000 + ((w + 32 * p + 64 * t) % 71) * 22528]) (inb) :
    (Rect.unit (s := S41600000) off S22528.size inb).set = Eset w p t (t + 1) := by
  subst hoff
  ext q
  rw [Rect.mem_set_unit, mem_Eset]
  have hq : (q 0).val < 41600000 := (q 0).isLt
  constructor
  · intro h
    have h0 := h 0
    have h1 : (w + 32 * p + 64 * t) / 71 * 1600000 + ((w + 32 * p + 64 * t) % 71) * 22528 ≤ (q 0).val := h0.1
    have h2 : (q 0).val < (w + 32 * p + 64 * t) / 71 * 1600000 + ((w + 32 * p + 64 * t) % 71) * 22528 + 22528 := h0.2
    generalize hu' : w + 32 * p + 64 * t = u at *
    have e1 : (q 0).val / 1600000 = u / 71 := by omega
    have e2 : (q 0).val % 1600000 / 22528 = u % 71 := by omega
    have e3 : unitOf (q 0).val = u := by unfold unitOf; omega
    refine ⟨by omega, by omega, by omega, by omega⟩
  · intro h a
    have ha : a = 0 := Fin.eq_zero a
    subst ha
    show (w + 32 * p + 64 * t) / 71 * 1600000 + ((w + 32 * p + 64 * t) % 71) * 22528 ≤ (q 0).val
      ∧ (q 0).val < (w + 32 * p + 64 * t) / 71 * 1600000 + ((w + 32 * p + 64 * t) % 71) * 22528 + 22528
    have e3 : unitOf (q 0).val = w + 32 * p + 64 * t := by omega
    rw [← e3]
    have := h.1
    have e4 : unitOf (q 0).val / 71 = (q 0).val / 1600000 := by unfold unitOf; omega
    have e5 : unitOf (q 0).val % 71 = (q 0).val % 1600000 / 22528 := by unfold unitOf; omega
    rw [e4, e5]; omega

/-- The tail's window of the flat result is the tile's tail. -/
theorem Tset_window (w : Nat) (hw : w < 26) (off : Fin 1 → Nat) (hoff : off = ![1600000 * w + 1599488]) (inb) :
    (Rect.unit (s := S41600000) off S512.size inb).set = Tset w := by
  subst hoff
  ext q
  rw [Rect.mem_set_unit, mem_Tset]
  constructor
  · intro h
    have h1 : 1600000 * w + 1599488 ≤ (q 0).val := (h 0).1
    have h2 : (q 0).val < 1600000 * w + 1599488 + 512 := (h 0).2
    omega
  · intro h a
    have ha : a = 0 := Fin.eq_zero a
    subst ha
    show 1600000 * w + 1599488 ≤ (q 0).val ∧ (q 0).val < 1600000 * w + 1599488 + 512
    omega

/-- No tail past the 26 tables. -/
theorem Tset_none (w : Nat) (hw : 26 ≤ w) : Tset w = ∅ := by
  ext q; rw [mem_Tset]; constructor
  · intro h; have hq : (q 0).val < 41600000 := (q 0).isLt; omega
  · intro h; exact absurd h (Finset.notMem_empty _)

/-! ## A unit's slab -/

/-- A unit's window of the table, as the kernel's copies name it. -/
abbrev slabV (off : Fin 3 → Nat) (inb : ∀ a, off a + S1x16x1408.size a ≤ S26x16x100000.size a) : Memref sig .scVector .hbm S16x1408 .f32 :=
  ((Memref.whole main_v1_scv : Memref sig .scVector .hbm S26x16x100000 .f32).slice (Rect.unit (s := S26x16x100000) off S1x16x1408.size inb) (fun _ => rfl)).squeeze S16x1408 squeezes_S1x16x1408_S16x1408

/-- What a unit's slab reads of the table. -/
def slabC (tb : S26x16x100000.Idx → Elt F .f32) (off : Fin 3 → Nat) (inb : ∀ a, off a + S1x16x1408.size a ≤ S26x16x100000.size a) :
    S16x1408.Idx → Elt F .f32 := (slabV off inb).view.read (Elt F) tb

theorem slabC_apply (tb : S26x16x100000.Idx → Elt F .f32) (u : Nat) (hu : u < 1846) (off : Fin 3 → Nat)
    (inb : ∀ a, off a + S1x16x1408.size a ≤ S26x16x100000.size a) (hoff : off = ![u / 71, 0, (u % 71) * 1408]) (y : S16x1408.Idx) :
    slabC tb off inb y = tb (ix3 ⟨u / 71, by omega⟩ (y 0) ⟨(u % 71) * 1408 + (y 1).val, by have h : (y 1).val < 1408 := (y 1).isLt; omega⟩) := by
  subst hoff
  unfold slabC
  have h1 := Memref.read_squeeze_slice (Val := Elt F) (Memref.whole main_v1_scv : Memref sig .scVector .hbm S26x16x100000 .f32)
    (Rect.unit (s := S26x16x100000) ![u / 71, 0, (u % 71) * 1408] S1x16x1408.size inb) (fun _ => rfl) squeezes_S1x16x1408_S16x1408 (show Shape.ShapeCasts S1x16x1408 S16x1408 by decide) tb
  rw [h1, shapeCast_dropUnit_apply ![16, 1408]]
  show tb _ = tb _
  congr 1
  funext a
  apply Fin.ext
  fin_cases a
  · show u / 71 + 1 * 0 = u / 71; omega
  · show 0 + 1 * (y 0).val = (y 0).val; omega
  · show (u % 71) * 1408 + 1 * (y 1).val = (u % 71) * 1408 + (y 1).val; omega

/-- A unit's slab, moved through the stage and copied to its block, leaves there what the flat result holds. -/
theorem stg_slab (tb : S26x16x100000.Idx → Elt F .f32) (tl : S13312.Idx → Elt F .f32) (u : Nat) (hu : u < 1846) (off : Fin 3 → Nat)
    (inb : ∀ a, off a + S1x16x1408.size a ≤ S26x16x100000.size a) (hoff : off = ![u / 71, 0, (u % 71) * 1408])
    (off' : Fin 1 → Nat) (hoff' : off' = ![u / 71 * 1600000 + (u % 71) * 22528]) (inb') (x : S22528.Idx) :
    stg (slabC tb off inb) x = relG tb tl ((Rect.unit (s := S41600000) off' S22528.size inb').emb x) := by
  unfold stg
  rw [slabC_apply tb u hu off inb hoff]
  subst hoff'
  have hx : (x 0).val < 22528 := (x 0).isLt
  have he : (((Rect.unit (s := S41600000) ![u / 71 * 1600000 + (u % 71) * 22528] S22528.size inb').emb x) 0).val
      = u / 71 * 1600000 + (u % 71) * 22528 + 1 * (x 0).val := rfl
  generalize (Rect.unit (s := S41600000) ![u / 71 * 1600000 + (u % 71) * 22528] S22528.size inb').emb x = z at he
  have e1 : (z 0).val / 1600000 = u / 71 := by
    rw [he]; generalize u / 71 = d; have hm : u % 71 < 71 := Nat.mod_lt _ (by decide); generalize u % 71 = m at hm ⊢; omega
  have e2 : (z 0).val % 1600000 = (u % 71) * 22528 + (x 0).val := by
    have := Nat.div_add_mod (z 0).val 1600000; rw [e1] at this; omega
  unfold relG
  rw [dif_pos (by rw [e2]; have hm : u % 71 < 71 := Nat.mod_lt _ (by decide); omega)]
  congr 1
  funext a
  apply Fin.ext
  fin_cases a
  · show u / 71 = (z 0).val / 1600000
    rw [e1]
  · show (x 0).val % 16 = (z 0).val % 1600000 % 16
    rw [e2]; omega
  · show (u % 71) * 1408 + (x 0).val / 16 = (z 0).val % 1600000 / 16
    rw [e2]; omega

end Cert.Proof
-- ==== Proof.RelayIO.lean ====
/-
  The relayout call's copies: a slab's fetch and its wait, a stage's write-back and its wait, over the two slabs and
  the two stages, each with the contents it delivers.
-/
module

public import proofs.«01_k».proof.Proof.RelaySets

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev tabV : Memref sig .scVector .hbm S26x16x100000 .f32 := Memref.whole main_v1_scv
abbrev tailV : Memref sig .scVector .hbm S13312 .f32 := Memref.whole main_v3_scv
abbrev outV : Memref sig .scVector .hbm S41600000 .f32 := Memref.whole main_v4_scv
abbrev slab0 : Memref sig .scVector .vmem S16x1408 .f32 := Memref.whole cc0_scratch0
abbrev slab1 : Memref sig .scVector .vmem S16x1408 .f32 := Memref.whole cc0_scratch1
abbrev stage0 : Memref sig .scVector .vmem S22528 .f32 := Memref.whole cc0_scratch2
abbrev stage1 : Memref sig .scVector .vmem S22528 .f32 := Memref.whole cc0_scratch3
abbrev tbufV : Memref sig .scVector .vmem S512 .f32 := Memref.whole cc0_scratch4
abbrev blkV (off : Fin 1 → Nat) (inb : ∀ a, off a + S22528.size a ≤ S41600000.size a) : Memref sig .scVector .hbm S22528 .f32 :=
  outV.slice (Rect.unit (s := S41600000) off S22528.size inb) (fun _ => rfl)

abbrev EC : UEmb Counters (MM F) := countersEmb

/-- What a thread owes, with only waits at no handshake's index recorded beyond `W`. -/
def Owe (c : Thread nD τ) (O : CellTallies nD τ sig (HIx 2)) (W : Waits sig (HIx 2)) : sProp (MM F) :=
  iprop(∃ W', ⌜∀ p ∈ W', p ∈ W ∨ p.2 = none⌝ ∗ owes c O W')

theorem Owe_intro (c : Thread nD τ) (O : CellTallies nD τ sig (HIx 2)) (W : Waits sig (HIx 2)) : (owes c O W : sProp (MM F)) ⊢ Owe c O W := by
  unfold Owe; iintro H; iexists W
  isplitr
  · ipureintro; exact fun p h => .inl h
  · iexact H

theorem Owe_insert (c : Thread nD τ) (O : CellTallies nD τ sig (HIx 2)) (W W' : Waits sig (HIx 2)) (h : ∀ p ∈ W', p ∈ W ∨ p.2 = none) (sm : SemLoc sig) :
    (owes c O (insert (sm, none) W') : sProp (MM F)) ⊢ Owe c O W := by
  unfold Owe; iintro H; iexists insert (sm, none) W'
  isplitr
  · ipureintro; intro p hp
    rcases Finset.mem_insert.mp hp with rfl | hp
    · exact .inr rfl
    · exact h p hp
  · iexact H

/-- A wait of a copy the thread has in flight, at no handshake's index. -/
theorem wp_waitF {α : Type} {sp sp' : Space} {s s' : Shape} {e e' : EltTy} (c : Thread nD τ) {sem : DmaSem sig} {κ' : Kind}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} (hN : dstw.view.dmaCredit = N) {D : sProp (MM F)}
    {O : CellTallies nD τ sig (HIx 2)} {W : Waits sig (HIx 2)} {Q : α → sProp (MM F)} :
    iprop(Transfers.Flight (EC (F := F)) c (.dma sem) none N D ∗ Owe c O W ∗ Transfers.MayWaits c none O)
      ⊢ iprop((iprop(D ∗ semVal (c, .dma sem) 0 ∗ Owe c O W) -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  unfold Owe
  iintro ⟨HF, ⟨%W', %hW, HO⟩, Hmw⟩ Hk
  ihave Hm := (Transfers.MayWaits.elim (SemLoc.dma sem)) $$ Hmw
  iapply (Transfers.wp_waitLocalO (EC (F := F)) 𝒱₀ c none none hN) $$ [HF HO Hm]
  · isplitl [HF]; · iexact HF
    isplitl [HO]; · iexact HO
    iexact Hm
  iintro ⟨HD, Hv, HO⟩
  iapply Hk
  isplitl [HD]; · iexact HD
  isplitl [Hv]; · iexact Hv
  ihave H := (Owe_insert c O W W' hW (SemLoc.dma sem)) $$ HO
  unfold Owe
  iexact H

variable (d : Dev nD) (i : grid0.Coords)

/-- A unit's offset in the table. -/
def uOff (u : Nat) : Fin 3 → Nat := ![u / 71, 0, (u % 71) * 1408]

/-- The credit of a slab's copy; of a stage's. -/
abbrev NS0 : ℕ := slab0.view.amount (.dma cc0_scratch5.sem)
abbrev NS1 : ℕ := slab1.view.amount (.dma cc0_scratch6.sem)
abbrev NO0 : ℕ := (blkV ![0] inb_S41600000_S22528_0).view.amount (.dma cc0_scratch7.sem)
abbrev NO1 : ℕ := (blkV ![0] inb_S41600000_S22528_0).view.amount (.dma cc0_scratch8.sem)

/-! ## Parity 0 -/

/-- Slab 0's fetch of unit `u` in flight, the table's other positions beside it. -/
def inFl0 (q : PosShare TreeShare) (tb : S26x16x100000.Idx → Elt F .f32) (u : Nat) : sProp (MM F) :=
  iprop(∃ (off : Fin 3 → Nat) (inb : ∀ a, off a + S1x16x1408.size a ≤ S26x16x100000.size a), ⌜off = uOff u⌝
    ∗ Transfers.Flight (EC (F := F)) (thr0 d i) (.dma cc0_scratch5.sem) none NS0
        iprop((slab0.view.loc (thr0 d i) ↦{fullShare} slabC tb off inb) ∗ ((slabV off inb).view.loc (thr0 d i) ↦[(slabV off inb).view.set]{q} tb))
    ∗ ((slabV off inb).view.loc (thr0 d i) ↦[Finset.univ \ (slabV off inb).view.set]{q} tb))

/-- Slab 0 at rest. -/
def inIdle0 (q : PosShare TreeShare) (tb : S26x16x100000.Idx → Elt F .f32) : sProp (MM F) :=
  iprop((∃ g : S16x1408.Idx → Elt F .f32, slab0.view.loc (thr0 d i) ↦{fullShare} g) ∗ (tabV.view.loc (thr0 d i) ↦{q} tb)
    ∗ semVal (thr0 d i, SemLoc.dma cc0_scratch5.sem) 0)

theorem issueIn0 {α : Type} (q : PosShare TreeShare) (tb : S26x16x100000.Idx → Elt F .f32) (u : Nat) (off : Fin 3 → Nat)
    (inb : ∀ a, off a + S1x16x1408.size a ≤ S26x16x100000.size a) (hoff : off = uOff u) {hsrc hdst hsem}
    {k : PUnit → Prog (TpuEff nD τ sig (Elt F) Λ₀ (thr0 d i).2) α} {Q : α → sProp (MM F)} :
    (inIdle0 d i q tb : sProp (MM F)) ⊢ iprop((inFl0 d i q tb u -∗ wp frame (wpE (defs₀ (F := F)) 𝒱₀ (thr0 d i) none) Set.univ (k ⟨⟩) Q)
      -∗ wp frame (wpE (defs₀ (F := F)) 𝒱₀ (thr0 d i) none) Set.univ (.op (.enqueueDma (slabV off inb) (.here slab0) (.dma cc0_scratch5.sem) hsrc hdst hsem) k) Q) := by
  unfold inIdle0 inFl0
  iintro ⟨⟨%g, Hs⟩, Ht, Hv⟩ Hk
  ihave Ht := ((pointsTo_split_subset (q := q) (f := tb) (ℓ := tabV.view.loc (thr0 d i)) (Finset.subset_univ (slabV off inb).view.set)).1) $$ Ht
  icases Ht with ⟨Ht, Hr⟩
  iapply (Transfers.wp_dmaLocal (EC (F := F)) 𝒱₀ (thr0 d i) none (src := slabV off inb) (dst := slab0) (q := q) (fs := tb) (Sd := Finset.univ) (fd := g)
    none NS0 rfl (View.amount_pos _ _ (show 0 < S16x1408.numel by decide)) (Finset.subset_univ _)) $$ [Hs Ht Hv]
  · isplitl [Ht]; · iexact Ht
    isplitl [Hs]; · iexact Hs
    iexact Hv
  iintro HF
  iapply Hk
  iexists off; iexists inb
  isplitr; · ipureintro; exact hoff
  isplitl [HF]
  · iapply (Transfers.Flight_mono (EC (F := F)) (thr0 d i) ?_) $$ HF
    iintro ⟨Ha, Hb⟩
    isplitl [Ha]
    · iapply (Entails.of_eq (pointsTo_congr (fun y _ => ?_))) $$ Ha
      exact congrFun (View.write_whole_univ (Val := Elt F) cc0_scratch0 g (slabC tb off inb)) y
    · iexact Hb
  · iexact Hr

/-- Slab 0 landed: what the table has there, in it. -/
def inDone0 (q : PosShare TreeShare) (tb : S26x16x100000.Idx → Elt F .f32) (u : Nat) : sProp (MM F) :=
  iprop((∃ (off : Fin 3 → Nat) (inb : ∀ a, off a + S1x16x1408.size a ≤ S26x16x100000.size a), ⌜off = uOff u⌝ ∗ slab0.view.loc (thr0 d i) ↦{fullShare} slabC tb off inb) ∗ (tabV.view.loc (thr0 d i) ↦{q} tb)
    ∗ semVal (thr0 d i, SemLoc.dma cc0_scratch5.sem) 0)

theorem waitIn0 {α : Type} (q : PosShare TreeShare) (tb : S26x16x100000.Idx → Elt F .f32) (u : Nat)
    {O : CellTallies nD τ sig (HIx 2)} {W : Waits sig (HIx 2)}
    {sp' : Space} {s' : Shape} {e' : EltTy} {srcw : Memref sig (thr0 d i).2.kind sp' s' e'} {hsrc : srcw.view.WordExact} {hdst}
    {k : PUnit → Prog (TpuEff nD τ sig (Elt F) Λ₀ (thr0 d i).2) α} {Q : α → sProp (MM F)} :
    iprop(inFl0 d i q tb u ∗ Owe (thr0 d i) O W ∗ Transfers.MayWaits (thr0 d i) none O) ⊢ iprop((iprop(inDone0 d i q tb u ∗ Owe (thr0 d i) O W) -∗ wp frame (wpE (defs₀ (F := F)) 𝒱₀ (thr0 d i) none) Set.univ (k ⟨⟩) Q)
      -∗ wp frame (wpE (defs₀ (F := F)) 𝒱₀ (thr0 d i) none) Set.univ (.op (.waitDma2 cc0_scratch5.sem srcw slab0 hsrc hdst) k) Q) := by
  unfold inDone0 inFl0
  iintro ⟨⟨%off, %inb, %hoff, HF, Hr⟩, HO, Hmw⟩ Hk
  iapply (wp_waitF (thr0 d i) (N := NS0) rfl) $$ [HF HO Hmw]
  · isplitl [HF]; · iexact HF
    isplitl [HO]; · iexact HO
    iexact Hmw
  iintro ⟨⟨Hs, Ht⟩, Hv, HO⟩
  iapply Hk
  isplitr [HO]
  · isplitl [Hs]
    · iexists off; iexists inb
      isplitr; · ipureintro; exact hoff
      iexact Hs
    isplitl [Ht Hr]
    · iapply ((pointsTo_split_subset (q := q) (f := tb) (ℓ := tabV.view.loc (thr0 d i)) (Finset.subset_univ (slabV off inb).view.set)).2)
      isplitl [Ht]; · iexact Ht
      iexact Hr
    · iexact Hv
  · iexact HO

/-- Stage 0's write-backs before turn `t` landed, the later turns' blocks as they were: the stage idle. -/
def outIdle0 (G f0 : S41600000.Idx → Elt F .f32) (t : Nat) : sProp (MM F) :=
  iprop(semVal (thr0 d i, SemLoc.dma cc0_scratch7.sem) 0 ∗ (∃ f : S22528.Idx → Elt F .f32, stage0.view.loc (thr0 d i) ↦{fullShare} f)
    ∗ (outV.view.loc (thr0 d i) ↦[Eset (wid i) 0 0 t]{fullShare} G) ∗ (outV.view.loc (thr0 d i) ↦[Eset (wid i) 0 t 29]{fullShare} f0))

/-- Stage 0's write-back at turn `t` in flight. -/
def outFl0 (G f0 : S41600000.Idx → Elt F .f32) (t : Nat) : sProp (MM F) :=
  iprop(Transfers.Flight (EC (F := F)) (thr0 d i) (.dma cc0_scratch7.sem) none NO0
      iprop((outV.view.loc (thr0 d i) ↦[Eset (wid i) 0 t (t + 1)]{fullShare} G) ∗ ∃ f : S22528.Idx → Elt F .f32, stage0.view.loc (thr0 d i) ↦{fullShare} f)
    ∗ (outV.view.loc (thr0 d i) ↦[Eset (wid i) 0 0 t]{fullShare} G) ∗ (outV.view.loc (thr0 d i) ↦[Eset (wid i) 0 (t + 1) 29]{fullShare} f0))

/-- Stage 0 at the head of turn `t`: idle at first, the turn before's write-back in flight after. -/
def outSt0 (G f0 : S41600000.Idx → Elt F .f32) : Nat → sProp (MM F)
  | 0 => outIdle0 d i G f0 0
  | t + 1 => outFl0 d i G f0 t

theorem waitOut0 {α : Type} (G f0 : S41600000.Idx → Elt F .f32) (t : Nat) (ht : t < 29)
    {O : CellTallies nD τ sig (HIx 2)} {W : Waits sig (HIx 2)}
    {sp' : Space} {s' : Shape} {e' : EltTy} {srcw : Memref sig (thr0 d i).2.kind sp' s' e'} {hsrc : srcw.view.WordExact} {hdst}
    {k : PUnit → Prog (TpuEff nD τ sig (Elt F) Λ₀ (thr0 d i).2) α} {Q : α → sProp (MM F)} :
    iprop(outFl0 d i G f0 t ∗ Owe (thr0 d i) O W ∗ Transfers.MayWaits (thr0 d i) none O) ⊢ iprop((iprop(outIdle0 d i G f0 (t + 1) ∗ Owe (thr0 d i) O W) -∗ wp frame (wpE (defs₀ (F := F)) 𝒱₀ (thr0 d i) none) Set.univ (k ⟨⟩) Q)
      -∗ wp frame (wpE (defs₀ (F := F)) 𝒱₀ (thr0 d i) none) Set.univ (.op (.waitDma2 cc0_scratch7.sem srcw (blkV ![0] inb_S41600000_S22528_0) hsrc hdst) k) Q) := by
  unfold outFl0 outIdle0
  iintro ⟨⟨HF, Hd, Hr⟩, HO, Hmw⟩ Hk
  iapply (wp_waitF (thr0 d i) (N := NO0) rfl) $$ [HF HO Hmw]
  · isplitl [HF]; · iexact HF
    isplitl [HO]; · iexact HO
    iexact Hmw
  iintro ⟨⟨Hs, Ht⟩, Hv, HO⟩
  iapply Hk
  isplitr [HO]
  · isplitl [Hv]; · iexact Hv
    isplitl [Ht]; · iexact Ht
    isplitl [Hs Hd]
    · rw [← Eset_union (wid i) 0 0 t (t + 1) (by omega) (by omega)]
      iapply ((pointsTo_union (Eset_disj (wid i) 0 0 t (t + 1))).2)
      isplitl [Hd]; · iexact Hd
      iexact Hs
    · iexact Hr
  · iexact HO

theorem issueOut0 {α : Type} (tb : S26x16x100000.Idx → Elt F .f32) (tl : S13312.Idx → Elt F .f32) (f0 : S41600000.Idx → Elt F .f32) (t : Nat)
    (hu : wid i + 32 * 0 + 64 * t < 1846) (f : S22528.Idx → Elt F .f32)
    (offT : Fin 3 → Nat) (inbT : ∀ a, offT a + S1x16x1408.size a ≤ S26x16x100000.size a) (hoffT : offT = uOff (wid i + 32 * 0 + 64 * t))
    (hf : ∀ q, f q = stg (slabC tb offT inbT) q)
    (off : Fin 1 → Nat) (inb : ∀ a, off a + S22528.size a ≤ S41600000.size a)
    (hoff : off = ![(wid i + 32 * 0 + 64 * t) / 71 * 1600000 + ((wid i + 32 * 0 + 64 * t) % 71) * 22528]) {hsrc hdst hsem}
    {k : PUnit → Prog (TpuEff nD τ sig (Elt F) Λ₀ (thr0 d i).2) α} {Q : α → sProp (MM F)} :
    iprop(semVal (thr0 d i, SemLoc.dma cc0_scratch7.sem) 0 ∗ (stage0.view.loc (thr0 d i) ↦{fullShare} f)
        ∗ (outV.view.loc (thr0 d i) ↦[Eset (wid i) 0 0 t]{fullShare} relG tb tl) ∗ (outV.view.loc (thr0 d i) ↦[Eset (wid i) 0 t 29]{fullShare} f0))
      ⊢ iprop((outFl0 d i (relG tb tl) f0 t -∗ wp frame (wpE (defs₀ (F := F)) 𝒱₀ (thr0 d i) none) Set.univ (k ⟨⟩) Q)
      -∗ wp frame (wpE (defs₀ (F := F)) 𝒱₀ (thr0 d i) none) Set.univ (.op (.enqueueDma stage0 (.here (blkV off inb)) (.dma cc0_scratch7.sem) hsrc hdst hsem) k) Q) := by
  unfold outFl0
  have hw := wid_lt i
  have hset : (blkV off inb).view.set = Eset (wid i) 0 t (t + 1) := by
    rw [← Eset_window (wid i) 0 t hw (by decide) hu off hoff inb]
    exact View.set_slice_whole _ _
  iintro ⟨Hv, Hs, Hd, Hr⟩ Hk
  rw [← Eset_union (wid i) 0 t (t + 1) 29 (by omega) (by omega)]
  ihave Hr := ((pointsTo_union (Eset_disj (wid i) 0 t (t + 1) 29)).1) $$ Hr
  icases Hr with ⟨Hb, Hr⟩
  ihave Hs := (Entails.of_eq (show (stage0.view.loc (thr0 d i) ↦{fullShare} f : sProp (MM F)) = (stage0.view.loc (thr0 d i) ↦[stage0.view.set]{fullShare} f) by rw [View.set_whole])) $$ Hs
  iapply (Transfers.wp_dmaLocal (EC (F := F)) 𝒱₀ (thr0 d i) none (src := stage0) (dst := blkV off inb) (q := fullShare) (fs := f) (Sd := Eset (wid i) 0 t (t + 1)) (fd := f0)
    none NO0 rfl (View.amount_pos _ _ (show 0 < S22528.numel by decide)) (hset ▸ Finset.Subset.refl _)) $$ [Hs Hb Hv]
  · isplitl [Hs]; · iexact Hs
    isplitl [Hb]; · iexact Hb
    iexact Hv
  iintro HF
  iapply Hk
  isplitl [HF]
  · iapply (Transfers.Flight_mono (EC (F := F)) (thr0 d i) ?_) $$ HF
    iintro ⟨Ha, Hb⟩
    isplitl [Ha]
    · iapply (Entails.of_eq (pointsTo_congr (fun y hy => ?_))) $$ Ha
      rw [← hset] at hy
      obtain ⟨x, -, hx⟩ := Finset.mem_map.mp hy
      subst hx
      refine (View.write_emb_of_mem (v := (blkV off inb).view) (Val := Elt F) f0 f (Finset.mem_univ x)).trans ?_
      exact (cast_eq _ _).trans ((hf x).trans (stg_slab tb tl _ hu offT inbT hoffT off hoff inb x))
    · iexists f
      iapply (Entails.of_eq (show (stage0.view.loc (thr0 d i) ↦[stage0.view.set]{fullShare} f : sProp (MM F)) = (stage0.view.loc (thr0 d i) ↦{fullShare} f) by rw [View.set_whole])) $$ Hb
  isplitl [Hd]; · iexact Hd
  iexact Hr

/-! ## Parity 1 -/

/-- Slab 1's fetch of unit `u` in flight, the table's other positions beside it. -/
def inFl1 (q : PosShare TreeShare) (tb : S26x16x100000.Idx → Elt F .f32) (u : Nat) : sProp (MM F) :=
  iprop(∃ (off : Fin 3 → Nat) (inb : ∀ a, off a + S1x16x1408.size a ≤ S26x16x100000.size a), ⌜off = uOff u⌝
    ∗ Transfers.Flight (EC (F := F)) (thr0 d i) (.dma cc0_scratch6.sem) none NS1
        iprop((slab1.view.loc (thr0 d i) ↦{fullShare} slabC tb off inb) ∗ ((slabV off inb).view.loc (thr0 d i) ↦[(slabV off inb).view.set]{q} tb))
    ∗ ((slabV off inb).view.loc (thr0 d i) ↦[Finset.univ \ (slabV off inb).view.set]{q} tb))

/-- Slab 1 at rest. -/
def inIdle1 (q : PosShare TreeShare) (tb : S26x16x100000.Idx → Elt F .f32) : sProp (MM F) :=
  iprop((∃ g : S16x1408.Idx → Elt F .f32, slab1.view.loc (thr0 d i) ↦{fullShare} g) ∗ (tabV.view.loc (thr0 d i) ↦{q} tb)
    ∗ semVal (thr0 d i, SemLoc.dma cc0_scratch6.sem) 0)

theorem issueIn1 {α : Type} (q : PosShare TreeShare) (tb : S26x16x100000.Idx → Elt F .f32) (u : Nat) (off : Fin 3 → Nat)
    (inb : ∀ a, off a + S1x16x1408.size a ≤ S26x16x100000.size a) (hoff : off = uOff u) {hsrc hdst hsem}
    {k : PUnit → Prog (TpuEff nD τ sig (Elt F) Λ₀ (thr0 d i).2) α} {Q : α → sProp (MM F)} :
    (inIdle1 d i q tb : sProp (MM F)) ⊢ iprop((inFl1 d i q tb u -∗ wp frame (wpE (defs₀ (F := F)) 𝒱₀ (thr0 d i) none) Set.univ (k ⟨⟩) Q)
      -∗ wp frame (wpE (defs₀ (F := F)) 𝒱₀ (thr0 d i) none) Set.univ (.op (.enqueueDma (slabV off inb) (.here slab1) (.dma cc0_scratch6.sem) hsrc hdst hsem) k) Q) := by
  unfold inIdle1 inFl1
  iintro ⟨⟨%g, Hs⟩, Ht, Hv⟩ Hk
  ihave Ht := ((pointsTo_split_subset (q := q) (f := tb) (ℓ := tabV.view.loc (thr0 d i)) (Finset.subset_univ (slabV off inb).view.set)).1) $$ Ht
  icases Ht with ⟨Ht, Hr⟩
  iapply (Transfers.wp_dmaLocal (EC (F := F)) 𝒱₀ (thr0 d i) none (src := slabV off inb) (dst := slab1) (q := q) (fs := tb) (Sd := Finset.univ) (fd := g)
    none NS1 rfl (View.amount_pos _ _ (show 0 < S16x1408.numel by decide)) (Finset.subset_univ _)) $$ [Hs Ht Hv]
  · isplitl [Ht]; · iexact Ht
    isplitl [Hs]; · iexact Hs
    iexact Hv
  iintro HF
  iapply Hk
  iexists off; iexists inb
  isplitr; · ipureintro; exact hoff
  isplitl [HF]
  · iapply (Transfers.Flight_mono (EC (F := F)) (thr0 d i) ?_) $$ HF
    iintro ⟨Ha, Hb⟩
    isplitl [Ha]
    · iapply (Entails.of_eq (pointsTo_congr (fun y _ => ?_))) $$ Ha
      exact congrFun (View.write_whole_univ (Val := Elt F) cc0_scratch1 g (slabC tb off inb)) y
    · iexact Hb
  · iexact Hr

/-- Slab 1 landed: what the table has there, in it. -/
def inDone1 (q : PosShare TreeShare) (tb : S26x16x100000.Idx → Elt F .f32) (u : Nat) : sProp (MM F) :=
  iprop((∃ (off : Fin 3 → Nat) (inb : ∀ a, off a + S1x16x1408.size a ≤ S26x16x100000.size a), ⌜off = uOff u⌝ ∗ slab1.view.loc (thr0 d i) ↦{fullShare} slabC tb off inb) ∗ (tabV.view.loc (thr0 d i) ↦{q} tb)
    ∗ semVal (thr0 d i, SemLoc.dma cc0_scratch6.sem) 0)

theorem waitIn1 {α : Type} (q : PosShare TreeShare) (tb : S26x16x100000.Idx → Elt F .f32) (u : Nat)
    {O : CellTallies nD τ sig (HIx 2)} {W : Waits sig (HIx 2)}
    {sp' : Space} {s' : Shape} {e' : EltTy} {srcw : Memref sig (thr0 d i).2.kind sp' s' e'} {hsrc : srcw.view.WordExact} {hdst}
    {k : PUnit → Prog (TpuEff nD τ sig (Elt F) Λ₀ (thr0 d i).2) α} {Q : α → sProp (MM F)} :
    iprop(inFl1 d i q tb u ∗ Owe (thr0 d i) O W ∗ Transfers.MayWaits (thr0 d i) none O) ⊢ iprop((iprop(inDone1 d i q tb u ∗ Owe (thr0 d i) O W) -∗ wp frame (wpE (defs₀ (F := F)) 𝒱₀ (thr0 d i) none) Set.univ (k ⟨⟩) Q)
      -∗ wp frame (wpE (defs₀ (F := F)) 𝒱₀ (thr0 d i) none) Set.univ (.op (.waitDma2 cc0_scratch6.sem srcw slab1 hsrc hdst) k) Q) := by
  unfold inDone1 inFl1
  iintro ⟨⟨%off, %inb, %hoff, HF, Hr⟩, HO, Hmw⟩ Hk
  iapply (wp_waitF (thr0 d i) (N := NS1) rfl) $$ [HF HO Hmw]
  · isplitl [HF]; · iexact HF
    isplitl [HO]; · iexact HO
    iexact Hmw
  iintro ⟨⟨Hs, Ht⟩, Hv, HO⟩
  iapply Hk
  isplitr [HO]
  · isplitl [Hs]
    · iexists off; iexists inb
      isplitr; · ipureintro; exact hoff
      iexact Hs
    isplitl [Ht Hr]
    · iapply ((pointsTo_split_subset (q := q) (f := tb) (ℓ := tabV.view.loc (thr0 d i)) (Finset.subset_univ (slabV off inb).view.set)).2)
      isplitl [Ht]; · iexact Ht
      iexact Hr
    · iexact Hv
  · iexact HO

/-- Stage 1's write-backs before turn `t` landed, the later turns' blocks as they were: the stage idle. -/
def outIdle1 (G f0 : S41600000.Idx → Elt F .f32) (t : Nat) : sProp (MM F) :=
  iprop(semVal (thr0 d i, SemLoc.dma cc0_scratch8.sem) 0 ∗ (∃ f : S22528.Idx → Elt F .f32, stage1.view.loc (thr0 d i) ↦{fullShare} f)
    ∗ (outV.view.loc (thr0 d i) ↦[Eset (wid i) 1 0 t]{fullShare} G) ∗ (outV.view.loc (thr0 d i) ↦[Eset (wid i) 1 t 29]{fullShare} f0))

/-- Stage 1's write-back at turn `t` in flight. -/
def outFl1 (G f0 : S41600000.Idx → Elt F .f32) (t : Nat) : sProp (MM F) :=
  iprop(Transfers.Flight (EC (F := F)) (thr0 d i) (.dma cc0_scratch8.sem) none NO1
      iprop((outV.view.loc (thr0 d i) ↦[Eset (wid i) 1 t (t + 1)]{fullShare} G) ∗ ∃ f : S22528.Idx → Elt F .f32, stage1.view.loc (thr0 d i) ↦{fullShare} f)
    ∗ (outV.view.loc (thr0 d i) ↦[Eset (wid i) 1 0 t]{fullShare} G) ∗ (outV.view.loc (thr0 d i) ↦[Eset (wid i) 1 (t + 1) 29]{fullShare} f0))

/-- Stage 1 at the head of turn `t`: idle at first, the turn before's write-back in flight after. -/
def outSt1 (G f0 : S41600000.Idx → Elt F .f32) : Nat → sProp (MM F)
  | 0 => outIdle1 d i G f0 0
  | t + 1 => outFl1 d i G f0 t

theorem waitOut1 {α : Type} (G f0 : S41600000.Idx → Elt F .f32) (t : Nat) (ht : t < 29)
    {O : CellTallies nD τ sig (HIx 2)} {W : Waits sig (HIx 2)}
    {sp' : Space} {s' : Shape} {e' : EltTy} {srcw : Memref sig (thr0 d i).2.kind sp' s' e'} {hsrc : srcw.view.WordExact} {hdst}
    {k : PUnit → Prog (TpuEff nD τ sig (Elt F) Λ₀ (thr0 d i).2) α} {Q : α → sProp (MM F)} :
    iprop(outFl1 d i G f0 t ∗ Owe (thr0 d i) O W ∗ Transfers.MayWaits (thr0 d i) none O) ⊢ iprop((iprop(outIdle1 d i G f0 (t + 1) ∗ Owe (thr0 d i) O W) -∗ wp frame (wpE (defs₀ (F := F)) 𝒱₀ (thr0 d i) none) Set.univ (k ⟨⟩) Q)
      -∗ wp frame (wpE (defs₀ (F := F)) 𝒱₀ (thr0 d i) none) Set.univ (.op (.waitDma2 cc0_scratch8.sem srcw (blkV ![0] inb_S41600000_S22528_0) hsrc hdst) k) Q) := by
  unfold outFl1 outIdle1
  iintro ⟨⟨HF, Hd, Hr⟩, HO, Hmw⟩ Hk
  iapply (wp_waitF (thr0 d i) (N := NO1) rfl) $$ [HF HO Hmw]
  · isplitl [HF]; · iexact HF
    isplitl [HO]; · iexact HO
    iexact Hmw
  iintro ⟨⟨Hs, Ht⟩, Hv, HO⟩
  iapply Hk
  isplitr [HO]
  · isplitl [Hv]; · iexact Hv
    isplitl [Ht]; · iexact Ht
    isplitl [Hs Hd]
    · rw [← Eset_union (wid i) 1 0 t (t + 1) (by omega) (by omega)]
      iapply ((pointsTo_union (Eset_disj (wid i) 1 0 t (t + 1))).2)
      isplitl [Hd]; · iexact Hd
      iexact Hs
    · iexact Hr
  · iexact HO

theorem issueOut1 {α : Type} (tb : S26x16x100000.Idx → Elt F .f32) (tl : S13312.Idx → Elt F .f32) (f0 : S41600000.Idx → Elt F .f32) (t : Nat)
    (hu : wid i + 32 * 1 + 64 * t < 1846) (f : S22528.Idx → Elt F .f32)
    (offT : Fin 3 → Nat) (inbT : ∀ a, offT a + S1x16x1408.size a ≤ S26x16x100000.size a) (hoffT : offT = uOff (wid i + 32 * 1 + 64 * t))
    (hf : ∀ q, f q = stg (slabC tb offT inbT) q)
    (off : Fin 1 → Nat) (inb : ∀ a, off a + S22528.size a ≤ S41600000.size a)
    (hoff : off = ![(wid i + 32 * 1 + 64 * t) / 71 * 1600000 + ((wid i + 32 * 1 + 64 * t) % 71) * 22528]) {hsrc hdst hsem}
    {k : PUnit → Prog (TpuEff nD τ sig (Elt F) Λ₀ (thr0 d i).2) α} {Q : α → sProp (MM F)} :
    iprop(semVal (thr0 d i, SemLoc.dma cc0_scratch8.sem) 0 ∗ (stage1.view.loc (thr0 d i) ↦{fullShare} f)
        ∗ (outV.view.loc (thr0 d i) ↦[Eset (wid i) 1 0 t]{fullShare} relG tb tl) ∗ (outV.view.loc (thr0 d i) ↦[Eset (wid i) 1 t 29]{fullShare} f0))
      ⊢ iprop((outFl1 d i (relG tb tl) f0 t -∗ wp frame (wpE (defs₀ (F := F)) 𝒱₀ (thr0 d i) none) Set.univ (k ⟨⟩) Q)
      -∗ wp frame (wpE (defs₀ (F := F)) 𝒱₀ (thr0 d i) none) Set.univ (.op (.enqueueDma stage1 (.here (blkV off inb)) (.dma cc0_scratch8.sem) hsrc hdst hsem) k) Q) := by
  unfold outFl1
  have hw := wid_lt i
  have hset : (blkV off inb).view.set = Eset (wid i) 1 t (t + 1) := by
    rw [← Eset_window (wid i) 1 t hw (by decide) hu off hoff inb]
    exact View.set_slice_whole _ _
  iintro ⟨Hv, Hs, Hd, Hr⟩ Hk
  rw [← Eset_union (wid i) 1 t (t + 1) 29 (by omega) (by omega)]
  ihave Hr := ((pointsTo_union (Eset_disj (wid i) 1 t (t + 1) 29)).1) $$ Hr
  icases Hr with ⟨Hb, Hr⟩
  ihave Hs := (Entails.of_eq (show (stage1.view.loc (thr0 d i) ↦{fullShare} f : sProp (MM F)) = (stage1.view.loc (thr0 d i) ↦[stage1.view.set]{fullShare} f) by rw [View.set_whole])) $$ Hs
  iapply (Transfers.wp_dmaLocal (EC (F := F)) 𝒱₀ (thr0 d i) none (src := stage1) (dst := blkV off inb) (q := fullShare) (fs := f) (Sd := Eset (wid i) 1 t (t + 1)) (fd := f0)
    none NO1 rfl (View.amount_pos _ _ (show 0 < S22528.numel by decide)) (hset ▸ Finset.Subset.refl _)) $$ [Hs Hb Hv]
  · isplitl [Hs]; · iexact Hs
    isplitl [Hb]; · iexact Hb
    iexact Hv
  iintro HF
  iapply Hk
  isplitl [HF]
  · iapply (Transfers.Flight_mono (EC (F := F)) (thr0 d i) ?_) $$ HF
    iintro ⟨Ha, Hb⟩
    isplitl [Ha]
    · iapply (Entails.of_eq (pointsTo_congr (fun y hy => ?_))) $$ Ha
      rw [← hset] at hy
      obtain ⟨x, -, hx⟩ := Finset.mem_map.mp hy
      subst hx
      refine (View.write_emb_of_mem (v := (blkV off inb).view) (Val := Elt F) f0 f (Finset.mem_univ x)).trans ?_
      exact (cast_eq _ _).trans ((hf x).trans (stg_slab tb tl _ hu offT inbT hoffT off hoff inb x))
    · iexists f
      iapply (Entails.of_eq (show (stage1.view.loc (thr0 d i) ↦[stage1.view.set]{fullShare} f : sProp (MM F)) = (stage1.view.loc (thr0 d i) ↦{fullShare} f) by rw [View.set_whole])) $$ Hb
  isplitl [Hd]; · iexact Hd
  iexact Hr

end Cert.Proof
-- ==== Proof.Relay.lean ====
/-
  The relayout call's tile: one trip of its loop works two units, their fetches and write-backs in flight across trips;
  at the end every position the tile owns holds what the flat result does.
-/
module

public import proofs.«01_k».proof.Proof.RelayIO

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (i : grid0.Coords)

theorem t1_trips : k0_t1_loop.trips = 29 := by decide +kernel
theorem t3_trips : k0_t3_loop.trips = 176 := by decide +kernel

/-- The wait for the turn before's write-back is taken from the second trip on. -/
theorem later_iff : ∀ t : Fin k0_t1_loop.trips,
    Scalar.cmpi .ne (Scalar.extui (Scalar.cmpi .sgt (Scf.iv 0#32 1#32 t) 0#32) : BitVec 32) 0#32 = 1#1 ↔ 0 < t.val := by decide +kernel

/-- How many turns of parity one the tile has begun before trip `j`. -/
def nB (j : Nat) : Nat := if wid i + 64 * (j - 1) + 32 < 1846 then j else j - 1

theorem nB_le (j : Nat) (hj : j < 29) : nB i j = j := by
  have := wid_lt i
  unfold nB; rw [if_pos (by omega)]

/-- The slab of parity zero at the head of trip `j`. -/
def inSt0 (q : PosShare TreeShare) (tb : S26x16x100000.Idx → Elt F .f32) (j : Nat) : sProp (MM F) :=
  if j < 29 then inFl0 d i q tb (wid i + 64 * j) else inIdle0 d i q tb

/-- Parity 0's inner loop fills the stage from the slab. -/
theorem inner0 (t1 : Fin k0_t1_loop.trips) (h : k0_cond3 i t1 = 1#1) (g : S16x1408.Idx → Elt F .f32) (f : S22528.Idx → Elt F .f32) :
    (iprop((slab0.view.loc (thr0 d i) ↦{fullShare} g) ∗ (stage0.view.loc (thr0 d i) ↦{fullShare} f)) : sProp (MM F))
    ⊢ wp frame (wpE (defs₀ (F := F)) 𝒱₀ (thr0 d i) none) Set.univ
      (Scf.Loop.for k0_t2_loop (k0_t2_ok i t1 h) ⟨⟩ (k0_t2_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1
        (iota .scVector S16 32 [0] iota_S16_d0_w32_scVector) t1 h 0#32 1#32))
      fun _ => iprop((slab0.view.loc (thr0 d i) ↦{fullShare} g) ∗ ∃ f' : S22528.Idx → Elt F .f32, ⌜∀ q, f' q = stg g q⌝ ∗ (stage0.view.loc (thr0 d i) ↦{fullShare} f')) := by
  iintro ⟨Hg, Hf⟩
  iapply (Scf.wp_for frame (wpE (defs₀ (F := F)) 𝒱₀ (thr0 d i) none) Set.univ _ _ _ _ _ _
    (fun (r : Nat) (_ : Unit) => iprop((slab0.view.loc (thr0 d i) ↦{fullShare} g) ∗ ∃ f' : S22528.Idx → Elt F .f32, ⌜∀ q, (q 0).val < 128 * r → f' q = stg g q⌝ ∗ (stage0.view.loc (thr0 d i) ↦{fullShare} f')))
    ?_)
  · intro t2 _
    iintro ⟨Hg, ⟨%f', %hf, Hf⟩⟩
    iapply (t2_trip d i t1 h t2 g f' hf)
    isplitl [Hg]; · iexact Hg
    iexact Hf
  isplitl [Hg Hf]
  · isplitl [Hg]; · iexact Hg
    iexists f
    isplitr; · ipureintro; intro q hq; omega
    iexact Hf
  iintro %_ ⟨Hg, ⟨%f', %hf, Hf⟩⟩
  isplitl [Hg]; · iexact Hg
  iexists f'
  isplitr
  · ipureintro; intro q
    refine hf q ?_
    have hq : (q 0).val < 22528 := (q 0).isLt
    have ht : k0_t2_loop.trips = 176 := t2_trips
    show (q 0).val < 128 * k0_t2_loop.trips
    omega
  · iexact Hf

/-- Parity 1's inner loop fills the stage from the slab. -/
theorem inner1 (t1 : Fin k0_t1_loop.trips) (h : k0_cond6 i t1 = 1#1) (g : S16x1408.Idx → Elt F .f32) (f : S22528.Idx → Elt F .f32) :
    (iprop((slab1.view.loc (thr0 d i) ↦{fullShare} g) ∗ (stage1.view.loc (thr0 d i) ↦{fullShare} f)) : sProp (MM F))
    ⊢ wp frame (wpE (defs₀ (F := F)) 𝒱₀ (thr0 d i) none) Set.univ
      (Scf.Loop.for k0_t3_loop (k0_t3_ok i t1 h) ⟨⟩ (k0_t3_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1
        (iota .scVector S16 32 [0] iota_S16_d0_w32_scVector) t1 h 0#32 1#32))
      fun _ => iprop((slab1.view.loc (thr0 d i) ↦{fullShare} g) ∗ ∃ f' : S22528.Idx → Elt F .f32, ⌜∀ q, f' q = stg g q⌝ ∗ (stage1.view.loc (thr0 d i) ↦{fullShare} f')) := by
  iintro ⟨Hg, Hf⟩
  iapply (Scf.wp_for frame (wpE (defs₀ (F := F)) 𝒱₀ (thr0 d i) none) Set.univ _ _ _ _ _ _
    (fun (r : Nat) (_ : Unit) => iprop((slab1.view.loc (thr0 d i) ↦{fullShare} g) ∗ ∃ f' : S22528.Idx → Elt F .f32, ⌜∀ q, (q 0).val < 128 * r → f' q = stg g q⌝ ∗ (stage1.view.loc (thr0 d i) ↦{fullShare} f')))
    ?_)
  · intro t2 _
    iintro ⟨Hg, ⟨%f', %hf, Hf⟩⟩
    iapply (t3_trip d i t1 h t2 g f' hf)
    isplitl [Hg]; · iexact Hg
    iexact Hf
  isplitl [Hg Hf]
  · isplitl [Hg]; · iexact Hg
    iexists f
    isplitr; · ipureintro; intro q hq; omega
    iexact Hf
  iintro %_ ⟨Hg, ⟨%f', %hf, Hf⟩⟩
  isplitl [Hg]; · iexact Hg
  iexists f'
  isplitr
  · ipureintro; intro q
    refine hf q ?_
    have hq : (q 0).val < 22528 := (q 0).isLt
    have ht : k0_t3_loop.trips = 176 := t3_trips
    show (q 0).val < 128 * k0_t3_loop.trips
    omega
  · iexact Hf

theorem inSt0_lt (q : PosShare TreeShare) (tb : S26x16x100000.Idx → Elt F .f32) (j : Nat) (h : j < 29) :
    (inSt0 d i q tb j : sProp (MM F)) = inFl0 d i q tb (wid i + 64 * j) := by unfold inSt0; rw [if_pos h]
theorem inSt0_ge (q : PosShare TreeShare) (tb : S26x16x100000.Idx → Elt F .f32) (j : Nat) (h : ¬ j < 29) :
    (inSt0 d i q tb j : sProp (MM F)) = inIdle0 d i q tb := by unfold inSt0; rw [if_neg h]
theorem outSt0_zero (G f0 : S41600000.Idx → Elt F .f32) (t : Nat) (h : t = 0) : (outSt0 d i G f0 t : sProp (MM F)) = outIdle0 d i G f0 t := by subst h; unfold outSt0; rfl
theorem outSt1_zero (G f0 : S41600000.Idx → Elt F .f32) (t : Nat) (h : t = 0) : (outSt1 d i G f0 t : sProp (MM F)) = outIdle1 d i G f0 t := by subst h; unfold outSt1; rfl
theorem outSt0_at (G f0 : S41600000.Idx → Elt F .f32) (t t' : Nat) (h : t = t' + 1) : (outSt0 d i G f0 t : sProp (MM F)) = outFl0 d i G f0 t' := by subst h; unfold outSt0; rfl
theorem outSt1_at (G f0 : S41600000.Idx → Elt F .f32) (t t' : Nat) (h : t = t' + 1) : (outSt1 d i G f0 t : sProp (MM F)) = outFl1 d i G f0 t' := by subst h; unfold outSt1; rfl
theorem outSt0_succ (G f0 : S41600000.Idx → Elt F .f32) (t : Nat) : (outSt0 d i G f0 (t + 1) : sProp (MM F)) = outFl0 d i G f0 t := by unfold outSt0; rfl
theorem outSt1_succ (G f0 : S41600000.Idx → Elt F .f32) (t : Nat) : (outSt1 d i G f0 (t + 1) : sProp (MM F)) = outFl1 d i G f0 t := by unfold outSt1; rfl

/-- The loop's invariant at the head of trip `j`: which copies are in flight, and what every landed one delivered. -/
def relInv (q0 q1 : PosShare TreeShare) (tb : S26x16x100000.Idx → Elt F .f32) (G f0 : S41600000.Idx → Elt F .f32)
    (O : CellTallies nD τ sig (HIx 2)) (W : Waits sig (HIx 2)) (j : Nat) : sProp (MM F) :=
  iprop(Transfers.MayWaits (thr0 d i) none O ∗ inSt0 d i q0 tb j ∗ inIdle1 d i q1 tb ∗ outSt0 d i G f0 j ∗ outSt1 d i G f0 (nB i j) ∗ Owe (thr0 d i) O W)

set_option maxHeartbeats 2000000 in
/-- One trip, the first. -/
theorem t1_trip_z (q0 q1 : PosShare TreeShare) (tb : S26x16x100000.Idx → Elt F .f32) (tl : S13312.Idx → Elt F .f32) (f0 : S41600000.Idx → Elt F .f32)
    (O : CellTallies nD τ sig (HIx 2)) (W : Waits sig (HIx 2)) (v1 : BitVec 32) (t : Fin k0_t1_loop.trips) (h0 : t.val = 0) :
    (relInv d i q0 q1 tb (relG tb tl) f0 O W t.val : sProp (MM F))
    ⊢ wp frame (wpE (defs₀ (F := F)) 𝒱₀ (thr0 d i) none) Set.univ
      (k0_t1_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v1
        (iota .scVector S16 32 [0] iota_S16_d0_w32_scVector) t ())
      fun _ => relInv d i q0 q1 tb (relG tb tl) f0 O W (t.val + 1) := by
  have ht : t.val < 29 := lt_of_lt_of_eq t.isLt t1_trips
  have hw := wid_lt i
  have hwid : wid i = 2 * (i 1).val + (i 0).val := rfl
  have hu : wid i + 32 * 1 + 64 * t.val = wid i + 64 * t.val + 32 := by omega
  unfold relInv
  rw [nB_le i t.val ht, inSt0_lt d i q0 tb t.val ht, inSt0_lt d i q0 tb (t.val + 1) (by omega), nB_le i (t.val + 1) (by omega), outSt0_succ d i (relG tb tl) f0 t.val, outSt1_succ d i (relG tb tl) f0 t.val, outSt0_zero d i _ f0 t.val h0, outSt1_zero d i _ f0 t.val h0]
  have h2 : k0_cond2 i t = 1#1 := (cond2 i t).2 (by omega)
  have h6 : k0_cond6 i t = 1#1 := (cond6 i t).2 (by omega)
  have h5 : k0_cond5 i t = 1#1 := (cond5 i t).2 (by omega)
  have hl := mt (later_iff t).1 (by omega)
  unfold k0_t1_body
  rw [k0_part2_eq_skeleton, k0_part4_eq_skeleton]; unfold k0_part2_skel k0_part4_skel
  simp only [dif_pos (cond3 i t), dif_pos h2, dif_pos h6, dif_pos h5, dif_neg hl, Prog.lift, Prog.bind_op, Prog.bind_ret, Prog.bind_assoc, Prog.pure_eq_ret]
  iintro ⟨#Hmw, Hi0, Hi1, Ho0, Ho1, HO⟩
  iapply (issueIn1 d i q1 tb (wid i + 64 * t.val + 32) (k0_off2 i t) (k0_off2_inb i t h2) (off2_eq i t h2)) $$ Hi1
  iintro Hi1
  iapply (waitIn0 d i q0 tb (wid i + 64 * t.val) (O := O) (W := W)) $$ [Hi0 HO]
  · isplitl [Hi0]; · iexact Hi0
    isplitl [HO]; · iexact HO
    iexact Hmw
  iintro ⟨Hi0, HO⟩
  unfold inDone0 outIdle0
  icases Hi0 with ⟨⟨%offT0, %inbT0, %hoffT0, Hs⟩, Ht, Hv⟩
  icases Ho0 with ⟨Hov, ⟨%sf0, Hf⟩, Hd, Hr⟩
  rw [wp_bind]
  iapply (wp_wand_r Idealize.ShloMosaic.frame (wpE (defs₀ (F := F)) 𝒱₀ (thr0 d i) none) Set.univ)
  isplitl [Hs Hf]
  · iapply (inner0 d i t (cond3 i t) (slabC tb offT0 inbT0) sf0)
    isplitl [Hs]; · iexact Hs
    iexact Hf
  iintro %_ ⟨Hs, ⟨%sf0', %hf0, Hf⟩⟩
  iapply (issueOut0 d i tb tl f0 t.val (by omega) sf0' offT0 inbT0 (by rw [hoffT0]; congr 1) hf0 (k0_off5 i t) (k0_off5_inb i t (cond3 i t)) (off5_eq i t)) $$ [Hov Hf Hd Hr]
  · isplitl [Hov]; · iexact Hov
    isplitl [Hf]; · iexact Hf
    isplitl [Hd]; · iexact Hd
    iexact Hr
  iintro Ho0
  ihave Hi0 := (show iprop((slab0.view.loc (thr0 d i) ↦{fullShare} slabC tb offT0 inbT0) ∗ (tabV.view.loc (thr0 d i) ↦{q0} tb) ∗ semVal (thr0 d i, SemLoc.dma cc0_scratch5.sem) 0) ⊢ inIdle0 (F := F) d i q0 tb from by
    unfold inIdle0
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  iapply (issueIn0 d i q0 tb (wid i + 64 * (t.val + 1)) (k0_off6 i t) (k0_off6_inb i t h5) (by rw [off6_eq i t h5]; rfl)) $$ Hi0
  iintro Hi0
  iapply (waitIn1 d i q1 tb (wid i + 64 * t.val + 32) (O := O) (W := W)) $$ [Hi1 HO]
  · isplitl [Hi1]; · iexact Hi1
    isplitl [HO]; · iexact HO
    iexact Hmw
  iintro ⟨Hi1, HO⟩
  unfold inDone1 outIdle1
  icases Hi1 with ⟨⟨%offT1, %inbT1, %hoffT1, Hs⟩, Ht, Hv⟩
  icases Ho1 with ⟨Hov, ⟨%sf1, Hf⟩, Hd, Hr⟩
  rw [wp_bind]
  iapply (wp_wand_r Idealize.ShloMosaic.frame (wpE (defs₀ (F := F)) 𝒱₀ (thr0 d i) none) Set.univ)
  isplitl [Hs Hf]
  · iapply (inner1 d i t h6 (slabC tb offT1 inbT1) sf1)
    isplitl [Hs]; · iexact Hs
    iexact Hf
  iintro %_ ⟨Hs, ⟨%sf1', %hf1, Hf⟩⟩
  iapply (issueOut1 d i tb tl f0 t.val (by omega) sf1' offT1 inbT1 (by rw [hoffT1, hu]) hf1 (k0_off9 i t) (k0_off9_inb i t h6) (by rw [off9_eq i t h6, hu]; rfl)) $$ [Hov Hf Hd Hr]
  · isplitl [Hov]; · iexact Hov
    isplitl [Hf]; · iexact Hf
    isplitl [Hd]; · iexact Hd
    iexact Hr
  iintro Ho1
  ihave Hi1 := (show iprop((slab1.view.loc (thr0 d i) ↦{fullShare} slabC tb offT1 inbT1) ∗ (tabV.view.loc (thr0 d i) ↦{q1} tb) ∗ semVal (thr0 d i, SemLoc.dma cc0_scratch6.sem) 0) ⊢ inIdle1 (F := F) d i q1 tb from by
    unfold inIdle1
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  rw [wp_ret]
  isplitr; · iexact Hmw
  isplitl [Hi0]; · iexact Hi0
  isplitl [Hi1]; · iexact Hi1
  isplitl [Ho0]; · iexact Ho0
  isplitl [Ho1]; · iexact Ho1
  iexact HO

set_option maxHeartbeats 2000000 in
/-- One trip, neither the first nor the last. -/
theorem t1_trip_m (q0 q1 : PosShare TreeShare) (tb : S26x16x100000.Idx → Elt F .f32) (tl : S13312.Idx → Elt F .f32) (f0 : S41600000.Idx → Elt F .f32)
    (O : CellTallies nD τ sig (HIx 2)) (W : Waits sig (HIx 2)) (v1 : BitVec 32) (t : Fin k0_t1_loop.trips) (t' : Nat) (ht' : t.val = t' + 1) (hC : t.val < 28) :
    (relInv d i q0 q1 tb (relG tb tl) f0 O W t.val : sProp (MM F))
    ⊢ wp frame (wpE (defs₀ (F := F)) 𝒱₀ (thr0 d i) none) Set.univ
      (k0_t1_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v1
        (iota .scVector S16 32 [0] iota_S16_d0_w32_scVector) t ())
      fun _ => relInv d i q0 q1 tb (relG tb tl) f0 O W (t.val + 1) := by
  have ht : t.val < 29 := lt_of_lt_of_eq t.isLt t1_trips
  have hw := wid_lt i
  have hwid : wid i = 2 * (i 1).val + (i 0).val := rfl
  have hu : wid i + 32 * 1 + 64 * t.val = wid i + 64 * t.val + 32 := by omega
  unfold relInv
  rw [nB_le i t.val ht, inSt0_lt d i q0 tb t.val ht, inSt0_lt d i q0 tb (t.val + 1) (by omega), nB_le i (t.val + 1) (by omega), outSt0_succ d i (relG tb tl) f0 t.val, outSt1_succ d i (relG tb tl) f0 t.val, outSt0_at d i _ f0 t.val t' ht', outSt1_at d i _ f0 t.val t' ht']
  have h2 : k0_cond2 i t = 1#1 := (cond2 i t).2 (by omega)
  have h6 : k0_cond6 i t = 1#1 := (cond6 i t).2 (by omega)
  have h5 : k0_cond5 i t = 1#1 := (cond5 i t).2 (by omega)
  have hl := (later_iff t).2 (by omega)
  unfold k0_t1_body
  rw [k0_part2_eq_skeleton, k0_part4_eq_skeleton]; unfold k0_part2_skel k0_part4_skel
  simp only [dif_pos (cond3 i t), dif_pos h2, dif_pos h6, dif_pos h5, dif_pos hl, Prog.lift, Prog.bind_op, Prog.bind_ret, Prog.bind_assoc, Prog.pure_eq_ret]
  iintro ⟨#Hmw, Hi0, Hi1, Ho0, Ho1, HO⟩
  iapply (issueIn1 d i q1 tb (wid i + 64 * t.val + 32) (k0_off2 i t) (k0_off2_inb i t h2) (off2_eq i t h2)) $$ Hi1
  iintro Hi1
  iapply (waitIn0 d i q0 tb (wid i + 64 * t.val) (O := O) (W := W)) $$ [Hi0 HO]
  · isplitl [Hi0]; · iexact Hi0
    isplitl [HO]; · iexact HO
    iexact Hmw
  iintro ⟨Hi0, HO⟩
  iapply (waitOut0 d i (relG tb tl) f0 t' (by omega) (O := O) (W := W)) $$ [Ho0 HO]
  · isplitl [Ho0]; · iexact Ho0
    isplitl [HO]; · iexact HO
    iexact Hmw
  iintro ⟨Ho0, HO⟩
  ihave Ho0 := (Entails.of_eq (congrArg (outIdle0 (F := F) d i (relG tb tl) f0) ht'.symm)) $$ Ho0
  unfold inDone0 outIdle0
  icases Hi0 with ⟨⟨%offT0, %inbT0, %hoffT0, Hs⟩, Ht, Hv⟩
  icases Ho0 with ⟨Hov, ⟨%sf0, Hf⟩, Hd, Hr⟩
  rw [wp_bind]
  iapply (wp_wand_r Idealize.ShloMosaic.frame (wpE (defs₀ (F := F)) 𝒱₀ (thr0 d i) none) Set.univ)
  isplitl [Hs Hf]
  · iapply (inner0 d i t (cond3 i t) (slabC tb offT0 inbT0) sf0)
    isplitl [Hs]; · iexact Hs
    iexact Hf
  iintro %_ ⟨Hs, ⟨%sf0', %hf0, Hf⟩⟩
  iapply (issueOut0 d i tb tl f0 t.val (by omega) sf0' offT0 inbT0 (by rw [hoffT0]; congr 1) hf0 (k0_off5 i t) (k0_off5_inb i t (cond3 i t)) (off5_eq i t)) $$ [Hov Hf Hd Hr]
  · isplitl [Hov]; · iexact Hov
    isplitl [Hf]; · iexact Hf
    isplitl [Hd]; · iexact Hd
    iexact Hr
  iintro Ho0
  ihave Hi0 := (show iprop((slab0.view.loc (thr0 d i) ↦{fullShare} slabC tb offT0 inbT0) ∗ (tabV.view.loc (thr0 d i) ↦{q0} tb) ∗ semVal (thr0 d i, SemLoc.dma cc0_scratch5.sem) 0) ⊢ inIdle0 (F := F) d i q0 tb from by
    unfold inIdle0
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  iapply (issueIn0 d i q0 tb (wid i + 64 * (t.val + 1)) (k0_off6 i t) (k0_off6_inb i t h5) (by rw [off6_eq i t h5]; rfl)) $$ Hi0
  iintro Hi0
  iapply (waitIn1 d i q1 tb (wid i + 64 * t.val + 32) (O := O) (W := W)) $$ [Hi1 HO]
  · isplitl [Hi1]; · iexact Hi1
    isplitl [HO]; · iexact HO
    iexact Hmw
  iintro ⟨Hi1, HO⟩
  iapply (waitOut1 d i (relG tb tl) f0 t' (by omega) (O := O) (W := W)) $$ [Ho1 HO]
  · isplitl [Ho1]; · iexact Ho1
    isplitl [HO]; · iexact HO
    iexact Hmw
  iintro ⟨Ho1, HO⟩
  ihave Ho1 := (Entails.of_eq (congrArg (outIdle1 (F := F) d i (relG tb tl) f0) ht'.symm)) $$ Ho1
  unfold inDone1 outIdle1
  icases Hi1 with ⟨⟨%offT1, %inbT1, %hoffT1, Hs⟩, Ht, Hv⟩
  icases Ho1 with ⟨Hov, ⟨%sf1, Hf⟩, Hd, Hr⟩
  rw [wp_bind]
  iapply (wp_wand_r Idealize.ShloMosaic.frame (wpE (defs₀ (F := F)) 𝒱₀ (thr0 d i) none) Set.univ)
  isplitl [Hs Hf]
  · iapply (inner1 d i t h6 (slabC tb offT1 inbT1) sf1)
    isplitl [Hs]; · iexact Hs
    iexact Hf
  iintro %_ ⟨Hs, ⟨%sf1', %hf1, Hf⟩⟩
  iapply (issueOut1 d i tb tl f0 t.val (by omega) sf1' offT1 inbT1 (by rw [hoffT1, hu]) hf1 (k0_off9 i t) (k0_off9_inb i t h6) (by rw [off9_eq i t h6, hu]; rfl)) $$ [Hov Hf Hd Hr]
  · isplitl [Hov]; · iexact Hov
    isplitl [Hf]; · iexact Hf
    isplitl [Hd]; · iexact Hd
    iexact Hr
  iintro Ho1
  ihave Hi1 := (show iprop((slab1.view.loc (thr0 d i) ↦{fullShare} slabC tb offT1 inbT1) ∗ (tabV.view.loc (thr0 d i) ↦{q1} tb) ∗ semVal (thr0 d i, SemLoc.dma cc0_scratch6.sem) 0) ⊢ inIdle1 (F := F) d i q1 tb from by
    unfold inIdle1
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  rw [wp_ret]
  isplitr; · iexact Hmw
  isplitl [Hi0]; · iexact Hi0
  isplitl [Hi1]; · iexact Hi1
  isplitl [Ho0]; · iexact Ho0
  isplitl [Ho1]; · iexact Ho1
  iexact HO

set_option maxHeartbeats 2000000 in
/-- One trip, the last, of a tile with two units in it. -/
theorem t1_trip_l (q0 q1 : PosShare TreeShare) (tb : S26x16x100000.Idx → Elt F .f32) (tl : S13312.Idx → Elt F .f32) (f0 : S41600000.Idx → Elt F .f32)
    (O : CellTallies nD τ sig (HIx 2)) (W : Waits sig (HIx 2)) (v1 : BitVec 32) (t : Fin k0_t1_loop.trips) (t' : Nat) (ht' : t.val = t' + 1) (hC : t.val = 28) (hB : wid i < 22) :
    (relInv d i q0 q1 tb (relG tb tl) f0 O W t.val : sProp (MM F))
    ⊢ wp frame (wpE (defs₀ (F := F)) 𝒱₀ (thr0 d i) none) Set.univ
      (k0_t1_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v1
        (iota .scVector S16 32 [0] iota_S16_d0_w32_scVector) t ())
      fun _ => relInv d i q0 q1 tb (relG tb tl) f0 O W (t.val + 1) := by
  have ht : t.val < 29 := lt_of_lt_of_eq t.isLt t1_trips
  have hw := wid_lt i
  have hwid : wid i = 2 * (i 1).val + (i 0).val := rfl
  have hu : wid i + 32 * 1 + 64 * t.val = wid i + 64 * t.val + 32 := by omega
  unfold relInv
  rw [nB_le i t.val ht, inSt0_lt d i q0 tb t.val ht, inSt0_ge d i q0 tb (t.val + 1) (by omega), show nB i (t.val + 1) = t.val + 1 by unfold nB; rw [if_pos (by omega)], outSt0_succ d i (relG tb tl) f0 t.val, outSt1_succ d i (relG tb tl) f0 t.val, outSt0_at d i _ f0 t.val t' ht', outSt1_at d i _ f0 t.val t' ht']
  have h2 : k0_cond2 i t = 1#1 := (cond2 i t).2 (by omega)
  have h6 : k0_cond6 i t = 1#1 := (cond6 i t).2 (by omega)
  have h5 : ¬ k0_cond5 i t = 1#1 := fun h => by have := (cond5 i t).1 h; omega
  have hl := (later_iff t).2 (by omega)
  unfold k0_t1_body
  rw [k0_part2_eq_skeleton, k0_part4_eq_skeleton]; unfold k0_part2_skel k0_part4_skel
  simp only [dif_pos (cond3 i t), dif_pos h2, dif_pos h6, dif_neg h5, dif_pos hl, Prog.lift, Prog.bind_op, Prog.bind_ret, Prog.bind_assoc, Prog.pure_eq_ret]
  iintro ⟨#Hmw, Hi0, Hi1, Ho0, Ho1, HO⟩
  iapply (issueIn1 d i q1 tb (wid i + 64 * t.val + 32) (k0_off2 i t) (k0_off2_inb i t h2) (off2_eq i t h2)) $$ Hi1
  iintro Hi1
  iapply (waitIn0 d i q0 tb (wid i + 64 * t.val) (O := O) (W := W)) $$ [Hi0 HO]
  · isplitl [Hi0]; · iexact Hi0
    isplitl [HO]; · iexact HO
    iexact Hmw
  iintro ⟨Hi0, HO⟩
  iapply (waitOut0 d i (relG tb tl) f0 t' (by omega) (O := O) (W := W)) $$ [Ho0 HO]
  · isplitl [Ho0]; · iexact Ho0
    isplitl [HO]; · iexact HO
    iexact Hmw
  iintro ⟨Ho0, HO⟩
  ihave Ho0 := (Entails.of_eq (congrArg (outIdle0 (F := F) d i (relG tb tl) f0) ht'.symm)) $$ Ho0
  unfold inDone0 outIdle0
  icases Hi0 with ⟨⟨%offT0, %inbT0, %hoffT0, Hs⟩, Ht, Hv⟩
  icases Ho0 with ⟨Hov, ⟨%sf0, Hf⟩, Hd, Hr⟩
  rw [wp_bind]
  iapply (wp_wand_r Idealize.ShloMosaic.frame (wpE (defs₀ (F := F)) 𝒱₀ (thr0 d i) none) Set.univ)
  isplitl [Hs Hf]
  · iapply (inner0 d i t (cond3 i t) (slabC tb offT0 inbT0) sf0)
    isplitl [Hs]; · iexact Hs
    iexact Hf
  iintro %_ ⟨Hs, ⟨%sf0', %hf0, Hf⟩⟩
  iapply (issueOut0 d i tb tl f0 t.val (by omega) sf0' offT0 inbT0 (by rw [hoffT0]; congr 1) hf0 (k0_off5 i t) (k0_off5_inb i t (cond3 i t)) (off5_eq i t)) $$ [Hov Hf Hd Hr]
  · isplitl [Hov]; · iexact Hov
    isplitl [Hf]; · iexact Hf
    isplitl [Hd]; · iexact Hd
    iexact Hr
  iintro Ho0
  ihave Hi0 := (show iprop((slab0.view.loc (thr0 d i) ↦{fullShare} slabC tb offT0 inbT0) ∗ (tabV.view.loc (thr0 d i) ↦{q0} tb) ∗ semVal (thr0 d i, SemLoc.dma cc0_scratch5.sem) 0) ⊢ inIdle0 (F := F) d i q0 tb from by
    unfold inIdle0
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  iapply (waitIn1 d i q1 tb (wid i + 64 * t.val + 32) (O := O) (W := W)) $$ [Hi1 HO]
  · isplitl [Hi1]; · iexact Hi1
    isplitl [HO]; · iexact HO
    iexact Hmw
  iintro ⟨Hi1, HO⟩
  iapply (waitOut1 d i (relG tb tl) f0 t' (by omega) (O := O) (W := W)) $$ [Ho1 HO]
  · isplitl [Ho1]; · iexact Ho1
    isplitl [HO]; · iexact HO
    iexact Hmw
  iintro ⟨Ho1, HO⟩
  ihave Ho1 := (Entails.of_eq (congrArg (outIdle1 (F := F) d i (relG tb tl) f0) ht'.symm)) $$ Ho1
  unfold inDone1 outIdle1
  icases Hi1 with ⟨⟨%offT1, %inbT1, %hoffT1, Hs⟩, Ht, Hv⟩
  icases Ho1 with ⟨Hov, ⟨%sf1, Hf⟩, Hd, Hr⟩
  rw [wp_bind]
  iapply (wp_wand_r Idealize.ShloMosaic.frame (wpE (defs₀ (F := F)) 𝒱₀ (thr0 d i) none) Set.univ)
  isplitl [Hs Hf]
  · iapply (inner1 d i t h6 (slabC tb offT1 inbT1) sf1)
    isplitl [Hs]; · iexact Hs
    iexact Hf
  iintro %_ ⟨Hs, ⟨%sf1', %hf1, Hf⟩⟩
  iapply (issueOut1 d i tb tl f0 t.val (by omega) sf1' offT1 inbT1 (by rw [hoffT1, hu]) hf1 (k0_off9 i t) (k0_off9_inb i t h6) (by rw [off9_eq i t h6, hu]; rfl)) $$ [Hov Hf Hd Hr]
  · isplitl [Hov]; · iexact Hov
    isplitl [Hf]; · iexact Hf
    isplitl [Hd]; · iexact Hd
    iexact Hr
  iintro Ho1
  ihave Hi1 := (show iprop((slab1.view.loc (thr0 d i) ↦{fullShare} slabC tb offT1 inbT1) ∗ (tabV.view.loc (thr0 d i) ↦{q1} tb) ∗ semVal (thr0 d i, SemLoc.dma cc0_scratch6.sem) 0) ⊢ inIdle1 (F := F) d i q1 tb from by
    unfold inIdle1
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  rw [wp_ret]
  isplitr; · iexact Hmw
  isplitl [Hi0]; · iexact Hi0
  isplitl [Hi1]; · iexact Hi1
  isplitl [Ho0]; · iexact Ho0
  isplitl [Ho1]; · iexact Ho1
  iexact HO

set_option maxHeartbeats 2000000 in
/-- One trip, the last, of a tile with one unit in it. -/
theorem t1_trip_n (q0 q1 : PosShare TreeShare) (tb : S26x16x100000.Idx → Elt F .f32) (tl : S13312.Idx → Elt F .f32) (f0 : S41600000.Idx → Elt F .f32)
    (O : CellTallies nD τ sig (HIx 2)) (W : Waits sig (HIx 2)) (v1 : BitVec 32) (t : Fin k0_t1_loop.trips) (t' : Nat) (ht' : t.val = t' + 1) (hC : t.val = 28) (hB : 22 ≤ wid i) :
    (relInv d i q0 q1 tb (relG tb tl) f0 O W t.val : sProp (MM F))
    ⊢ wp frame (wpE (defs₀ (F := F)) 𝒱₀ (thr0 d i) none) Set.univ
      (k0_t1_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v1
        (iota .scVector S16 32 [0] iota_S16_d0_w32_scVector) t ())
      fun _ => relInv d i q0 q1 tb (relG tb tl) f0 O W (t.val + 1) := by
  have ht : t.val < 29 := lt_of_lt_of_eq t.isLt t1_trips
  have hw := wid_lt i
  have hwid : wid i = 2 * (i 1).val + (i 0).val := rfl
  have hu : wid i + 32 * 1 + 64 * t.val = wid i + 64 * t.val + 32 := by omega
  unfold relInv
  rw [nB_le i t.val ht, inSt0_lt d i q0 tb t.val ht, inSt0_ge d i q0 tb (t.val + 1) (by omega), show nB i (t.val + 1) = t' + 1 by unfold nB; rw [if_neg (by omega), Nat.add_sub_cancel, ht'], outSt0_succ d i (relG tb tl) f0 t.val, outSt1_succ d i (relG tb tl) f0 t', outSt0_at d i _ f0 t.val t' ht', outSt1_at d i _ f0 t.val t' ht']
  have h2 : ¬ k0_cond2 i t = 1#1 := fun h => by have := (cond2 i t).1 h; omega
  have h6 : ¬ k0_cond6 i t = 1#1 := fun h => by have := (cond6 i t).1 h; omega
  have h5 : ¬ k0_cond5 i t = 1#1 := fun h => by have := (cond5 i t).1 h; omega
  have hl := (later_iff t).2 (by omega)
  unfold k0_t1_body
  rw [k0_part2_eq_skeleton, k0_part4_eq_skeleton]; unfold k0_part2_skel k0_part4_skel
  simp only [dif_pos (cond3 i t), dif_neg h2, dif_neg h6, dif_neg h5, dif_pos hl, Prog.lift, Prog.bind_op, Prog.bind_ret, Prog.bind_assoc, Prog.pure_eq_ret]
  iintro ⟨#Hmw, Hi0, Hi1, Ho0, Ho1, HO⟩
  iapply (waitIn0 d i q0 tb (wid i + 64 * t.val) (O := O) (W := W)) $$ [Hi0 HO]
  · isplitl [Hi0]; · iexact Hi0
    isplitl [HO]; · iexact HO
    iexact Hmw
  iintro ⟨Hi0, HO⟩
  iapply (waitOut0 d i (relG tb tl) f0 t' (by omega) (O := O) (W := W)) $$ [Ho0 HO]
  · isplitl [Ho0]; · iexact Ho0
    isplitl [HO]; · iexact HO
    iexact Hmw
  iintro ⟨Ho0, HO⟩
  ihave Ho0 := (Entails.of_eq (congrArg (outIdle0 (F := F) d i (relG tb tl) f0) ht'.symm)) $$ Ho0
  unfold inDone0 outIdle0
  icases Hi0 with ⟨⟨%offT0, %inbT0, %hoffT0, Hs⟩, Ht, Hv⟩
  icases Ho0 with ⟨Hov, ⟨%sf0, Hf⟩, Hd, Hr⟩
  rw [wp_bind]
  iapply (wp_wand_r Idealize.ShloMosaic.frame (wpE (defs₀ (F := F)) 𝒱₀ (thr0 d i) none) Set.univ)
  isplitl [Hs Hf]
  · iapply (inner0 d i t (cond3 i t) (slabC tb offT0 inbT0) sf0)
    isplitl [Hs]; · iexact Hs
    iexact Hf
  iintro %_ ⟨Hs, ⟨%sf0', %hf0, Hf⟩⟩
  iapply (issueOut0 d i tb tl f0 t.val (by omega) sf0' offT0 inbT0 (by rw [hoffT0]; congr 1) hf0 (k0_off5 i t) (k0_off5_inb i t (cond3 i t)) (off5_eq i t)) $$ [Hov Hf Hd Hr]
  · isplitl [Hov]; · iexact Hov
    isplitl [Hf]; · iexact Hf
    isplitl [Hd]; · iexact Hd
    iexact Hr
  iintro Ho0
  ihave Hi0 := (show iprop((slab0.view.loc (thr0 d i) ↦{fullShare} slabC tb offT0 inbT0) ∗ (tabV.view.loc (thr0 d i) ↦{q0} tb) ∗ semVal (thr0 d i, SemLoc.dma cc0_scratch5.sem) 0) ⊢ inIdle0 (F := F) d i q0 tb from by
    unfold inIdle0
    iintro ⟨Hs, Ht, Hv⟩
    isplitl [Hs]; · iexists _; iexact Hs
    isplitl [Ht]; · iexact Ht
    iexact Hv) $$ [Hs Ht Hv]
  · isplitl [Hs]; · iexact Hs
    isplitl [Ht]; · iexact Ht
    iexact Hv
  rw [wp_ret]
  isplitr; · iexact Hmw
  isplitl [Hi0]; · iexact Hi0
  isplitl [Hi1]; · iexact Hi1
  isplitl [Ho0]; · iexact Ho0
  isplitl [Ho1]; · iexact Ho1
  iexact HO

set_option maxHeartbeats 2000000 in
/-- One trip keeps the invariant. -/
theorem t1_trip (q0 q1 : PosShare TreeShare) (tb : S26x16x100000.Idx → Elt F .f32) (tl : S13312.Idx → Elt F .f32) (f0 : S41600000.Idx → Elt F .f32)
    (O : CellTallies nD τ sig (HIx 2)) (W : Waits sig (HIx 2)) (v1 : BitVec 32) (t : Fin k0_t1_loop.trips) :
    (relInv d i q0 q1 tb (relG tb tl) f0 O W t.val : sProp (MM F))
    ⊢ wp frame (wpE (defs₀ (F := F)) 𝒱₀ (thr0 d i) none) Set.univ
      (k0_t1_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 v1
        (iota .scVector S16 32 [0] iota_S16_d0_w32_scVector) t ())
      fun _ => relInv d i q0 q1 tb (relG tb tl) f0 O W (t.val + 1) := by
  have ht : t.val < 29 := lt_of_lt_of_eq t.isLt t1_trips
  by_cases h0 : t.val = 0
  · exact t1_trip_z d i q0 q1 tb tl f0 O W v1 t h0
  obtain ⟨t', ht'⟩ : ∃ t', t.val = t' + 1 := ⟨t.val - 1, by omega⟩
  by_cases hC : t.val < 28
  · exact t1_trip_m d i q0 q1 tb tl f0 O W v1 t t' ht' hC
  by_cases hB : wid i < 22
  · exact t1_trip_l d i q0 q1 tb tl f0 O W v1 t t' ht' (by omega) hB
  · exact t1_trip_n d i q0 q1 tb tl f0 O W v1 t t' ht' (by omega) (by omega)

end Cert.Proof
-- ==== Proof.RelayTile.lean ====
/-
  The relayout call's whole tile. One trip of its loop works two units, their fetches and write-backs in flight across trips;
  at the end every position the tile owns holds what the flat result does.
-/
module

public import proofs.«01_k».proof.Proof.Relay

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (d : Dev nD) (i : grid0.Coords)

/-- Every last turn of parity one landed. -/
theorem outIdle1_end (G f0 : S41600000.Idx → Elt F .f32) :
    (outIdle1 d i G f0 (nB i 29) : sProp (MM F)) ⊢ outIdle1 d i G f0 29 := by
  unfold nB
  by_cases h : wid i + 64 * (29 - 1) + 32 < 1846
  · rw [if_pos h]
  · rw [if_neg h]
    have e : Eset (wid i) 1 28 29 = ∅ := Eset_last (wid i) (by omega)
    have e2 : Eset (wid i) 1 0 28 = Eset (wid i) 1 0 29 := by
      rw [← Eset_union (wid i) 1 0 28 29 (by omega) (by omega), e, Finset.union_empty]
    unfold outIdle1
    rw [Eset_self, ← e2, show 29 - 1 = 28 from rfl, e]

/-- The tile's tail copied, or there is none. -/
theorem tail_end (tb : S26x16x100000.Idx → Elt F .f32) (tl : S13312.Idx → Elt F .f32) (off : Fin 1 → Nat) (inb) (hoff : off = ![512 * wid i])
    (off' : Fin 1 → Nat) (inb') (hoff' : off' = ![1600000 * wid i + 1599488]) (hw : wid i < 26) (x : S512.Idx) :
    tl ((Rect.unit (s := S13312) off S512.size inb).emb x) = relG tb tl ((Rect.unit (s := S41600000) off' S512.size inb').emb x) := by
  subst hoff; subst hoff'
  have hx : (x 0).val < 512 := (x 0).isLt
  have he : (((Rect.unit (s := S41600000) ![1600000 * wid i + 1599488] S512.size inb').emb x) 0).val = 1600000 * wid i + 1599488 + 1 * (x 0).val := rfl
  have he2 : (((Rect.unit (s := S13312) ![512 * wid i] S512.size inb).emb x) 0).val = 512 * wid i + 1 * (x 0).val := rfl
  generalize (Rect.unit (s := S41600000) ![1600000 * wid i + 1599488] S512.size inb').emb x = z at he
  generalize (Rect.unit (s := S13312) ![512 * wid i] S512.size inb).emb x = z2 at he2
  unfold relG
  rw [dif_neg (by rw [he]; omega)]
  congr 1
  funext a
  have ha : a = 0 := Fin.eq_zero a
  subst ha
  apply Fin.ext
  show (z2 0).val = (z 0).val / 1600000 * 512 + ((z 0).val % 1600000 - 1599488)
  rw [he2, he]; omega

/-- The tile's part of the tail list; the place of the tile's tail. -/
abbrev tailS (h8 : k0_cond8 i = 1#1) : Memref sig .scVector .hbm S512 .f32 := tailV.slice (Rect.unit (s := S13312) (k0_off10 i) S512.size (k0_off10_inb i h8)) (fun _ => rfl)
abbrev tailD (h8 : k0_cond8 i = 1#1) : Memref sig .scVector .hbm S512 .f32 := outV.slice (Rect.unit (s := S41600000) (k0_off11 i) S512.size (k0_off11_inb i h8)) (fun _ => rfl)

/-- What the tile holds besides the arrays: its slabs, stages and tail buffer, its six semaphores at zero. -/
def scr0 : sProp (MM F) :=
  iprop((∃ g : S16x1408.Idx → Elt F .f32, slab0.view.loc (thr0 d i) ↦{fullShare} g) ∗ (∃ g : S16x1408.Idx → Elt F .f32, slab1.view.loc (thr0 d i) ↦{fullShare} g)
    ∗ (∃ f : S22528.Idx → Elt F .f32, stage0.view.loc (thr0 d i) ↦{fullShare} f) ∗ (∃ f : S22528.Idx → Elt F .f32, stage1.view.loc (thr0 d i) ↦{fullShare} f)
    ∗ (∃ f : S512.Idx → Elt F .f32, tbufV.view.loc (thr0 d i) ↦{fullShare} f)
    ∗ semVal (thr0 d i, SemLoc.dma cc0_scratch5.sem) 0 ∗ semVal (thr0 d i, SemLoc.dma cc0_scratch6.sem) 0 ∗ semVal (thr0 d i, SemLoc.dma cc0_scratch7.sem) 0
    ∗ semVal (thr0 d i, SemLoc.dma cc0_scratch8.sem) 0 ∗ semVal (thr0 d i, SemLoc.dma cc0_scoped0.sem) 0 ∗ semVal (thr0 d i, SemLoc.dma cc0_scoped1.sem) 0)

theorem scr0_eq : (scr0 d i : sProp (MM F)) = iprop((∃ g : S16x1408.Idx → Elt F .f32, slab0.view.loc (thr0 d i) ↦{fullShare} g) ∗ (∃ g : S16x1408.Idx → Elt F .f32, slab1.view.loc (thr0 d i) ↦{fullShare} g)
    ∗ (∃ f : S22528.Idx → Elt F .f32, stage0.view.loc (thr0 d i) ↦{fullShare} f) ∗ (∃ f : S22528.Idx → Elt F .f32, stage1.view.loc (thr0 d i) ↦{fullShare} f)
    ∗ (∃ f : S512.Idx → Elt F .f32, tbufV.view.loc (thr0 d i) ↦{fullShare} f)
    ∗ semVal (thr0 d i, SemLoc.dma cc0_scratch5.sem) 0 ∗ semVal (thr0 d i, SemLoc.dma cc0_scratch6.sem) 0 ∗ semVal (thr0 d i, SemLoc.dma cc0_scratch7.sem) 0
    ∗ semVal (thr0 d i, SemLoc.dma cc0_scratch8.sem) 0 ∗ semVal (thr0 d i, SemLoc.dma cc0_scoped0.sem) 0 ∗ semVal (thr0 d i, SemLoc.dma cc0_scoped1.sem) 0) := rfl

set_option maxHeartbeats 2000000 in
/-- The tile's run: from its read shares of the table and the tails, its own positions of the flat result come to
    hold what the flat result does. -/
theorem tile0 (q0 q1 q2 : PosShare TreeShare) (tb : S26x16x100000.Idx → Elt F .f32) (tl : S13312.Idx → Elt F .f32) (f0 : S41600000.Idx → Elt F .f32)
    (O : CellTallies nD τ sig (HIx 2)) (W : Waits sig (HIx 2)) :
    (iprop(Transfers.MayWaits (thr0 d i) none O ∗ (tabV.view.loc (thr0 d i) ↦{q0} tb) ∗ (tabV.view.loc (thr0 d i) ↦{q1} tb) ∗ (tailV.view.loc (thr0 d i) ↦{q2} tl)
      ∗ (outV.view.loc (thr0 d i) ↦[Eset (wid i) 0 0 29]{fullShare} f0) ∗ (outV.view.loc (thr0 d i) ↦[Eset (wid i) 1 0 29]{fullShare} f0) ∗ (outV.view.loc (thr0 d i) ↦[Tset (wid i)]{fullShare} f0)
      ∗ scr0 d i ∗ Owe (thr0 d i) O W) : sProp (MM F))
    ⊢ wp frame (wpE (defs₀ (F := F)) 𝒱₀ (thr0 d i) none) Set.univ
      (cc0__sc_relayout_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1)
      fun _ => iprop((tabV.view.loc (thr0 d i) ↦{q0} tb) ∗ (tabV.view.loc (thr0 d i) ↦{q1} tb) ∗ (tailV.view.loc (thr0 d i) ↦{q2} tl)
      ∗ (outV.view.loc (thr0 d i) ↦[Eset (wid i) 0 0 29]{fullShare} relG tb tl) ∗ (outV.view.loc (thr0 d i) ↦[Eset (wid i) 1 0 29]{fullShare} relG tb tl) ∗ (outV.view.loc (thr0 d i) ↦[Tset (wid i)]{fullShare} relG tb tl)
      ∗ scr0 d i ∗ Owe (thr0 d i) O W) := by
  have hw := wid_lt i
  have hwid : wid i = 2 * (i 1).val + (i 0).val := rfl
  rw [cc0__sc_relayout_body_eq_skeleton]; unfold cc0__sc_relayout_body_skel
  have hfin : (iprop((tabV.view.loc (thr0 d i) ↦{q0} tb) ∗ (∃ g : S16x1408.Idx → Elt F .f32, slab0.view.loc (thr0 d i) ↦{fullShare} g) ∗ semVal (thr0 d i, SemLoc.dma cc0_scratch5.sem) 0
      ∗ inIdle1 d i q1 tb ∗ outIdle0 d i (relG tb tl) f0 29 ∗ outIdle1 d i (relG tb tl) f0 29
      ∗ (tailV.view.loc (thr0 d i) ↦{q2} tl) ∗ (outV.view.loc (thr0 d i) ↦[Tset (wid i)]{fullShare} relG tb tl) ∗ (∃ f : S512.Idx → Elt F .f32, tbufV.view.loc (thr0 d i) ↦{fullShare} f)
      ∗ semVal (thr0 d i, SemLoc.dma cc0_scoped0.sem) 0 ∗ semVal (thr0 d i, SemLoc.dma cc0_scoped1.sem) 0 ∗ Owe (thr0 d i) O W) : sProp (MM F))
      ⊢ iprop((tabV.view.loc (thr0 d i) ↦{q0} tb) ∗ (tabV.view.loc (thr0 d i) ↦{q1} tb) ∗ (tailV.view.loc (thr0 d i) ↦{q2} tl)
      ∗ (outV.view.loc (thr0 d i) ↦[Eset (wid i) 0 0 29]{fullShare} relG tb tl) ∗ (outV.view.loc (thr0 d i) ↦[Eset (wid i) 1 0 29]{fullShare} relG tb tl) ∗ (outV.view.loc (thr0 d i) ↦[Tset (wid i)]{fullShare} relG tb tl)
      ∗ scr0 d i ∗ Owe (thr0 d i) O W) := by
    unfold inIdle1 outIdle0 outIdle1 scr0
    iintro ⟨Ht0, Hs0, Hv5, ⟨Hs1, Ht1, Hv6⟩, ⟨Hv7, Hf0, Hd0, -⟩, ⟨Hv8, Hf1, Hd1, -⟩, Htl, HT, Hb, Hc0, Hc1, HO⟩
    isplitl [Ht0]; · iexact Ht0
    isplitl [Ht1]; · iexact Ht1
    isplitl [Htl]; · iexact Htl
    isplitl [Hd0]; · iexact Hd0
    isplitl [Hd1]; · iexact Hd1
    isplitl [HT]; · iexact HT
    isplitr [HO]
    · isplitl [Hs0]; · iexact Hs0
      isplitl [Hs1]; · iexact Hs1
      isplitl [Hf0]; · iexact Hf0
      isplitl [Hf1]; · iexact Hf1
      isplitl [Hb]; · iexact Hb
      isplitl [Hv5]; · iexact Hv5
      isplitl [Hv6]; · iexact Hv6
      isplitl [Hv7]; · iexact Hv7
      isplitl [Hv8]; · iexact Hv8
      isplitl [Hc0]; · iexact Hc0
      iexact Hc1
    · iexact HO
  have hinv0 : (iprop(Transfers.MayWaits (thr0 d i) none O ∗ inFl0 d i q0 tb (wid i) ∗ inIdle1 d i q1 tb ∗ outIdle0 d i (relG tb tl) f0 0 ∗ outIdle1 d i (relG tb tl) f0 0 ∗ Owe (thr0 d i) O W) : sProp (MM F))
      ⊢ relInv d i q0 q1 tb (relG tb tl) f0 O W 0 := by
    unfold relInv
    rw [nB_le i 0 (by omega), inSt0_lt d i q0 tb 0 (by omega), outSt0_zero d i _ f0 0 rfl, outSt1_zero d i _ f0 0 rfl]
    exact Entails.rfl
  have hinv29 : (relInv d i q0 q1 tb (relG tb tl) f0 O W k0_t1_loop.trips : sProp (MM F))
      ⊢ iprop(Transfers.MayWaits (thr0 d i) none O ∗ inIdle0 d i q0 tb ∗ inIdle1 d i q1 tb ∗ outFl0 d i (relG tb tl) f0 28 ∗ outFl1 d i (relG tb tl) f0 (nB i 29 - 1) ∗ Owe (thr0 d i) O W) := by
    rw [t1_trips]
    unfold relInv
    rw [inSt0_ge d i q0 tb 29 (by omega)]
    obtain ⟨n, hn⟩ : ∃ n, nB i 29 = n + 1 := ⟨nB i 29 - 1, by unfold nB; split <;> omega⟩
    rw [hn, outSt1_succ, show (29 : Nat) = 28 + 1 from rfl, outSt0_succ, Nat.add_sub_cancel]
  have hnB : nB i 29 - 1 + 1 = nB i 29 := by unfold nB; split <;> omega
  have hn29 : nB i 29 - 1 < 29 := by unfold nB; split <;> omega
  have hfor := Scf.wp_for frame (wpE (defs₀ (F := F)) 𝒱₀ (thr0 d i) none) Set.univ (M := MM F) _ _ _ k0_t1_ok ()
    (k0_t1_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1 (Scalar.addi (Scalar.muli (BitVec.ofNat 32 (i 1).val) 2#32) (BitVec.ofNat 32 (i 0).val))
        (iota .scVector S16 32 [0] iota_S16_d0_w32_scVector)) (fun (r : Nat) (_ : Unit) => relInv d i q0 q1 tb (relG tb tl) f0 O W r)
    (fun t _ => t1_trip d i q0 q1 tb tl f0 O W _ t) (Q := fun _ => relInv d i q0 q1 tb (relG tb tl) f0 O W k0_t1_loop.trips)
  by_cases h8 : k0_cond8 i = 1#1
  · simp only [dif_pos (cond1 i), dif_pos h8, Prog.lift, Prog.bind_op, Prog.bind_ret, Prog.bind_assoc, Prog.pure_eq_ret]
    iintro ⟨#Hmw, Ht0, Ht1, Htl, Hd0, Hd1, HT, Hscr, HO⟩
    icases (Entails.of_eq (scr0_eq d i)) $$ Hscr with ⟨Hs0, Hs1, Hf0, Hf1, Hb, Hv5, Hv6, Hv7, Hv8, Hc0, Hc1⟩
    ihave Hi0 := (show iprop((∃ g : S16x1408.Idx → Elt F .f32, slab0.view.loc (thr0 d i) ↦{fullShare} g) ∗ (tabV.view.loc (thr0 d i) ↦{q0} tb) ∗ semVal (thr0 d i, SemLoc.dma cc0_scratch5.sem) 0) ⊢ inIdle0 (F := F) d i q0 tb from by unfold inIdle0; exact Entails.rfl) $$ [Hs0 Ht0 Hv5]
    · isplitl [Hs0]; · iexact Hs0
      isplitl [Ht0]; · iexact Ht0
      iexact Hv5
    iapply (issueIn0 d i q0 tb (wid i) (k0_off1 i) (k0_off1_inb i (cond1 i)) (off1_eq i)) $$ Hi0
    iintro Hi0
    rw [wp_bind]
    iapply (wp_wand_r Idealize.ShloMosaic.frame (wpE (defs₀ (F := F)) 𝒱₀ (thr0 d i) none) Set.univ (Q := fun _ => relInv d i q0 q1 tb (relG tb tl) f0 O W k0_t1_loop.trips))
    isplitl [Hi0 Hs1 Ht1 Hv6 Hd0 Hf0 Hv7 Hd1 Hf1 Hv8 HO]
    · iapply hfor
      isplitr []
      · iapply hinv0
        isplitr; · iexact Hmw
        isplitl [Hi0]; · iexact Hi0
        isplitl [Hs1 Ht1 Hv6]
        · unfold inIdle1
          isplitl [Hs1]; · iexact Hs1
          isplitl [Ht1]; · iexact Ht1
          iexact Hv6
        isplitl [Hd0 Hf0 Hv7]
        · unfold outIdle0
          rw [Eset_self, pointsTo_empty]
          isplitl [Hv7]; · iexact Hv7
          isplitl [Hf0]; · iexact Hf0
          isplitr; · iempintro
          iexact Hd0
        isplitl [Hd1 Hf1 Hv8]
        · unfold outIdle1
          rw [Eset_self, pointsTo_empty]
          isplitl [Hv8]; · iexact Hv8
          isplitl [Hf1]; · iexact Hf1
          isplitr; · iempintro
          iexact Hd1
        iexact HO
      · iintro %_ H; iexact H
    iintro %_ H
    icases hinv29 $$ H with ⟨-, Hi0, Hi1, Ho0, Ho1, HO⟩
    iapply (waitOut0 d i (relG tb tl) f0 28 (by omega) (O := O) (W := W)) $$ [Ho0 HO]
    · isplitl [Ho0]; · iexact Ho0
      isplitl [HO]; · iexact HO
      iexact Hmw
    iintro ⟨Ho0, HO⟩
    iapply (waitOut1 d i (relG tb tl) f0 (nB i 29 - 1) hn29 (O := O) (W := W)) $$ [Ho1 HO]
    · isplitl [Ho1]; · iexact Ho1
      isplitl [HO]; · iexact HO
      iexact Hmw
    iintro ⟨Ho1, HO⟩
    rw [hnB]
    ihave Ho1 := (outIdle1_end d i (relG tb tl) f0) $$ Ho1
    have hw26 : wid i < 26 := by have := (cond8 i).1 h8; omega
    have ho10 : k0_off10 i = ![512 * wid i] := by rw [k0_off10_eq, hwid]; congr 1; omega
    have ho11 : k0_off11 i = ![1600000 * wid i + 1599488] := by rw [k0_off11_eq, hwid]; congr 1; omega
    have hset : (tailD i h8).view.set = Tset (wid i) := by
      rw [← Tset_window (wid i) hw26 (k0_off11 i) ho11 (k0_off11_inb i h8)]
      exact View.set_slice_whole _ _
    icases Hb with ⟨%b, Hb⟩
    ihave Htl := ((pointsTo_split_subset (q := q2) (f := tl) (ℓ := tailV.view.loc (thr0 d i)) (Finset.subset_univ (tailS i h8).view.set)).1) $$ Htl
    icases Htl with ⟨Htl, Hrest⟩
    iapply (Transfers.wp_dmaLocal (EC (F := F)) 𝒱₀ (thr0 d i) none (src := tailS i h8) (dst := tbufV) (q := q2) (fs := tl) (Sd := Finset.univ) (fd := b)
      none (tbufV.view.amount (.dma cc0_scoped0.sem)) rfl (View.amount_pos _ _ (show 0 < S512.numel by decide)) (Finset.subset_univ _)) $$ [Htl Hb Hc0]
    · isplitl [Htl]; · iexact Htl
      isplitl [Hb]; · iexact Hb
      iexact Hc0
    iintro HF
    iapply (wp_waitF (thr0 d i) (N := tbufV.view.amount (.dma cc0_scoped0.sem)) rfl) $$ [HF HO]
    · isplitl [HF]; · iexact HF
      isplitl [HO]; · iexact HO
      iexact Hmw
    iintro ⟨⟨Hb, Htl⟩, Hc0, HO⟩
    ihave Htl := ((pointsTo_split_subset (q := q2) (f := tl) (ℓ := tailV.view.loc (thr0 d i)) (Finset.subset_univ (tailS i h8).view.set)).2) $$ [Htl Hrest]
    · isplitl [Htl]; · iexact Htl
      iexact Hrest
    ihave Hb := (Entails.of_eq (show (tbufV.view.loc (thr0 d i) ↦{fullShare} tbufV.view.write (Elt F) b (ReadAs.same.apply ((tailS i h8).view.read (Elt F) tl)) Finset.univ : sProp (MM F))
      = (tbufV.view.loc (thr0 d i) ↦[tbufV.view.set]{fullShare} ((tailS i h8).view.read (Elt F) tl)) by
        rw [View.set_whole]
        exact pointsTo_congr fun y _ => congrFun (View.write_whole_univ (Val := Elt F) cc0_scratch4 b ((tailS i h8).view.read (Elt F) tl)) y)) $$ Hb
    iapply (Transfers.wp_dmaLocal (EC (F := F)) 𝒱₀ (thr0 d i) none (src := tbufV) (dst := tailD i h8) (q := fullShare) (fs := (tailS i h8).view.read (Elt F) tl) (Sd := Tset (wid i)) (fd := f0)
      none ((tailD i h8).view.amount (.dma cc0_scoped1.sem)) rfl (View.amount_pos _ _ (show 0 < S512.numel by decide)) (hset ▸ Finset.Subset.refl _)) $$ [HT Hb Hc1]
    · isplitl [Hb]; · iexact Hb
      isplitl [HT]; · iexact HT
      iexact Hc1
    iintro HF
    iapply (wp_waitF (thr0 d i) (N := (tailD i h8).view.amount (.dma cc0_scoped1.sem)) rfl) $$ [HF HO]
    · isplitl [HF]; · iexact HF
      isplitl [HO]; · iexact HO
      iexact Hmw
    iintro ⟨⟨HT, Hb⟩, Hc1, HO⟩
    rw [wp_ret]
    imodintro
    iapply hfin
    unfold inIdle0
    icases Hi0 with ⟨Hs0, Ht0, Hv5⟩
    isplitl [Ht0]; · iexact Ht0
    isplitl [Hs0]; · iexact Hs0
    isplitl [Hv5]; · iexact Hv5
    isplitl [Hi1]; · iexact Hi1
    isplitl [Ho0]; · iexact Ho0
    isplitl [Ho1]; · iexact Ho1
    isplitl [Htl]; · iexact Htl
    isplitl [HT]
    · iapply (Entails.of_eq (pointsTo_congr (fun y hy => ?_))) $$ HT
      rw [← hset] at hy
      obtain ⟨x, -, hx⟩ := Finset.mem_map.mp hy
      subst hx
      refine (View.write_emb_of_mem (v := (tailD i h8).view) (Val := Elt F) f0 _ (Finset.mem_univ x)).trans ?_
      refine (cast_eq _ _).trans ?_
      exact tail_end i tb tl (k0_off10 i) (k0_off10_inb i h8) ho10 (k0_off11 i) (k0_off11_inb i h8) ho11 hw26 x
    isplitl [Hb]
    · iexists ((tailS i h8).view.read (Elt F) tl)
      iapply (Entails.of_eq (show (tbufV.view.loc (thr0 d i) ↦[tbufV.view.set]{fullShare} ((tailS i h8).view.read (Elt F) tl) : sProp (MM F)) = (tbufV.view.loc (thr0 d i) ↦{fullShare} ((tailS i h8).view.read (Elt F) tl)) by rw [View.set_whole])) $$ Hb
    isplitl [Hc0]; · iexact Hc0
    isplitl [Hc1]; · iexact Hc1
    iexact HO
  · simp only [dif_pos (cond1 i), dif_neg h8, Prog.lift, Prog.bind_op, Prog.bind_ret, Prog.bind_assoc, Prog.pure_eq_ret]
    iintro ⟨#Hmw, Ht0, Ht1, Htl, Hd0, Hd1, HT, Hscr, HO⟩
    icases (Entails.of_eq (scr0_eq d i)) $$ Hscr with ⟨Hs0, Hs1, Hf0, Hf1, Hb, Hv5, Hv6, Hv7, Hv8, Hc0, Hc1⟩
    ihave Hi0 := (show iprop((∃ g : S16x1408.Idx → Elt F .f32, slab0.view.loc (thr0 d i) ↦{fullShare} g) ∗ (tabV.view.loc (thr0 d i) ↦{q0} tb) ∗ semVal (thr0 d i, SemLoc.dma cc0_scratch5.sem) 0) ⊢ inIdle0 (F := F) d i q0 tb from by unfold inIdle0; exact Entails.rfl) $$ [Hs0 Ht0 Hv5]
    · isplitl [Hs0]; · iexact Hs0
      isplitl [Ht0]; · iexact Ht0
      iexact Hv5
    iapply (issueIn0 d i q0 tb (wid i) (k0_off1 i) (k0_off1_inb i (cond1 i)) (off1_eq i)) $$ Hi0
    iintro Hi0
    rw [wp_bind]
    iapply (wp_wand_r Idealize.ShloMosaic.frame (wpE (defs₀ (F := F)) 𝒱₀ (thr0 d i) none) Set.univ (Q := fun _ => relInv d i q0 q1 tb (relG tb tl) f0 O W k0_t1_loop.trips))
    isplitl [Hi0 Hs1 Ht1 Hv6 Hd0 Hf0 Hv7 Hd1 Hf1 Hv8 HO]
    · iapply hfor
      isplitr []
      · iapply hinv0
        isplitr; · iexact Hmw
        isplitl [Hi0]; · iexact Hi0
        isplitl [Hs1 Ht1 Hv6]
        · unfold inIdle1
          isplitl [Hs1]; · iexact Hs1
          isplitl [Ht1]; · iexact Ht1
          iexact Hv6
        isplitl [Hd0 Hf0 Hv7]
        · unfold outIdle0
          rw [Eset_self, pointsTo_empty]
          isplitl [Hv7]; · iexact Hv7
          isplitl [Hf0]; · iexact Hf0
          isplitr; · iempintro
          iexact Hd0
        isplitl [Hd1 Hf1 Hv8]
        · unfold outIdle1
          rw [Eset_self, pointsTo_empty]
          isplitl [Hv8]; · iexact Hv8
          isplitl [Hf1]; · iexact Hf1
          isplitr; · iempintro
          iexact Hd1
        iexact HO
      · iintro %_ H; iexact H
    iintro %_ H
    icases hinv29 $$ H with ⟨-, Hi0, Hi1, Ho0, Ho1, HO⟩
    iapply (waitOut0 d i (relG tb tl) f0 28 (by omega) (O := O) (W := W)) $$ [Ho0 HO]
    · isplitl [Ho0]; · iexact Ho0
      isplitl [HO]; · iexact HO
      iexact Hmw
    iintro ⟨Ho0, HO⟩
    iapply (waitOut1 d i (relG tb tl) f0 (nB i 29 - 1) hn29 (O := O) (W := W)) $$ [Ho1 HO]
    · isplitl [Ho1]; · iexact Ho1
      isplitl [HO]; · iexact HO
      iexact Hmw
    iintro ⟨Ho1, HO⟩
    rw [hnB]
    ihave Ho1 := (outIdle1_end d i (relG tb tl) f0) $$ Ho1
    rw [wp_ret]
    imodintro
    iapply hfin
    unfold inIdle0
    icases Hi0 with ⟨Hs0, Ht0, Hv5⟩
    isplitl [Ht0]; · iexact Ht0
    isplitl [Hs0]; · iexact Hs0
    isplitl [Hv5]; · iexact Hv5
    isplitl [Hi1]; · iexact Hi1
    isplitl [Ho0]; · iexact Ho0
    isplitl [Ho1]; · iexact Ho1
    isplitl [Htl]; · iexact Htl
    isplitr
    · rw [Tset_none (wid i) (by have := mt (cond8 i).2 h8; omega), pointsTo_empty]; iempintro
    isplitl [Hb]; · iexact Hb
    isplitl [Hc0]; · iexact Hc0
    isplitl [Hc1]; · iexact Hc1
    iexact HO

end Cert.Proof
-- ==== Proof.GatherMath.lean ====
/-
  The gather call's row numbers: what one trip of the index loop adds to sixteen indices, the gathered array, the
  positions each tile writes of it.
-/
module

public import proofs.«01_k».proof.Proof.Base
public import Idealize.ShloMosaic.Lib.SparseCore.FromWhole
public import Idealize.ShloMosaic.Lib.Pipeline.Value

@[expose] public section

set_option maxRecDepth 65536

noncomputable section

namespace Cert.Proof

open Cert.KernelIdeal Cert.KernelIdeal.Gen
open Idealize.ShloMosaic
open Idealize.ShloMosaic.SparseCore (S V T)

variable {F : FTy → Type} [FloatOps F]

abbrev iotaV : IVec S16 32 := iota .scVector S16 32 [0] iota_S16_d0_w32_scVector

theorem k1_trips : k1_t1_loop.trips = 832 := by decide +kernel

/-- The offsets one trip adds: lane `x` of trip `t` is at position `16 t + x`, in field `(16 t + x) % 26`. -/
theorem offs_lane : ∀ (t : Fin k1_t1_loop.trips) (x : S16.Idx),
    k1_pay1 (F := fun _ => Unit) iotaV 0#32 1#32 t (fun _ => (0#32 : BitVec 32)) x
      = BitVec.ofNat 32 ((16 * t.val + (x 0).val) % 26 * 100000) := by decide +kernel

/-- A trip's stored vector: the sixteen indices read, each with its field's offset added. -/
theorem pay_lane (t : Fin k1_t1_loop.trips) (v : IVec S16 32) (x : S16.Idx) :
    k1_pay2 (k1_pay1 (F := F) iotaV 0#32 1#32 t v) x = v x + BitVec.ofNat 32 ((16 * t.val + (x 0).val) % 26 * 100000) := by
  have h := offs_lane t x
  unfold k1_pay2
  rw [shapeCast_self]
  rw [← h]
  show shapeCast S16 v shapeCasts_S16_S16 x + _ = v x + (shapeCast S16 (fun _ => (0#32 : BitVec 32)) shapeCasts_S16_S16 x + _)
  rw [shapeCast_self, shapeCast_self]
  exact congrArg (v x + ·) (BitVec.zero_add _).symm

/-- The row numbers tile `w` gathers: its 13312 indices, each with its field's offset added. -/
def fixI (w : Nat) (ix : S425984.Idx → BitVec 32) : S13312.Idx → BitVec 32 := fun x =>
  ix (ix1 ⟨(13312 * w + (x 0).val) % 425984, Nat.mod_lt _ (by decide)⟩) + BitVec.ofNat 32 ((x 0).val % 26 * 100000)

/-- The list after the loop's first positions below `n`: those fixed, the rest as fetched. -/
def midI (w : Nat) (ix : S425984.Idx → BitVec 32) (n : Nat) : S13312.Idx → BitVec 32 := fun x =>
  if (x 0).val < n then fixI w ix x else ix (ix1 ⟨(13312 * w + (x 0).val) % 425984, Nat.mod_lt _ (by decide)⟩)

theorem midI_all (w : Nat) (ix : S425984.Idx → BitVec 32) : midI w ix 13312 = fixI w ix := by
  funext x; exact if_pos (show (x 0).val < 13312 from (x 0).isLt)

/-- Every index is a row of its table. -/
def InRange (ix : S425984.Idx → BitVec 32) : Prop := ∀ p, (ix p).toNat < 100000

theorem fixI_toNat (w : Nat) (ix : S425984.Idx → BitVec 32) (h : InRange ix) (x : S13312.Idx) :
    (fixI w ix x).toNat = (ix (ix1 ⟨(13312 * w + (x 0).val) % 425984, Nat.mod_lt _ (by decide)⟩)).toNat + (x 0).val % 26 * 100000 := by
  unfold fixI
  have h1 := h (ix1 ⟨(13312 * w + (x 0).val) % 425984, Nat.mod_lt _ (by decide)⟩)
  have h2 : (x 0).val % 26 * 100000 ≤ 2500000 := by have := Nat.mod_lt (x 0).val (show 0 < 26 by decide); omega
  rw [BitVec.toNat_add, BitVec.toNat_ofNat, Nat.mod_eq_of_lt (show (x 0).val % 26 * 100000 < 2 ^ 32 by omega), Nat.mod_eq_of_lt (by omega)]

theorem fixI_lt (w : Nat) (ix : S425984.Idx → BitVec 32) (h : InRange ix) (x : S13312.Idx) : (fixI w ix x).toNat < 2600000 := by
  rw [fixI_toNat w ix h x]
  have h1 := h (ix1 ⟨(13312 * w + (x 0).val) % 425984, Nat.mod_lt _ (by decide)⟩)
  have := Nat.mod_lt (x 0).val (show 0 < 26 by decide)
  omega

/-- The gathered array: row `p` is the row of the stacked table that index `p` names in field `p % 26`. -/
def gath (tab : S2600000x16.Idx → Elt F .f32) (ix : S425984.Idx → BitVec 32) : S425984x16.Idx → Elt F .f32 := fun p =>
  tab (ix2 ⟨((ix (ix1 (p 0))).toNat + (p 0).val % 26 * 100000) % 2600000, Nat.mod_lt _ (by decide)⟩ (p 1))

/-- The gathered array's positions of tile `w`'s chunks `a` to `b`. -/
def Rset (w a b : Nat) : Finset S425984x16.Idx :=
  Finset.univ.filter fun p => 13312 * w + 3328 * a ≤ (p 0).val ∧ (p 0).val < 13312 * w + 3328 * b

theorem mem_Rset (w a b : Nat) (p : S425984x16.Idx) :
    p ∈ Rset w a b ↔ 13312 * w + 3328 * a ≤ (p 0).val ∧ (p 0).val < 13312 * w + 3328 * b := by simp [Rset]

theorem Rset_union (w a b c : Nat) (h1 : a ≤ b) (h2 : b ≤ c) : Rset w a b ∪ Rset w b c = Rset w a c := by
  ext p; rw [Finset.mem_union, mem_Rset, mem_Rset, mem_Rset]; omega

theorem Rset_disj (w a b c : Nat) : Disjoint (Rset w a b) (Rset w b c) := by
  rw [Finset.disjoint_left]; intro p; rw [mem_Rset, mem_Rset]; omega

theorem Rset_self (w a : Nat) : Rset w a a = ∅ := by
  ext p; rw [mem_Rset]; constructor
  · intro h; omega
  · intro h; exact absurd h (Finset.notMem_empty _)

/-- A chunk's window of the gathered array. -/
theorem Rset_window (w j : Nat) (off : Fin 2 → Nat) (hoff : off = ![13312 * w + 3328 * j, 0]) (inb) :
    (Rect.unit (s := S425984x16) off S3328x16.size inb).set = Rset w j (j + 1) := by
  subst hoff
  ext p
  rw [Rect.mem_set_unit, mem_Rset]
  constructor
  · intro h
    have h1 : 13312 * w + 3328 * j ≤ (p 0).val := (h 0).1
    have h2 : (p 0).val < 13312 * w + 3328 * j + 3328 := (h 0).2
    omega
  · intro h a
    fin_cases a
    · show 13312 * w + 3328 * j ≤ (p 0).val ∧ (p 0).val < 13312 * w + 3328 * j + 3328
      omega
    · show 0 ≤ (p 1).val ∧ (p 1).val < 0 + 16
      have : (p 1).val < 16 := (p 1).isLt
      omega

/-- Chunk `j` of tile `w`, of an array of the gathered array's shape. -/
def chunk (G : S425984x16.Idx → Elt F .f32) (w j : Nat) : S3328x16.Idx → Elt F .f32 := fun x =>
  G (ix2 ⟨(13312 * w + 3328 * j + (x 0).val) % 425984, Nat.mod_lt _ (by decide)⟩ (x 1))

theorem chunk_at (G : S425984x16.Idx → Elt F .f32) (w j : Nat) (hw : w < 32) (hj : j < 4) (off : Fin 2 → Nat)
    (hoff : off = ![13312 * w + 3328 * j, 0]) (inb) (x : S3328x16.Idx) :
    chunk G w j x = G ((Rect.unit (s := S425984x16) off S3328x16.size inb).emb x) := by
  subst hoff
  unfold chunk
  congr 1
  have hx : (x 0).val < 3328 := (x 0).isLt
  funext a
  apply Fin.ext
  fin_cases a
  · show (13312 * w + 3328 * j + (x 0).val) % 425984 = 13312 * w + 3328 * j + 1 * (x 0).val
    rw [Nat.mod_eq_of_lt (by omega)]; omega
  · show (x 1).val = 0 + 1 * (x 1).val
    omega

/-- The table, and a chunk of the list, as the gathers name them. -/
abbrev tabS : Memref sig .scVector .hbm S2600000x16 .f32 :=
  (Memref.whole main_v5_scv).slice (Rect.unit (s := S2600000x16) ![0, 0] S2600000x16.size inb_S2600000x16_S2600000x16_0_0) (fun _ => rfl)
abbrev lstV (off : Fin 1 → Nat) (inb : ∀ a, off a + S3328.size a ≤ S13312.size a) : Memref sig .scVector .vmem S3328 .i32 :=
  (Memref.whole cc1_scratch0).slice (Rect.unit (s := S13312) off S3328.size inb) (fun _ => rfl)

theorem lst_read (off : Fin 1 → Nat) (inb) (I : S13312.Idx → BitVec 32) (x : S3328.Idx) :
    (lstV off inb).view.read (Elt F) I x = I ((Rect.unit (s := S13312) off S3328.size inb).emb x) :=
  (View.read_apply _ _).trans (cast_eq _ _)

theorem tab_read (tab : S2600000x16.Idx → Elt F .f32) (y : S2600000x16.Idx) : tabS.view.read (Elt F) tab y = tab y := by
  refine ((View.read_apply _ _).trans (cast_eq _ _)).trans ?_
  show tab ((Rect.unit (s := S2600000x16) ![0, 0] S2600000x16.size inb_S2600000x16_S2600000x16_0_0).emb y) = tab y
  congr 1
  funext a
  apply Fin.ext
  fin_cases a
  · show 0 + 1 * (y 0).val = (y 0).val; omega
  · show 0 + 1 * (y 1).val = (y 1).val; omega

theorem lst_lt (w : Nat) (ix : S425984.Idx → BitVec 32) (h : InRange ix) (off : Fin 1 → Nat) (inb) (x : S3328.Idx) :
    ((lstV off inb).view.read (Elt F) (fixI w ix) x).toNat < S2600000x16.size gathers_S2600000x16_S3328x16.axis := by
  rw [lst_read]; exact fixI_lt w ix h _

/-- What a gather of chunk `j` delivers is the gathered array's chunk. -/
theorem gather_val (w j : Nat) (hw : w < 32) (hj : j < 4) (tab : S2600000x16.Idx → Elt F .f32) (ix : S425984.Idx → BitVec 32) (h : InRange ix)
    (off : Fin 1 → Nat) (hoff : off = ![3328 * j]) (inb) (hn) (hin) :
    SparseCore.gatherPayload gathers_S2600000x16_S3328x16 (tabS.view.read (Elt F) tab) (SparseCore.rows ((lstV off inb).view.read (Elt F) (fixI w ix)) hn hin)
      = chunk (gath tab ix) w j := by
  subst hoff
  funext x
  have hx : (x 0).val < 3328 := (x 0).isLt
  unfold SparseCore.gatherPayload chunk gath
  rw [tab_read]
  congr 1
  funext a
  apply Fin.ext
  fin_cases a
  · refine (congrArg Fin.val (Shape.Gathers.idx_axis gathers_S2600000x16_S3328x16 _ x)).trans ?_
    show ((lstV ![3328 * j] inb).view.read (Elt F) (fixI w ix) _).toNat = _
    rw [lst_read, fixI_toNat w ix h]
    have he : (((Rect.unit (s := S13312) ![3328 * j] S3328.size inb).emb (S3328.rowMajor.symm ((x gathers_S2600000x16_S3328x16.axis').cast hn.symm))) 0).val = 3328 * j + (x 0).val := by
      show 3328 * j + 1 * ((S3328.rowMajor.symm ((x gathers_S2600000x16_S3328x16.axis').cast hn.symm)) 0).val = 3328 * j + (x 0).val
      have h1 := Shape.rowMajor_val_one (d := ![3328]) (S3328.rowMajor.symm ((x gathers_S2600000x16_S3328x16.axis').cast hn.symm))
      rw [Equiv.apply_symm_apply] at h1
      rw [← h1, Nat.one_mul]; rfl
    rw [he]
    show _ = ((ix (ix1 ⟨(13312 * w + 3328 * j + (x 0).val) % 425984, _⟩)).toNat + (13312 * w + 3328 * j + (x 0).val) % 425984 % 26 * 100000) % 2600000
    have e1 : (13312 * w + 3328 * j + (x 0).val) % 425984 % 26 = (3328 * j + (x 0).val) % 26 := by
      rw [Nat.mod_eq_of_lt (show 13312 * w + 3328 * j + (x 0).val < 425984 by omega)]; omega
    have e2 : 13312 * w + (3328 * j + (x 0).val) = 13312 * w + 3328 * j + (x 0).val := by omega
    have h2 := h (ix1 ⟨(13312 * w + 3328 * j + (x 0).val) % 425984, Nat.mod_lt _ (by decide)⟩)
    rw [e1]
    simp only [e2]
    have := Nat.mod_lt (3328 * j + (x 0).val) (show 0 < 26 by decide)
    exact (Nat.mod_eq_of_lt (by omega)).symm
  · exact Shape.Gathers.idx_of_ne gathers_S2600000x16_S3328x16 _ x 1 (by decide)

end Cert.Proof
-- ==== Proof.Gather.lean ====
/-
  The gather call's tile: it fetches its indices, adds each field's offset, and moves four chunks of rows through two
  buffers, a chunk's write-back in flight with the next chunk's gather.
-/
module

public import proofs.«01_k».proof.Proof.GatherMath
public import proofs.«01_k».proof.Proof.RelayIO

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The tile of the gather call. -/
abbrev thr1 (d : Dev nD) (i : grid1.Coords) : Thread nD τ := V d ((i 0).castLE hcore1) ((i 1).castLE hsub1)

/-- The tile's number. -/
def wid1 (i : grid1.Coords) : Nat := 2 * (i 1).val + (i 0).val

theorem wid1_lt (i : grid1.Coords) : wid1 i < 32 := by
  have h0 : (i 0).val < 2 := (i 0).isLt
  have h1 : (i 1).val < 16 := (i 1).isLt
  unfold wid1; omega

variable (d : Dev nD) (i : grid1.Coords)

abbrev idxV : Memref sig .scVector .hbm S425984 .i32 := Memref.whole main_v0_scv
abbrev rowsV : Memref sig .scVector .hbm S425984x16 .f32 := Memref.whole main_v6_scv
abbrev listV : Memref sig .scVector .vmem S13312 .i32 := Memref.whole cc1_scratch0
abbrev buf0 : Memref sig .scVector .vmem S3328x16 .f32 := Memref.whole cc1_scratch1
abbrev buf1 : Memref sig .scVector .vmem S3328x16 .f32 := Memref.whole cc1_scratch2
abbrev chunkV (off : Fin 2 → Nat) (inb : ∀ a, off a + S3328x16.size a ≤ S425984x16.size a) : Memref sig .scVector .hbm S3328x16 .f32 :=
  rowsV.slice (Rect.unit (s := S425984x16) off S3328x16.size inb) (fun _ => rfl)

/-! ## The index list -/

/-- The list's sixteen positions of a trip. -/
theorem mem_trip (t : Nat) (off : Fin 1 → Nat) (hoff : off = ![16 * t]) (inb) (q : S13312.Idx)
    (h : 16 * t ≤ (q 0).val ∧ (q 0).val < 16 * t + 16) : q ∈ (Rect.unit (s := S13312) off S16.size inb).set := by
  subst hoff
  rw [Rect.mem_set_unit]
  intro a
  have ha : a = 0 := Fin.eq_zero a
  subst ha
  exact h

/-- What one trip stores: the fixed indices, at their positions. -/
theorem trip_val (w : Nat) (ix : S425984.Idx → BitVec 32) (t : Fin k1_t1_loop.trips) (f : S13312.Idx → BitVec 32) (hf : ∀ q, f q = midI w ix (16 * t.val) q) (x : S16.Idx) :
    k1_pay2 (k1_pay1 (F := F) iotaV 0#32 1#32 t (listV.view.readAt (Elt F) (Rect.unit (s := S13312) (k1_off2 t) S16.size (k1_off2_inb t)).toLoadRect f)) x
      = midI w ix (16 * (t.val + 1)) ((Rect.unit (s := S13312) (k1_off2 t) S16.size (k1_off2_inb t)).emb x) := by
  have hx : (x 0).val < 16 := (x 0).isLt
  have hoff : k1_off2 t 0 = 16 * t.val := congrFun (k1_off2_eq t) 0
  have he : (((Rect.unit (s := S13312) (k1_off2 t) S16.size (k1_off2_inb t)).emb x) 0).val = 16 * t.val + (x 0).val := by
    show k1_off2 t 0 + 1 * (x 0).val = _
    rw [hoff, Nat.one_mul]
  refine (pay_lane (F := F) t _ x).trans ?_
  have hl : listV.view.readAt (Elt F) (Rect.unit (s := S13312) (k1_off2 t) S16.size (k1_off2_inb t)).toLoadRect f x
      = f ((Rect.unit (s := S13312) (k1_off2 t) S16.size (k1_off2_inb t)).emb x) := rfl
  refine (congrArg (· + _) (hl.trans (hf _))).trans ?_
  generalize (Rect.unit (s := S13312) (k1_off2 t) S16.size (k1_off2_inb t)).emb x = z at he
  unfold midI fixI
  rw [if_neg (by omega), if_pos (by omega), ← he]

/-- One trip of the index loop. -/
theorem idx_trip (w : Nat) (ix : S425984.Idx → BitVec 32) (t : Fin k1_t1_loop.trips) (f : S13312.Idx → BitVec 32) (hf : ∀ q, f q = midI w ix (16 * t.val) q) :
    (iprop(listV.view.loc (thr1 d i) ↦{fullShare} f) : sProp (MM F))
    ⊢ wp frame (wpE (defs₀ (F := F)) 𝒱₀ (thr1 d i) none) Set.univ
      (k1_t1_body i (Memref.whole main_v5_scv) (Memref.isWhole_whole _) (Memref.whole main_v0_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0
        iotaV t ())
      fun _ => iprop(∃ f' : S13312.Idx → BitVec 32, ⌜∀ q, f' q = midI w ix (16 * (t.val + 1)) q⌝ ∗ (listV.view.loc (thr1 d i) ↦{fullShare} f')) := by
  unfold k1_t1_body
  rw [k1_part1_eq_skeleton]; unfold k1_part1_skel
  simp only [Prog.lift, Prog.bind_op, Prog.bind_ret, Prog.bind_assoc, Prog.pure_eq_ret]
  iintro Hf
  iapply (wp_load 𝒱₀ (thr1 d i) none Set.univ (m := listV) (S := Finset.univ) (Finset.subset_univ _)) $$ Hf; iintro Hf
  iapply (wp_load 𝒱₀ (thr1 d i) none Set.univ (m := listV) (S := Finset.univ) (Finset.subset_univ _)) $$ Hf; iintro Hf
  iapply (wp_store_writes₀ 𝒱₀ (thr1 d i) none Set.univ (m := listV) (r := Rect.unit (s := S13312) (k1_off2 t) S16.size (k1_off2_inb t)) (S := Finset.univ) (f := f) (Finset.subset_univ _)) $$ Hf; iintro Hf
  rw [wp_ret]
  imodintro
  iexists _
  isplitr
  swap
  · iexact Hf
  ipureintro
  intro q
  refine (congrFun (View.read_whole (Val := Elt F) cc1_scratch0 _) q).symm.trans (writes_agree (F := F) (e := .i32) listV.view f (midI w ix (16 * (t.val + 1))) _ ?_ q ?_)
  · intro p hp x
    rw [List.mem_singleton] at hp
    subst hp
    change S16.Idx at x
    exact trip_val w ix t f hf x
  · by_cases hq : 16 * t.val ≤ (q 0).val ∧ (q 0).val < 16 * t.val + 16
    · exact .inl ⟨_, List.mem_singleton_self _, mem_trip t.val _ (k1_off2_eq t) (k1_off2_inb t) q hq⟩
    · refine .inr ?_
      show f q = _
      rw [hf]
      unfold midI
      by_cases h1 : (q 0).val < 16 * t.val
      · rw [if_pos h1, if_pos (by omega)]
      · rw [if_neg h1, if_neg (by omega)]

/-! ## Gathers and write-backs -/

section Chunks

variable (b : Memref sig .scVector .vmem S3328x16 .f32) (sem : DmaSem sig)

/-- The buffer holds `r`. -/
def held (r : S3328x16.Idx → Elt F .f32) : sProp (MM F) :=
  iprop(∃ f : Buf (Elt F) (b.view.loc (thr1 d i)), ⌜b.view.read (Elt F) f = r⌝ ∗ (b.view.loc (thr1 d i) ↦{fullShare} f))

/-- The buffer, whatever it holds. -/
def free : sProp (MM F) := iprop(∃ f : Buf (Elt F) (b.view.loc (thr1 d i)), (b.view.loc (thr1 d i) ↦{fullShare} f))

theorem held_free (r : S3328x16.Idx → Elt F .f32) : (held d i b r : sProp (MM F)) ⊢ free d i b := by
  unfold held free; iintro ⟨%f, -, H⟩; iexists f; iexact H

/-- A gather in flight into the buffer, its chunk number `j`. -/
def gFl (q ql : PosShare TreeShare) (tab : S2600000x16.Idx → Elt F .f32) (ix : S425984.Idx → BitVec 32) (j : Nat) : sProp (MM F) :=
  Transfers.Flight (EC (F := F)) (thr1 d i) (.dma sem) none b.view.dmaCredit
    iprop(held d i b (chunk (gath tab ix) (wid1 i) j) ∗ (tabS.view.loc (thr1 d i) ↦{q} tab) ∗ (listV.view.loc (thr1 d i) ↦{ql} fixI (wid1 i) ix))

theorem issueG {α : Type} (q ql : PosShare TreeShare) (tab : S2600000x16.Idx → Elt F .f32) (ix : S425984.Idx → BitVec 32) (hix : InRange ix) (j : Nat) (hj : j < 4)
    (off : Fin 1 → Nat) (hoff : off = ![3328 * j]) (inb)
    (hN : ∑ r, (b.slice (S3328x16.rowRect gathers_S2600000x16_S3328x16.axis' r) (S3328x16.stride_rowRect gathers_S2600000x16_S3328x16.axis' r)).view.dmaCredit = b.view.dmaCredit)
    {hp hn hsrc he hsp hr} {k : PUnit → Prog (TpuEff nD τ sig (Elt F) Λ₀ (thr1 d i).2) α} {Q : α → sProp (MM F)} :
    (iprop(free d i b ∗ (tabS.view.loc (thr1 d i) ↦{q} tab) ∗ (listV.view.loc (thr1 d i) ↦{ql} fixI (wid1 i) ix) ∗ semVal (thr1 d i, SemLoc.dma sem) 0) : sProp (MM F))
    ⊢ iprop((gFl d i b sem q ql tab ix j -∗ wp frame (wpE (defs₀ (F := F)) 𝒱₀ (thr1 d i) none) Set.univ (k ⟨⟩) Q)
      -∗ wp frame (wpE (defs₀ (F := F)) 𝒱₀ (thr1 d i) none) Set.univ
        (SparseCore.enqueueIndirectGather hp tabS b gathers_S2600000x16_S3328x16 (lstV off inb) hn sem hsrc he hsp hr >>= k) Q) := by
  unfold free
  iintro ⟨⟨%f, Hb⟩, Ht, Hl, Hv⟩ Hk
  iapply (SparseCore.wp_gatherFromWhole (EC (F := F)) 𝒱₀ (thr1 d i) none (src := tabS) (dst := b) (offs := lstV off inb) (hg := gathers_S2600000x16_S3328x16)
    (q := q) (qo := ql) (fs := tab) (fd := f) (fo := fixI (wid1 i) ix) none b.view.dmaCredit hN (by decide) (lst_lt (F := F) (wid1 i) ix hix off inb)) $$ [Hb Ht Hl Hv]
  · isplitl [Ht]; · iexact Ht
    isplitl [Hb]; · iexact Hb
    isplitl [Hl]; · iexact Hl
    iexact Hv
  iintro HF
  iapply Hk
  unfold gFl
  iapply (Transfers.Flight_mono (EC (F := F)) (thr1 d i) ?_) $$ HF
  iintro ⟨Hb, Ht, Hl⟩
  isplitl [Hb]
  · unfold held
    iexists _
    isplitr
    swap
    · iexact Hb
    ipureintro
    rw [View.read_write_univ]
    exact gather_val (wid1 i) j (wid1_lt i) hj tab ix hix off hoff inb _ _
  isplitl [Ht]; · iexact Ht
  iexact Hl

theorem waitG {α : Type} (q ql : PosShare TreeShare) (tab : S2600000x16.Idx → Elt F .f32) (ix : S425984.Idx → BitVec 32) (j : Nat)
    {O : CellTallies nD τ sig (HIx 2)} {W : Waits sig (HIx 2)} {sp' : Space} {s' : Shape} {e' : EltTy} {srcw : Memref sig (thr1 d i).2.kind sp' s' e'} {hsrc hdst}
    {k : PUnit → Prog (TpuEff nD τ sig (Elt F) Λ₀ (thr1 d i).2) α} {Q : α → sProp (MM F)} :
    (iprop(gFl d i b sem q ql tab ix j ∗ Owe (thr1 d i) O W ∗ Transfers.MayWaits (thr1 d i) none O) : sProp (MM F))
    ⊢ iprop((iprop((held d i b (chunk (gath tab ix) (wid1 i) j) ∗ (tabS.view.loc (thr1 d i) ↦{q} tab) ∗ (listV.view.loc (thr1 d i) ↦{ql} fixI (wid1 i) ix))
          ∗ semVal (thr1 d i, SemLoc.dma sem) 0 ∗ Owe (thr1 d i) O W)
        -∗ wp frame (wpE (defs₀ (F := F)) 𝒱₀ (thr1 d i) none) Set.univ (k ⟨⟩) Q)
      -∗ wp frame (wpE (defs₀ (F := F)) 𝒱₀ (thr1 d i) none) Set.univ (.op (.waitDma2 sem srcw b hsrc hdst) k) Q) := by
  unfold gFl
  exact wp_waitF (thr1 d i) rfl

/-- The credit of a chunk's write-back. -/
abbrev NC : ℕ := (chunkV ![0, 0] (by decide)).view.dmaCredit

/-- A chunk's write-back in flight. -/
def oFl (G : S425984x16.Idx → Elt F .f32) (j : Nat) : sProp (MM F) :=
  Transfers.Flight (EC (F := F)) (thr1 d i) (.dma sem) none NC
    iprop((rowsV.view.loc (thr1 d i) ↦[Rset (wid1 i) j (j + 1)]{fullShare} G) ∗ free d i b)

theorem issueO {α : Type} (G f0 : S425984x16.Idx → Elt F .f32) (j : Nat) (hj : j < 4) (off : Fin 2 → Nat) (hoff : off = ![13312 * wid1 i + 3328 * j, 0]) (inb)
    {hsrc hdst hsem} {k : PUnit → Prog (TpuEff nD τ sig (Elt F) Λ₀ (thr1 d i).2) α} {Q : α → sProp (MM F)} :
    (iprop(held d i b (chunk G (wid1 i) j) ∗ (rowsV.view.loc (thr1 d i) ↦[Rset (wid1 i) j (j + 1)]{fullShare} f0) ∗ semVal (thr1 d i, SemLoc.dma sem) 0) : sProp (MM F))
    ⊢ iprop((oFl d i b sem G j -∗ wp frame (wpE (defs₀ (F := F)) 𝒱₀ (thr1 d i) none) Set.univ (k ⟨⟩) Q)
      -∗ wp frame (wpE (defs₀ (F := F)) 𝒱₀ (thr1 d i) none) Set.univ (.op (.enqueueDma b (.here (chunkV off inb)) (.dma sem) hsrc hdst hsem) k) Q) := by
  have hset : (chunkV off inb).view.set = Rset (wid1 i) j (j + 1) := by
    rw [← Rset_window (wid1 i) j off hoff inb]
    exact View.set_slice_whole _ _
  unfold held
  iintro ⟨⟨%f, %hf, Hb⟩, Ho, Hv⟩ Hk
  iapply (Transfers.wp_dmaFromWhole (EC (F := F)) 𝒱₀ (thr1 d i) none (src := b) (dst := chunkV off inb) (q := fullShare) (fs := f) (Sd := Rset (wid1 i) j (j + 1)) (fd := f0)
      none NC rfl (View.amount_pos _ (.dma sem) (show 0 < S3328x16.numel by decide)) (hset ▸ Finset.Subset.refl _)) $$ [Hb Ho Hv]
  · isplitl [Hb]; · iexact Hb
    isplitl [Ho]; · iexact Ho
    iexact Hv
  iintro HF
  iapply Hk
  unfold oFl free
  iapply (Transfers.Flight_mono (EC (F := F)) (thr1 d i) ?_) $$ HF
  iintro ⟨Ho, Hb⟩
  isplitl [Ho]
  · iapply (Entails.of_eq (pointsTo_congr (fun y hy => ?_))) $$ Ho
    rw [← hset] at hy
    obtain ⟨x, -, hx⟩ := Finset.mem_map.mp hy
    subst hx
    refine (View.write_emb_of_mem (v := (chunkV off inb).view) (Val := Elt F) f0 _ (Finset.mem_univ x)).trans ?_
    refine (cast_eq _ _).trans ?_
    show b.view.read (Elt F) f x = _
    rw [hf]
    exact chunk_at G (wid1 i) j (wid1_lt i) hj off hoff inb x
  · iexists f; iexact Hb

theorem waitO {α : Type} (G : S425984x16.Idx → Elt F .f32) (j : Nat) (off : Fin 2 → Nat) (inb)
    {O : CellTallies nD τ sig (HIx 2)} {W : Waits sig (HIx 2)} {hsrc hdst}
    {k : PUnit → Prog (TpuEff nD τ sig (Elt F) Λ₀ (thr1 d i).2) α} {Q : α → sProp (MM F)} :
    (iprop(oFl d i b sem G j ∗ Owe (thr1 d i) O W ∗ Transfers.MayWaits (thr1 d i) none O) : sProp (MM F))
    ⊢ iprop((iprop(((rowsV.view.loc (thr1 d i) ↦[Rset (wid1 i) j (j + 1)]{fullShare} G) ∗ free d i b) ∗ semVal (thr1 d i, SemLoc.dma sem) 0 ∗ Owe (thr1 d i) O W)
        -∗ wp frame (wpE (defs₀ (F := F)) 𝒱₀ (thr1 d i) none) Set.univ (k ⟨⟩) Q)
      -∗ wp frame (wpE (defs₀ (F := F)) 𝒱₀ (thr1 d i) none) Set.univ (.op (.waitDma2 sem b (chunkV off inb) hsrc hdst) k) Q) := by
  unfold oFl
  exact wp_waitF (thr1 d i) (dstw := chunkV off inb) (hdst := hdst) (srcw := b) (hsrc := hsrc) (N := NC) rfl

end Chunks

/-! ## The tile -/

theorem credit0 : ∑ r, (buf0.slice (S3328x16.rowRect gathers_S2600000x16_S3328x16.axis' r) (S3328x16.stride_rowRect gathers_S2600000x16_S3328x16.axis' r)).view.dmaCredit = buf0.view.dmaCredit :=
  SparseCore.sum_rowCredit_eq_dmaCredit buf0 _ (fun _ => rfl)
theorem credit1 : ∑ r, (buf1.slice (S3328x16.rowRect gathers_S2600000x16_S3328x16.axis' r) (S3328x16.stride_rowRect gathers_S2600000x16_S3328x16.axis' r)).view.dmaCredit = buf1.view.dmaCredit :=
  SparseCore.sum_rowCredit_eq_dmaCredit buf1 _ (fun _ => rfl)

/-- The tile's part of the index array. -/
abbrev idxS : Memref sig .scVector .hbm S13312 .i32 := idxV.slice (Rect.unit (s := S425984) (k1_off1 i) S13312.size (k1_off1_inb i)) (fun _ => rfl)

/-- What the fetch delivers is the list before the loop. -/
theorem idx_fetched (ix : S425984.Idx → BitVec 32) (x : S13312.Idx) : (idxS i).view.read (Elt F) ix x = midI (wid1 i) ix 0 x := by
  refine ((View.read_apply _ _).trans (cast_eq _ _)).trans ?_
  unfold midI
  rw [if_neg (Nat.not_lt_zero _)]
  show ix ((Rect.unit (s := S425984) (k1_off1 i) S13312.size (k1_off1_inb i)).emb x) = _
  have hx : (x 0).val < 13312 := (x 0).isLt
  have hw := wid1_lt i
  congr 1
  funext a
  have ha : a = 0 := Fin.eq_zero a
  subst ha
  apply Fin.ext
  show (k1_off1 i) 0 + 1 * (x 0).val = (13312 * wid1 i + (x 0).val) % 425984
  rw [k1_off1_eq, Nat.mod_eq_of_lt (by omega)]
  show 26624 * (i 1).val + 13312 * (i 0).val + 1 * (x 0).val = _
  unfold wid1; omega

/-- What the tile holds besides the arrays: its list and buffers, its five semaphores at zero. -/
def scr1 : sProp (MM F) :=
  iprop((∃ f : S13312.Idx → BitVec 32, listV.view.loc (thr1 d i) ↦{fullShare} f) ∗ free d i buf0 ∗ free d i buf1
    ∗ semVal (thr1 d i, SemLoc.dma cc1_scratch3.sem) 0 ∗ semVal (thr1 d i, SemLoc.dma cc1_scratch4.sem) 0 ∗ semVal (thr1 d i, SemLoc.dma cc1_scratch5.sem) 0
    ∗ semVal (thr1 d i, SemLoc.dma cc1_scratch6.sem) 0 ∗ semVal (thr1 d i, SemLoc.dma cc1_scoped0.sem) 0)

/-- The four chunks of the tile's rows. -/
theorem rows_split (G : S425984x16.Idx → Elt F .f32) :
    (rowsV.view.loc (thr1 d i) ↦[Rset (wid1 i) 0 4]{fullShare} G : sProp (MM F))
      = iprop((rowsV.view.loc (thr1 d i) ↦[Rset (wid1 i) 0 1]{fullShare} G) ∗ (rowsV.view.loc (thr1 d i) ↦[Rset (wid1 i) 1 2]{fullShare} G)
        ∗ (rowsV.view.loc (thr1 d i) ↦[Rset (wid1 i) 2 3]{fullShare} G) ∗ (rowsV.view.loc (thr1 d i) ↦[Rset (wid1 i) 3 4]{fullShare} G)) := by
  rw [← Rset_union (wid1 i) 0 1 4 (by omega) (by omega), ← Rset_union (wid1 i) 1 2 4 (by omega) (by omega), ← Rset_union (wid1 i) 2 3 4 (by omega) (by omega)]
  have hd : ∀ a b c, Disjoint (Rset (wid1 i) a b) (Rset (wid1 i) b c) := Rset_disj (wid1 i)
  have e : ∀ (I J : Finset S425984x16.Idx), Disjoint I J → (rowsV.view.loc (thr1 d i) ↦[I ∪ J]{fullShare} G : sProp (MM F))
      = iprop((rowsV.view.loc (thr1 d i) ↦[I]{fullShare} G) ∗ (rowsV.view.loc (thr1 d i) ↦[J]{fullShare} G)) :=
    fun I J h => BI.Entails.antisymm (pointsTo_union h).1 (pointsTo_union h).2
  rw [e _ _ (by rw [Rset_union (wid1 i) 2 3 4 (by omega) (by omega), Rset_union (wid1 i) 1 2 4 (by omega) (by omega)]; exact hd 0 1 4),
    e _ _ (by rw [Rset_union (wid1 i) 2 3 4 (by omega) (by omega)]; exact hd 1 2 4), e _ _ (hd 2 3 4)]

set_option maxHeartbeats 2000000 in
/-- The tile's run: from its read shares of the table and the indices, its own rows come to hold the gathered array. -/
theorem tile1 (q0 q1 q2 : PosShare TreeShare) (tab : S2600000x16.Idx → Elt F .f32) (ix : S425984.Idx → BitVec 32) (hix : InRange ix) (f0 : S425984x16.Idx → Elt F .f32)
    (O : CellTallies nD τ sig (HIx 2)) (W : Waits sig (HIx 2)) :
    (iprop(Transfers.MayWaits (thr1 d i) none O ∗ (tabS.view.loc (thr1 d i) ↦{q0} tab) ∗ (tabS.view.loc (thr1 d i) ↦{q1} tab) ∗ (idxV.view.loc (thr1 d i) ↦{q2} ix)
      ∗ (rowsV.view.loc (thr1 d i) ↦[Rset (wid1 i) 0 4]{fullShare} f0) ∗ scr1 d i ∗ Owe (thr1 d i) O W) : sProp (MM F))
    ⊢ wp frame (wpE (defs₀ (F := F)) 𝒱₀ (thr1 d i) none) Set.univ
      (cc1__sc_gather_body i (Memref.whole main_v5_scv) (Memref.isWhole_whole _) (Memref.whole main_v0_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0)
      fun _ => iprop((tabS.view.loc (thr1 d i) ↦{q0} tab) ∗ (tabS.view.loc (thr1 d i) ↦{q1} tab) ∗ (idxV.view.loc (thr1 d i) ↦{q2} ix)
      ∗ (rowsV.view.loc (thr1 d i) ↦[Rset (wid1 i) 0 4]{fullShare} gath tab ix) ∗ scr1 d i ∗ Owe (thr1 d i) O W) := by
  have hoff3 : ∀ r : Fin 4, k1_off3 i (BitVec.ofNat 32 (3328 * r.val)) = ![13312 * wid1 i + 3328 * r.val, 0] := by
    intro r; rw [k1_off3_eq]; unfold wid1; congr 1; omega
  rw [cc1__sc_gather_body_eq_skeleton]; unfold cc1__sc_gather_body_skel
  rw [k1_part2_eq_skeleton]; unfold k1_part2_skel
  have hfor := Scf.wp_for frame (wpE (defs₀ (F := F)) 𝒱₀ (thr1 d i) none) Set.univ (M := MM F) _ _ _ k1_t1_ok ()
    (k1_t1_body i (Memref.whole main_v5_scv) (Memref.isWhole_whole _) (Memref.whole main_v0_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0 iotaV)
    (fun (r : Nat) (_ : Unit) => (iprop(∃ f' : S13312.Idx → BitVec 32, ⌜∀ q, f' q = midI (wid1 i) ix (16 * r) q⌝ ∗ (listV.view.loc (thr1 d i) ↦{fullShare} f')) : sProp (MM F)))
    (fun t _ => by
      iintro ⟨%f, %hf, Hf⟩
      iapply (idx_trip d i (wid1 i) ix t f hf) $$ Hf)
    (Q := fun _ => (iprop(listV.view.loc (thr1 d i) ↦{fullShare} fixI (wid1 i) ix) : sProp (MM F)))
  simp only [SparseCore.waitIndirectGather, Prog.lift, Prog.bind_op, Prog.bind_ret, Prog.bind_assoc, Prog.pure_eq_ret]
  unfold scr1
  rw [rows_split d i f0, rows_split d i (gath tab ix)]
  iintro ⟨#Hmw, Ht0, Ht1, Hix, ⟨Hr0, Hr1, Hr2, Hr3⟩, ⟨⟨%l, Hl⟩, Hb0, Hb1, Hg0, Hg1, Ho0, Ho1, Hc⟩, HO⟩
  -- the index fetch
  ihave Hix := ((pointsTo_split_subset (q := q2) (f := ix) (ℓ := idxV.view.loc (thr1 d i)) (Finset.subset_univ (idxS i).view.set)).1) $$ Hix
  icases Hix with ⟨Hix, Hrest⟩
  iapply (Transfers.wp_dmaLocal (EC (F := F)) 𝒱₀ (thr1 d i) none (src := idxS i) (dst := listV) (q := q2) (fs := ix) (Sd := Finset.univ) (fd := l)
    none (listV.view.amount (.dma cc1_scoped0.sem)) rfl (View.amount_pos _ _ (show 0 < S13312.numel by decide)) (Finset.subset_univ _)) $$ [Hix Hl Hc]
  · isplitl [Hix]; · iexact Hix
    isplitl [Hl]; · iexact Hl
    iexact Hc
  iintro HF
  iapply (wp_waitF (thr1 d i) (N := listV.view.amount (.dma cc1_scoped0.sem)) rfl) $$ [HF HO]
  · isplitl [HF]; · iexact HF
    isplitl [HO]; · iexact HO
    iexact Hmw
  iintro ⟨⟨Hl, Hix⟩, Hc, HO⟩
  ihave Hix := ((pointsTo_split_subset (q := q2) (f := ix) (ℓ := idxV.view.loc (thr1 d i)) (Finset.subset_univ (idxS i).view.set)).2) $$ [Hix Hrest]
  · isplitl [Hix]; · iexact Hix
    iexact Hrest
  -- the index loop
  rw [wp_bind]
  iapply (wp_wand_r Idealize.ShloMosaic.frame (wpE (defs₀ (F := F)) 𝒱₀ (thr1 d i) none) Set.univ (Q := fun _ => (iprop(listV.view.loc (thr1 d i) ↦{fullShare} fixI (wid1 i) ix) : sProp (MM F))))
  isplitl [Hl]
  · iapply hfor
    isplitl [Hl]
    · iexists _
      isplitr
      swap
      · iexact Hl
      ipureintro
      intro q
      refine (congrFun (View.write_whole_univ (Val := Elt F) cc1_scratch0 l ((idxS i).view.read (Elt F) ix)) q).trans ?_
      exact idx_fetched i ix q
    · iintro %_ ⟨%f, %hf, Hf⟩
      iapply (Entails.of_eq (pointsTo_congr (fun y _ => ?_))) $$ Hf
      refine (hf y).trans ?_
      rw [show Scf.trips k1_t1_loop.lb k1_t1_loop.ub k1_t1_loop.st = 832 from k1_trips]
      exact congrFun (midI_all (wid1 i) ix) y
  iintro %_ Hl
  ihave Hl := (pointsTo_share (PosShare.mem_left_op_right fullShare)).1 $$ Hl
  icases Hl with ⟨Hl0, Hl1⟩
  -- the chunks
  iapply (issueG d i buf0 cc1_scratch3.sem q0 fullShare.left tab ix hix 0 (by omega) ![0] rfl inb_S13312_S3328_0 credit0) $$ [Hb0 Ht0 Hl0 Hg0]
  · isplitl [Hb0]; · iexact Hb0
    isplitl [Ht0]; · iexact Ht0
    isplitl [Hl0]; · iexact Hl0
    iexact Hg0
  iintro G0
  iapply (issueG d i buf1 cc1_scratch4.sem q1 fullShare.right tab ix hix 1 (by omega) ![3328] rfl inb_S13312_S3328_3328 credit1) $$ [Hb1 Ht1 Hl1 Hg1]
  · isplitl [Hb1]; · iexact Hb1
    isplitl [Ht1]; · iexact Ht1
    isplitl [Hl1]; · iexact Hl1
    iexact Hg1
  iintro G1
  iapply (waitG d i buf0 cc1_scratch3.sem q0 fullShare.left tab ix 0 (O := O) (W := W)) $$ [G0 HO]
  · isplitl [G0]; · iexact G0
    isplitl [HO]; · iexact HO
    iexact Hmw
  iintro ⟨⟨Hb0, Ht0, Hl0⟩, Hg0, HO⟩
  iapply (issueO d i buf0 cc1_scratch5.sem (gath tab ix) f0 0 (by omega) (k1_off3 i 0#32) (hoff3 0) (k1_off3_inb i 0)) $$ [Hb0 Hr0 Ho0]
  · isplitl [Hb0]; · iexact Hb0
    isplitl [Hr0]; · iexact Hr0
    iexact Ho0
  iintro O0
  iapply (waitO d i buf0 cc1_scratch5.sem (gath tab ix) 0 (k1_off3 i 0#32) (k1_off3_inb i 0) (O := O) (W := W)) $$ [O0 HO]
  · isplitl [O0]; · iexact O0
    isplitl [HO]; · iexact HO
    iexact Hmw
  iintro ⟨⟨Hr0, Hb0⟩, Ho0, HO⟩
  iapply (issueG d i buf0 cc1_scratch3.sem q0 fullShare.left tab ix hix 2 (by omega) ![6656] rfl inb_S13312_S3328_6656 credit0) $$ [Hb0 Ht0 Hl0 Hg0]
  · isplitl [Hb0]; · iexact Hb0
    isplitl [Ht0]; · iexact Ht0
    isplitl [Hl0]; · iexact Hl0
    iexact Hg0
  iintro G2
  iapply (waitG d i buf1 cc1_scratch4.sem q1 fullShare.right tab ix 1 (O := O) (W := W)) $$ [G1 HO]
  · isplitl [G1]; · iexact G1
    isplitl [HO]; · iexact HO
    iexact Hmw
  iintro ⟨⟨Hb1, Ht1, Hl1⟩, Hg1, HO⟩
  iapply (issueO d i buf1 cc1_scratch6.sem (gath tab ix) f0 1 (by omega) (k1_off3 i 3328#32) (hoff3 1) (k1_off3_inb i 1)) $$ [Hb1 Hr1 Ho1]
  · isplitl [Hb1]; · iexact Hb1
    isplitl [Hr1]; · iexact Hr1
    iexact Ho1
  iintro O1
  iapply (waitO d i buf1 cc1_scratch6.sem (gath tab ix) 1 (k1_off3 i 3328#32) (k1_off3_inb i 1) (O := O) (W := W)) $$ [O1 HO]
  · isplitl [O1]; · iexact O1
    isplitl [HO]; · iexact HO
    iexact Hmw
  iintro ⟨⟨Hr1, Hb1⟩, Ho1, HO⟩
  iapply (issueG d i buf1 cc1_scratch4.sem q1 fullShare.right tab ix hix 3 (by omega) ![9984] rfl inb_S13312_S3328_9984 credit1) $$ [Hb1 Ht1 Hl1 Hg1]
  · isplitl [Hb1]; · iexact Hb1
    isplitl [Ht1]; · iexact Ht1
    isplitl [Hl1]; · iexact Hl1
    iexact Hg1
  iintro G3
  iapply (waitG d i buf0 cc1_scratch3.sem q0 fullShare.left tab ix 2 (O := O) (W := W)) $$ [G2 HO]
  · isplitl [G2]; · iexact G2
    isplitl [HO]; · iexact HO
    iexact Hmw
  iintro ⟨⟨Hb0, Ht0, Hl0⟩, Hg0, HO⟩
  iapply (issueO d i buf0 cc1_scratch5.sem (gath tab ix) f0 2 (by omega) (k1_off3 i 6656#32) (hoff3 2) (k1_off3_inb i 2)) $$ [Hb0 Hr2 Ho0]
  · isplitl [Hb0]; · iexact Hb0
    isplitl [Hr2]; · iexact Hr2
    iexact Ho0
  iintro O2
  iapply (waitG d i buf1 cc1_scratch4.sem q1 fullShare.right tab ix 3 (O := O) (W := W)) $$ [G3 HO]
  · isplitl [G3]; · iexact G3
    isplitl [HO]; · iexact HO
    iexact Hmw
  iintro ⟨⟨Hb1, Ht1, Hl1⟩, Hg1, HO⟩
  iapply (issueO d i buf1 cc1_scratch6.sem (gath tab ix) f0 3 (by omega) (k1_off3 i 9984#32) (hoff3 3) (k1_off3_inb i 3)) $$ [Hb1 Hr3 Ho1]
  · isplitl [Hb1]; · iexact Hb1
    isplitl [Hr3]; · iexact Hr3
    iexact Ho1
  iintro O3
  iapply (waitO d i buf0 cc1_scratch5.sem (gath tab ix) 2 (k1_off3 i 6656#32) (k1_off3_inb i 2) (O := O) (W := W)) $$ [O2 HO]
  · isplitl [O2]; · iexact O2
    isplitl [HO]; · iexact HO
    iexact Hmw
  iintro ⟨⟨Hr2, Hb0⟩, Ho0, HO⟩
  iapply (waitO d i buf1 cc1_scratch6.sem (gath tab ix) 3 (k1_off3 i 9984#32) (k1_off3_inb i 3) (O := O) (W := W)) $$ [O3 HO]
  · isplitl [O3]; · iexact O3
    isplitl [HO]; · iexact HO
    iexact Hmw
  iintro ⟨⟨Hr3, Hb1⟩, Ho1, HO⟩
  rw [wp_ret]
  imodintro
  ihave Hl := (pointsTo_share (PosShare.mem_left_op_right fullShare)).2 $$ [Hl0 Hl1]
  · isplitl [Hl0]; · iexact Hl0
    iexact Hl1
  isplitl [Ht0]; · iexact Ht0
  isplitl [Ht1]; · iexact Ht1
  isplitl [Hix]; · iexact Hix
  isplitl [Hr0 Hr1 Hr2 Hr3]
  · isplitl [Hr0]; · iexact Hr0
    isplitl [Hr1]; · iexact Hr1
    isplitl [Hr2]; · iexact Hr2
    iexact Hr3
  isplitr [HO]
  · isplitl [Hl]; · iexists _; iexact Hl
    isplitl [Hb0]; · iexact Hb0
    isplitl [Hb1]; · iexact Hb1
    isplitl [Hg0]; · iexact Hg0
    isplitl [Hg1]; · iexact Hg1
    isplitl [Ho0]; · iexact Ho0
    isplitl [Ho1]; · iexact Ho1
    iexact Hc
  · iexact HO

end Cert.Proof
-- ==== Proof.Deal.lean ====
/-
  How the two calls share the arrays among the 32 tiles: which positions of its result each tile writes, and the read
  shares of the arrays every tile reads.
-/
module

public import proofs.«01_k».proof.Proof.RelaySets
public import proofs.«01_k».proof.Proof.GatherMath

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The positions each tile writes -/

/-- Tile `w`'s positions of the flat result: its units of both parities and its tail. -/
def Oset (w : Nat) : Finset S41600000.Idx := Eset w 0 0 29 ∪ (Eset w 1 0 29 ∪ Tset w)

theorem mem_Oset (w : Nat) (q : S41600000.Idx) : q ∈ Oset w ↔
    ((q 0).val % 1600000 < 1599488 ∧ (unitOf (q 0).val % 64 = w ∨ unitOf (q 0).val % 64 = w + 32))
      ∨ (¬ (q 0).val % 1600000 < 1599488 ∧ (q 0).val / 1600000 = w) := by
  unfold Oset
  rw [Finset.mem_union, Finset.mem_union, mem_Eset, mem_Eset, mem_Tset]
  constructor
  · rintro (h | h | h)
    · exact .inl ⟨h.1, .inl (by omega)⟩
    · exact .inl ⟨h.1, .inr (by omega)⟩
    · exact .inr h
  · rintro (⟨h, h'⟩ | h)
    · have := unitOf_lt (q 0).val (q 0).isLt h
      rcases h' with h' | h'
      · exact .inl ⟨h, by omega, by omega, by omega⟩
      · exact .inr (.inl ⟨h, by omega, by omega, by omega⟩)
    · exact .inr (.inr h)

theorem Oset_disj : ∀ w ∈ Finset.range 32, ∀ w' ∈ Finset.range 32, w ≠ w' → Disjoint (Oset w) (Oset w') := by
  intro w hw w' hw' hne
  rw [Finset.mem_range] at hw hw'
  rw [Finset.disjoint_left]; intro q h h'
  rw [mem_Oset] at h h'
  rcases h with ⟨h, h1 | h1⟩ | ⟨h, h1⟩ <;> rcases h' with ⟨h', h2 | h2⟩ | ⟨h', h2⟩ <;> omega

theorem Oset_cover : (Finset.range 32).biUnion Oset = Finset.univ := by
  ext q
  simp only [Finset.mem_biUnion, Finset.mem_range, Finset.mem_univ, iff_true, mem_Oset]
  have hq : (q 0).val < 41600000 := (q 0).isLt
  by_cases h : (q 0).val % 1600000 < 1599488
  · refine ⟨unitOf (q 0).val % 32, by omega, .inl ⟨h, by omega⟩⟩
  · exact ⟨(q 0).val / 1600000, by omega, .inr ⟨h, rfl⟩⟩

theorem Rows_disj : ∀ w ∈ Finset.range 32, ∀ w' ∈ Finset.range 32, w ≠ w' → Disjoint (Rset w 0 4) (Rset w' 0 4) := by
  intro w _ w' _ hne
  rw [Finset.disjoint_left]; intro q h h'
  rw [mem_Rset] at h h'; omega

theorem Rows_cover : (Finset.range 32).biUnion (fun w => Rset w 0 4) = Finset.univ := by
  ext q
  simp only [Finset.mem_biUnion, Finset.mem_range, Finset.mem_univ, iff_true, mem_Rset]
  have hq : (q 0).val < 425984 := (q 0).isLt
  exact ⟨(q 0).val / 13312, by omega, by omega, by omega⟩

/-! ## The tiles by number, by SparseCore and subcore -/

/-- One for each tile number is one for each subcore of each SparseCore. -/
theorem bigSep_tiles (Φ : Nat → sProp (MM F)) :
    bigSep (Finset.range 32) Φ = bigSep Finset.univ fun c : Fin 2 => bigSep Finset.univ fun s : Fin 16 => Φ (2 * s.val + c.val) := by
  rw [← bigSep_univ_prod (fun p : Fin 2 × Fin 16 => Φ (2 * p.2.val + p.1.val))]
  have h : Finset.range 32 = (Finset.univ : Finset (Fin 2 × Fin 16)).map ⟨fun p => 2 * p.2.val + p.1.val, by
      rintro ⟨a, b⟩ ⟨a', b'⟩ h
      have h' : 2 * b.val + a.val = 2 * b'.val + a'.val := h
      have := a.isLt; have := a'.isLt
      exact Prod.ext (Fin.ext (by show a.val = a'.val; omega)) (Fin.ext (by show b.val = b'.val; omega))⟩ := by
    decide
  rw [h, bigSep_map]; rfl

/-- The arrays the two calls work on, on one device: the transposed tables, the list of tails, the flat result's
    contents before; the table of rows, the indices, the gathered rows' contents before. -/
structure Arrays (F : FTy → Type) where
  tb : S26x16x100000.Idx → Elt F .f32
  tl : S13312.Idx → Elt F .f32
  f4 : S41600000.Idx → Elt F .f32
  tab : S2600000x16.Idx → Elt F .f32
  ix : S425984.Idx → BitVec 32
  f6 : S425984x16.Idx → Elt F .f32

abbrev lc (d : Dev nD) (b : Ref sig .tc) : Loc nD τ sig := (d.tc : Thread nD τ).loc b

variable (A : Dev nD → Arrays F) (d : Dev nD)

/-- What tile `w` of the relayout call holds, its positions of the flat result at `f`. -/
def deal0 (f : S41600000.Idx → Elt F .f32) (w : Nat) : sProp (MM F) :=
  iprop((lc d main_v1 ↦{shareTokN fullShare w} (A d).tb) ∗ (lc d main_v3 ↦{shareTokN fullShare w} (A d).tl) ∗ (lc d main_v4 ↦[Oset w]{fullShare} f))

/-- What tile `w` of the gather call holds, its gathered rows at `f`. -/
def deal1 (f : S425984x16.Idx → Elt F .f32) (w : Nat) : sProp (MM F) :=
  iprop((lc d main_v5 ↦{shareTokN fullShare w} (A d).tab) ∗ (lc d main_v0 ↦{shareTokN fullShare w} (A d).ix) ∗ (lc d main_v6 ↦[Rset w 0 4]{fullShare} f))

/-- Two arrays read and one written, dealt to the tiles: the read ones' shares by tile number and what remains of
    them, the written one's positions by tile. -/
theorem deal {ℓ1 ℓ2 ℓ3 : Loc nD τ sig} (f1 : Buf (Elt F) ℓ1) (f2 : Buf (Elt F) ℓ2) (f3 : Buf (Elt F) ℓ3) (Z : Nat → Finset (Idx ℓ3))
    (hd : ∀ w ∈ Finset.range 32, ∀ w' ∈ Finset.range 32, w ≠ w' → Disjoint (Z w) (Z w')) (hc : (Finset.range 32).biUnion Z = Finset.univ) :
    (iprop((ℓ1 ↦{fullShare} f1) ∗ (ℓ2 ↦{fullShare} f2) ∗ (ℓ3 ↦{fullShare} f3)) : sProp (MM F))
      ⊣⊢ iprop(((ℓ1 ↦{shareDrop fullShare 32} f1) ∗ (ℓ2 ↦{shareDrop fullShare 32} f2))
        ∗ bigSep Finset.univ fun c : Fin 2 => bigSep Finset.univ fun s : Fin 16 =>
          (fun w => iprop((ℓ1 ↦{shareTokN fullShare w} f1) ∗ (ℓ2 ↦{shareTokN fullShare w} f2) ∗ (ℓ3 ↦[Z w]{fullShare} f3))) (2 * s.val + c.val)) := by
  have e1 := Transfers.pointsTo_toks_range (Ix := HIx 2) (Name := ℕ) (U := UU) (Lvl := ℕ) (ℓ := ℓ1) (S := Finset.univ) (f := f1) fullShare 32
  have e2 := Transfers.pointsTo_toks_range (Ix := HIx 2) (Name := ℕ) (U := UU) (Lvl := ℕ) (ℓ := ℓ2) (S := Finset.univ) (f := f2) fullShare 32
  have e3 : (ℓ3 ↦{fullShare} f3 : sProp (MM F)) = bigSep (Finset.range 32) fun w => ℓ3 ↦[Z w]{fullShare} f3 := by
    rw [← pointsTo_biUnion (Finset.range 32) Z hd, hc]
  rw [← bigSep_tiles (fun w => (iprop((ℓ1 ↦{shareTokN fullShare w} f1) ∗ (ℓ2 ↦{shareTokN fullShare w} f2) ∗ (ℓ3 ↦[Z w]{fullShare} f3)) : sProp (MM F))),
    BI.bigSep_sep', BI.bigSep_sep', e3]
  constructor
  · iintro ⟨H1, H2, H3⟩
    ihave H1 := e1.1 $$ H1
    ihave H2 := e2.1 $$ H2
    icases H1 with ⟨R1, H1⟩
    icases H2 with ⟨R2, H2⟩
    iframe
  · iintro ⟨⟨R1, R2⟩, H1, H2, H3⟩
    isplitl [R1 H1]
    · iapply e1.2; iframe
    isplitl [R2 H2]
    · iapply e2.2; iframe
    iexact H3

end Cert.Proof
-- ==== Proof.Calls.lean ====
/-
  The two calls as the launch theorem asks for them: what each handshake carries, and each tile's obligation.
-/
module

public import proofs.«01_k».proof.Proof.RelayTile
public import proofs.«01_k».proof.Proof.Gather
public import proofs.«01_k».proof.Proof.Deal

@[expose] public section

set_option maxRecDepth 65536

noncomputable section

namespace Cert.Proof

open Cert.KernelIdeal Cert.KernelIdeal.Gen
open Idealize.ShloMosaic
open Idealize.ShloMosaic.SparseCore (S V T)
open Idealize.ShloMosaic.SparseCore.Cfg (HIx Pay ownCells mem_ownCells ownRefs ownSems0 ownBufs)
open Idealize.ShloMosaic.Transfers (shareDrop shareTokN)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (A : Dev nD → Arrays F)

/-! ## What the handshakes carry -/

/-- Each tile takes its deal and brings it back with its positions of the result written; a sequencer passes on its
    sixteen tiles' deals. -/
def P : (K (F := F)).Pay (nD := nD) (Val := Elt F) (Name := ℕ) (U := UU) where
  st := fun q d c => match q with
    | 0 => bigSep Finset.univ fun i : Fin 16 => deal0 A d (A d).f4 (2 * i.val + c.val)
    | 1 => bigSep Finset.univ fun i : Fin 16 => deal1 A d (A d).f6 (2 * i.val + c.val)
  dn := fun q d c => match q with
    | 0 => bigSep Finset.univ fun i : Fin 16 => deal0 A d (relG (A d).tb (A d).tl) (2 * i.val + c.val)
    | 1 => bigSep Finset.univ fun i : Fin 16 => deal1 A d (gath (A d).tab (A d).ix) (2 * i.val + c.val)
  go := fun q d c i => match q with
    | 0 => deal0 A d (A d).f4 (2 * i.val + c.val)
    | 1 => deal1 A d (A d).f6 (2 * i.val + c.val)
  td := fun q d c i => match q with
    | 0 => deal0 A d (relG (A d).tb (A d).tl) (2 * i.val + c.val)
    | 1 => deal1 A d (gath (A d).tab (A d).ix) (2 * i.val + c.val)
  x := fun _ _ => iprop(emp)

instance deal0_storable (d : Dev nD) (f : S41600000.Idx → Elt F .f32) (w : Nat) : BI.Storable (upEmb : UEmb _ (MM F)) (deal0 A d f w) := by
  unfold deal0; infer_instance
instance deal1_storable (d : Dev nD) (f : S425984x16.Idx → Elt F .f32) (w : Nat) : BI.Storable (upEmb : UEmb _ (MM F)) (deal1 A d f w) := by
  unfold deal1; infer_instance

instance P_storable : (P A).IsStorable where
  st q d c := match q with
    | 0 => (inferInstance : BI.Storable (upEmb : UEmb _ (MM F)) (bigSep Finset.univ fun i : Fin 16 => deal0 A d (A d).f4 (2 * i.val + c.val)))
    | 1 => (inferInstance : BI.Storable (upEmb : UEmb _ (MM F)) (bigSep Finset.univ fun i : Fin 16 => deal1 A d (A d).f6 (2 * i.val + c.val)))
  dn q d c := match q with
    | 0 => (inferInstance : BI.Storable (upEmb : UEmb _ (MM F)) (bigSep Finset.univ fun i : Fin 16 => deal0 A d (relG (A d).tb (A d).tl) (2 * i.val + c.val)))
    | 1 => (inferInstance : BI.Storable (upEmb : UEmb _ (MM F)) (bigSep Finset.univ fun i : Fin 16 => deal1 A d (gath (A d).tab (A d).ix) (2 * i.val + c.val)))
  go q d c i := match q with
    | 0 => deal0_storable A d _ _
    | 1 => deal1_storable A d _ _
  td q d c i := match q with
    | 0 => deal0_storable A d _ _
    | 1 => deal1_storable A d _ _

/-- A sequencer's deal is its tiles' deals. -/
theorem vecSplit : ∀ q : Fin 2, (K (F := F)).VecSplit' (P A) q
  | 0 => by
    intro d c
    show (bigSep Finset.univ fun i : Fin 16 => deal0 A d (A d).f4 (2 * i.val + c.val))
      ⊢ |={Set.univ}=> iprop((bigSep Finset.univ fun i : Fin 16 => deal0 A d (A d).f4 (2 * i.val + c.val))
        ∗ ((bigSep Finset.univ fun i : Fin 16 => deal0 A d (relG (A d).tb (A d).tl) (2 * i.val + c.val))
          -∗ (bigSep Finset.univ fun i : Fin 16 => deal0 A d (relG (A d).tb (A d).tl) (2 * i.val + c.val))))
    iintro H; imodintro
    isplitl [H]; · iexact H
    iintro H; iexact H
  | 1 => by
    intro d c
    show (bigSep Finset.univ fun i : Fin 16 => deal1 A d (A d).f6 (2 * i.val + c.val))
      ⊢ |={Set.univ}=> iprop((bigSep Finset.univ fun i : Fin 16 => deal1 A d (A d).f6 (2 * i.val + c.val))
        ∗ ((bigSep Finset.univ fun i : Fin 16 => deal1 A d (gath (A d).tab (A d).ix) (2 * i.val + c.val))
          -∗ (bigSep Finset.univ fun i : Fin 16 => deal1 A d (gath (A d).tab (A d).ix) (2 * i.val + c.val))))
    iintro H; imodintro
    isplitl [H]; · iexact H
    iintro H; iexact H

/-! ## A tile's own buffers and cells -/

/-- Some of a thread's own cells, each at zero, out of all of them. -/
theorem take_cells (thr : Thread nD τ) (s : Finset (SemLoc sig)) (hs : ∀ x ∈ s, x.isScoped thr.2.kind = true) :
    ∃ R : sProp (MM F), (ownSems0 thr : sProp (MM F)) = iprop((bigSep s fun x => semVal (thr, x) 0) ∗ R) := by
  refine ⟨bigSep (ownCells thr \ s.map ⟨fun x => (thr, x), fun _ _ h => (Prod.mk.inj h).2⟩) fun g => semVal g 0, ?_⟩
  unfold SparseCore.Cfg.ownSems0
  rw [bigSep_sdiff_split (s := ownCells thr) (t := s.map ⟨fun x => (thr, x), fun _ _ h => (Prod.mk.inj h).2⟩) (fun g hg => by
    obtain ⟨x, hx, rfl⟩ := Finset.mem_map.mp hg
    exact mem_ownCells.mpr ⟨rfl, hs x hx⟩), bigSep_map]
  rfl

/-- Some of a tile's own buffers, each at some contents, out of all of them. -/
theorem take_bufs (d : Dev nD) (c : Fin τ.nSC) (j : Fin τ.nSub) (s : Finset (Ref sig .scVector))
    (hs : ∀ b ∈ s, ((Proc.scVector c j).devRef b : DevRef τ sig).owner = .proc (.scVector c j)) :
    ∃ R : sProp (MM F), (ownBufs (V d c j) : sProp (MM F)) = iprop((bigSep s fun b => iprop(∃ f, (V d c j).loc b ↦{fullShare} f)) ∗ R) := by
  refine ⟨bigSep (ownRefs (τ := τ) (Proc.scVector c j) \ s.map ⟨(Proc.scVector c j).devRef, Proc.devRef_injective _⟩) fun b => iprop(∃ f, ((d, b) : Loc nD τ sig) ↦{fullShare} f), ?_⟩
  unfold SparseCore.Cfg.ownBufs
  show bigSep (ownRefs (τ := τ) (Proc.scVector c j)) _ = _
  rw [bigSep_sdiff_split (s := ownRefs (τ := τ) (Proc.scVector c j)) (t := s.map ⟨(Proc.scVector c j).devRef, Proc.devRef_injective _⟩) (fun g hg => by
    obtain ⟨x, hx, rfl⟩ := Finset.mem_map.mp hg
    exact SparseCore.Cfg.mem_ownRefs_of_owner (hs x hx)), bigSep_map]
  rfl

/-- A relayout tile's scratch out of its own buffers and cells. -/
theorem take_scr0 (d : Dev nD) (i : grid0.Coords) :
    ∃ R R' : sProp (MM F), (iprop(ownBufs (thr0 d i) ∗ ownSems0 (thr0 d i)) : sProp (MM F)) ⊣⊢ iprop(scr0 d i ∗ R ∗ R') := by
  obtain ⟨R, hR⟩ := take_bufs (F := F) d ((i 0).castLE hcore0) ((i 1).castLE hsub0) {cc0_scratch0, cc0_scratch1, cc0_scratch2, cc0_scratch3, cc0_scratch4}
    (fun b hb => by
      simp only [Finset.mem_insert, Finset.mem_singleton] at hb
      rcases hb with rfl | rfl | rfl | rfl | rfl <;> rfl)
  obtain ⟨R', hR'⟩ := take_cells (F := F) (thr0 d i) {.dma cc0_scratch5.sem, .dma cc0_scratch6.sem, .dma cc0_scratch7.sem, .dma cc0_scratch8.sem, .dma cc0_scoped0.sem, .dma cc0_scoped1.sem}
    (by show ∀ x ∈ _, SemLoc.isScoped Kind.scVector x = true; decide)
  refine ⟨R, R', ?_⟩
  rw [hR, hR']
  rw [SparseCore.bigSep_insert' (by decide), SparseCore.bigSep_insert' (by decide), SparseCore.bigSep_insert' (by decide), SparseCore.bigSep_insert' (by decide), bigSep_singleton]
  rw [SparseCore.bigSep_insert' (by decide), SparseCore.bigSep_insert' (by decide), SparseCore.bigSep_insert' (by decide), SparseCore.bigSep_insert' (by decide), SparseCore.bigSep_insert' (by decide), bigSep_singleton]
  unfold scr0
  constructor
  · iintro ⟨⟨⟨H0, H1, H2, H3, H4⟩, HR⟩, ⟨V0, V1, V2, V3, V4, V5⟩, HR'⟩
    iframe
  · iintro ⟨⟨H0, H1, H2, H3, H4, V0, V1, V2, V3, V4, V5⟩, HR, HR'⟩
    iframe

/-- A gather tile's scratch out of its own buffers and cells. -/
theorem take_scr1 (d : Dev nD) (i : grid1.Coords) :
    ∃ R R' : sProp (MM F), (iprop(ownBufs (thr1 d i) ∗ ownSems0 (thr1 d i)) : sProp (MM F)) ⊣⊢ iprop(scr1 d i ∗ R ∗ R') := by
  obtain ⟨R, hR⟩ := take_bufs (F := F) d ((i 0).castLE hcore1) ((i 1).castLE hsub1) {cc1_scratch0, cc1_scratch1, cc1_scratch2}
    (fun b hb => by
      simp only [Finset.mem_insert, Finset.mem_singleton] at hb
      rcases hb with rfl | rfl | rfl <;> rfl)
  obtain ⟨R', hR'⟩ := take_cells (F := F) (thr1 d i) {.dma cc1_scratch3.sem, .dma cc1_scratch4.sem, .dma cc1_scratch5.sem, .dma cc1_scratch6.sem, .dma cc1_scoped0.sem}
    (by show ∀ x ∈ _, SemLoc.isScoped Kind.scVector x = true; decide)
  refine ⟨R, R', ?_⟩
  rw [hR, hR']
  rw [SparseCore.bigSep_insert' (by decide), SparseCore.bigSep_insert' (by decide), bigSep_singleton]
  rw [SparseCore.bigSep_insert' (by decide), SparseCore.bigSep_insert' (by decide), SparseCore.bigSep_insert' (by decide), SparseCore.bigSep_insert' (by decide), bigSep_singleton]
  unfold scr1 free
  constructor
  · iintro ⟨⟨⟨H0, H1, H2⟩, HR⟩, ⟨V0, V1, V2, V3, V4⟩, HR'⟩
    iframe
  · iintro ⟨⟨H0, H1, H2, V0, V1, V2, V3, V4⟩, HR, HR'⟩
    iframe

/-! ## The tiles' obligations -/

/-- A relayout tile, from its deal to its deal with its positions of the flat result written. -/
theorem tile_body0 (hF : (K (F := F)).Facts) (d : Dev nD) (i : grid0.Coords) (O : CellTallies nD τ sig (HIx 2)) (W : Waits sig (HIx 2)) (hO : ∀ g, O g none = 0) :
    (iprop(levAts (K (F := F)).L (K (F := F)).lev ∗ emp ∗ deal0 A d (A d).f4 (wid i) ∗ scopedBufs (thr0 d i) ∗ scopedSems0 (thr0 d i) ∗ owes (thr0 d i) O W) : sProp (MM F))
    ⊢ wp frame (wpE (defs₀ (F := F)) 𝒱₀ (thr0 d i) none) Set.univ
      (cc0__sc_relayout_body i (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1)
      fun _ => iprop(deal0 A d (relG (A d).tb (A d).tl) (wid i) ∗ scopedBufs (thr0 d i) ∗ scopedSems0 (thr0 d i)
        ∗ ∃ W', ⌜∀ p ∈ W', p ∈ W ∨ p.2 = none⌝ ∗ owes (thr0 d i) O W') := by
  obtain ⟨R, R', hR⟩ := take_scr0 (F := F) d i
  have ht := pointsTo_share (Ix := HIx 2) (Name := ℕ) (U := UU) (Lvl := ℕ) (ℓ := lc d main_v1) (I := Finset.univ) (f := (A d).tb) (PosShare.mem_left_op_right (shareTokN fullShare (wid i)))
  have hset : ∀ f : S41600000.Idx → Elt F .f32, (lc d main_v4 ↦[Oset (wid i)]{fullShare} f : sProp (MM F))
      = iprop((lc d main_v4 ↦[Eset (wid i) 0 0 29]{fullShare} f) ∗ (lc d main_v4 ↦[Eset (wid i) 1 0 29]{fullShare} f) ∗ (lc d main_v4 ↦[Tset (wid i)]{fullShare} f)) := fun f => by
    have h1 : Disjoint (Eset (wid i) 1 0 29) (Tset (wid i)) := by
      rw [Finset.disjoint_left]; intro q h h'; rw [mem_Eset] at h; rw [mem_Tset] at h'; exact h'.1 h.1
    have h2 : Disjoint (Eset (wid i) 0 0 29) (Eset (wid i) 1 0 29 ∪ Tset (wid i)) := by
      rw [Finset.disjoint_left]; intro q h h'
      rw [mem_Eset] at h; rw [Finset.mem_union, mem_Eset, mem_Tset] at h'
      rcases h' with h' | h'
      · omega
      · exact h'.1 h.1
    unfold Oset
    rw [BI.Entails.antisymm (pointsTo_union h2).1 (pointsTo_union h2).2, BI.Entails.antisymm (pointsTo_union h1).1 (pointsTo_union h1).2]
  have hw := tile0 (F := F) d i (shareTokN fullShare (wid i)).left (shareTokN fullShare (wid i)).right (shareTokN fullShare (wid i)) (A d).tb (A d).tl (A d).f4 O W
  rw [(K (F := F)).scopedBufs_V hF d _ _, SparseCore.Cfg.scopedSems0_V (Val := Elt F) d _ _]
  unfold deal0
  rw [hset, hset]
  iintro ⟨#Hlv, -, ⟨Ht, Htl, H0, H1, H2⟩, Hbufs, Hsems, HO⟩
  ihave Hmw := (show levAts (K (F := F)).L (K (F := F)).lev ⊢ Transfers.MayWaits (thr0 d i) none O from
    (K (F := F)).mayWaits_none (thr := thr0 d i) hO) $$ Hlv
  ihave Hs := hR.1 $$ [Hbufs Hsems]
  · isplitl [Hbufs] <;> iassumption
  icases Hs with ⟨Hs, HR, HR'⟩
  ihave Ht := ht.1 $$ Ht
  icases Ht with ⟨Ht0, Ht1⟩
  ihave HO := (Owe_intro (F := F) (thr0 d i) O W) $$ HO
  ihave Hwp := hw $$ [Ht0 Ht1 Htl H0 H1 H2 Hs HO]
  · isplitr; · iexact Hmw
    iframe
  iapply (wp_wand_r Idealize.ShloMosaic.frame (wpE (defs₀ (F := F)) 𝒱₀ (thr0 d i) none) Set.univ)
  isplitl [Hwp]; · iexact Hwp
  iintro %_ ⟨Ht0, Ht1, Htl, H0, H1, H2, Hs, HO⟩
  isplitl [Ht0 Ht1 Htl H0 H1 H2]
  · isplitl [Ht0 Ht1]
    · iapply ht.2; isplitl [Ht0] <;> iassumption
    isplitl [Htl]; · iexact Htl
    isplitl [H0]; · iexact H0
    isplitl [H1] <;> iassumption
  ihave Hs := hR.2 $$ [Hs HR HR']
  · iframe
  icases Hs with ⟨Hbufs, Hsems⟩
  isplitl [Hbufs]; · iexact Hbufs
  isplitl [Hsems]; · iexact Hsems
  unfold Owe; iexact HO

/-- A gather tile, from its deal to its deal with its rows gathered; the indices within the tables. -/
theorem tile_body1 (hF : (K (F := F)).Facts) (hA : ∀ d, InRange (A d).ix) (d : Dev nD) (i : grid1.Coords) (O : CellTallies nD τ sig (HIx 2)) (W : Waits sig (HIx 2)) (hO : ∀ g, O g none = 0) :
    (iprop(levAts (K (F := F)).L (K (F := F)).lev ∗ emp ∗ deal1 A d (A d).f6 (wid1 i) ∗ scopedBufs (thr1 d i) ∗ scopedSems0 (thr1 d i) ∗ owes (thr1 d i) O W) : sProp (MM F))
    ⊢ wp frame (wpE (defs₀ (F := F)) 𝒱₀ (thr1 d i) none) Set.univ
      (cc1__sc_gather_body i (Memref.whole main_v5_scv) (Memref.isWhole_whole _) (Memref.whole main_v0_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0)
      fun _ => iprop(deal1 A d (gath (A d).tab (A d).ix) (wid1 i) ∗ scopedBufs (thr1 d i) ∗ scopedSems0 (thr1 d i)
        ∗ ∃ W', ⌜∀ p ∈ W', p ∈ W ∨ p.2 = none⌝ ∗ owes (thr1 d i) O W') := by
  obtain ⟨R, R', hR⟩ := take_scr1 (F := F) d i
  have ht := pointsTo_share (Ix := HIx 2) (Name := ℕ) (U := UU) (Lvl := ℕ) (ℓ := lc d main_v5) (I := Finset.univ) (f := (A d).tab) (PosShare.mem_left_op_right (shareTokN fullShare (wid1 i)))
  have hw := tile1 (F := F) d i (shareTokN fullShare (wid1 i)).left (shareTokN fullShare (wid1 i)).right (shareTokN fullShare (wid1 i)) (A d).tab (A d).ix (hA d) (A d).f6 O W
  rw [(K (F := F)).scopedBufs_V hF d _ _, SparseCore.Cfg.scopedSems0_V (Val := Elt F) d _ _]
  unfold deal1
  iintro ⟨#Hlv, -, ⟨Ht, Hi, Hr⟩, Hbufs, Hsems, HO⟩
  ihave Hmw := (show levAts (K (F := F)).L (K (F := F)).lev ⊢ Transfers.MayWaits (thr1 d i) none O from
    (K (F := F)).mayWaits_none (thr := thr1 d i) hO) $$ Hlv
  ihave Hs := hR.1 $$ [Hbufs Hsems]
  · isplitl [Hbufs] <;> iassumption
  icases Hs with ⟨Hs, HR, HR'⟩
  ihave Ht := ht.1 $$ Ht
  icases Ht with ⟨Ht0, Ht1⟩
  ihave HO := (Owe_intro (F := F) (thr1 d i) O W) $$ HO
  ihave Hwp := hw $$ [Hmw Ht0 Ht1 Hi Hr Hs HO]
  · isplitl [Hmw]; · iexact Hmw
    isplitl [Ht0]; · iexact Ht0
    isplitl [Ht1]; · iexact Ht1
    isplitl [Hi]; · iexact Hi
    isplitl [Hr]; · iexact Hr
    isplitl [Hs] <;> iassumption
  iapply (wp_wand_r Idealize.ShloMosaic.frame (wpE (defs₀ (F := F)) 𝒱₀ (thr1 d i) none) Set.univ)
  isplitl [Hwp]; · iexact Hwp
  iintro %_ ⟨Ht0, Ht1, Hi, Hr, Hs, HO⟩
  isplitl [Ht0 Ht1 Hi Hr]
  · isplitl [Ht0 Ht1]
    · iapply ht.2; isplitl [Ht0] <;> iassumption
    isplitl [Hi] <;> iassumption
  ihave Hs := hR.2 $$ [Hs HR HR']
  · isplitl [Hs]; · iexact Hs
    isplitl [HR] <;> iassumption
  icases Hs with ⟨Hbufs, Hsems⟩
  isplitl [Hbufs]; · iexact Hbufs
  isplitl [Hsems]; · iexact Hsems
  unfold Owe; iexact HO

def coordsV0 (c : Fin (grid0.bound 0)) (s : Fin (grid0.bound 1)) : grid0.Coords :=
  fun | 0 => c | 1 => s | ⟨_ + 2, h⟩ => absurd h (Nat.not_lt.2 (Nat.le_add_left _ _))
def coordsV1 (c : Fin (grid1.bound 0)) (s : Fin (grid1.bound 1)) : grid1.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 () = SparseCore.onTile hcore0 hsub0 (fun c s => cc0__sc_relayout_body (coordsV0 c s) (Memref.whole main_v1_scv) (Memref.isWhole_whole _) (Memref.whole main_v3_scv) (Memref.isWhole_whole _) (Memref.whole main_v4_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scoped0 cc0_scoped1) ⟨⟩ c s := rfl
theorem defs₀_vector1 (c : Fin τ.nSC) (s : Fin τ.nSub) :
    defs₀ (F := F) (.scVector c s) 1 () = SparseCore.onTile hcore1 hsub1 (fun c s => cc1__sc_gather_body (coordsV1 c s) (Memref.whole main_v5_scv) (Memref.isWhole_whole _) (Memref.whole main_v0_scv) (Memref.isWhole_whole _) (Memref.whole main_v6_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scoped0) ⟨⟩ c s := rfl

/-- A tile that records only waits of its own also records only those or the call's. -/
theorem own_waits {thr : Thread nD τ} {B C E : sProp (MM F)} {O : CellTallies nD τ sig (HIx 2)} {W : Waits sig (HIx 2)} {q : Fin 2} :
    iprop(B ∗ C ∗ E ∗ ∃ W', ⌜∀ p ∈ W', p ∈ W ∨ p.2 = none⌝ ∗ owes thr O W')
      ⊢ iprop(B ∗ C ∗ E ∗ ∃ W', ⌜∀ p ∈ W', p ∈ W ∨ p.2 = none ∨ p.2 = some q⌝ ∗ owes thr O W') := by
  iintro ⟨HB, HC, HE, %W', %hW, HO⟩
  isplitl [HB]; · iexact HB
  isplitl [HC]; · iexact HC
  isplitl [HE]; · iexact HE
  iexists W'; isplitr
  · ipureintro; exact fun p hp => (hW p hp).imp_right Or.inl
  · iexact HO

/-- Every tile of both calls meets its obligation. -/
theorem tileObl (hF : (K (F := F)).Facts) (hA : ∀ d, InRange (A d).ix) : ∀ q : Fin 2, (K (F := F)).TileObl (D (F := F)) 𝒱 (P A) v₀ q
  | 0 => by
    intro d c i O W hO _ _
    simp only [show (P A).ox = fun _ _ => 0 from rfl, add_zero]
    have hci : ((K (F := F)).core 0 c).val < grid0.bound 0 ∧ ((K (F := F)).sub 0 i).val < grid0.bound 1 := ⟨c.isLt, i.isLt⟩
    change _ ⊢ wp _ _ _ (Pipeline.liftProg (defs₀ (F := F) (.scVector ((K (F := F)).core 0 c) ((K (F := F)).sub 0 i)) 0 ())) _
    refine BI.Entails.trans ?_ (Pipeline.wp_liftProg (D (F := F)) (Pipeline.defs_kernel pcfgs defs₀) 𝒱₀ _ Set.univ none _ _)
    rw [defs₀_vector0]; simp only [SparseCore.onTile, hci, _root_.and_self, ↓reduceDIte]
    exact (tile_body0 A hF d (coordsV0 ⟨_, hci.1⟩ ⟨_, hci.2⟩) O W hO).trans (wp_mono frame _ _ fun _ => own_waits)
  | 1 => by
    intro d c i O W hO _ _
    simp only [show (P A).ox = fun _ _ => 0 from rfl, add_zero]
    have hci : ((K (F := F)).core 1 c).val < grid1.bound 0 ∧ ((K (F := F)).sub 1 i).val < grid1.bound 1 := ⟨c.isLt, i.isLt⟩
    change _ ⊢ wp _ _ _ (Pipeline.liftProg (defs₀ (F := F) (.scVector ((K (F := F)).core 1 c) ((K (F := F)).sub 1 i)) 1 ())) _
    refine BI.Entails.trans ?_ (Pipeline.wp_liftProg (D (F := F)) (Pipeline.defs_kernel pcfgs defs₀) 𝒱₀ _ Set.univ none _ _)
    rw [defs₀_vector1]; simp only [SparseCore.onTile, hci, _root_.and_self, ↓reduceDIte]
    exact (tile_body1 A hF hA d (coordsV1 ⟨_, hci.1⟩ ⟨_, hci.2⟩) O W hO).trans (wp_mono frame _ _ fun _ => own_waits)

end Cert.Proof
-- ==== Proof.MlpOps.lean ====
/-
  The dense layers' memory: loads and stores of the body as steps on what each memref holds, an array of two rows read
  and written a row at a time, and a band of 2048 rows of a taller array.
-/
module

public import proofs.«01_k».proof.Proof.Base
public import Idealize.ShloMosaic.Lib.Pipeline.ValueKit
public import Idealize.ShloMosaic.Lib.Memref

@[expose] public section

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Loads and stores -/

/-- What the rectangle holds of an array. -/
def part {s : Shape} {α : Type} (r : Rect s) (X : s.Idx → α) : r.shape.Idx → α := fun x => X (r.emb x)

/-- A load of a memref that holds `X`, whose rectangle holds `Y`. -/
theorem wp_ld (c : Dev nD) {cs : CoreSpace} {s : Shape} {e : EltTy} {α : Type} (m : Memref sig .tc cs s e) (r : Rect s)
    {hl : m.view.LoadsAt r.toLoadRect} {k : (r.shape.Idx → Elt F e) → Prog (TpuEff nD τ sig (Elt F) Λ₀ .tc) α}
    {Q : α → sProp (MM F)} (X : s.Idx → Elt F e) (Y : r.shape.Idx → Elt F e) (h : part r X = Y) :
    (owns (c : Thread nD τ) m fullShare X : sProp (MM F))
      ⊢ iprop((owns (c : Thread nD τ) m fullShare X -∗ wp frame (wpE (defs₀ (F := F)) 𝒱₀ (c : Thread nD τ) none) Set.univ (k Y) Q)
        -∗ wp frame (wpE (defs₀ (F := F)) 𝒱₀ (c : Thread nD τ) none) Set.univ (.op (.load m r.toLoadRect hl) k) Q) := by
  unfold owns
  iintro ⟨%f, %hf, H⟩ Hk
  iapply (wp_load 𝒱₀ (c : Thread nD τ) none Set.univ (m := m) (S := m.view.set) (View.setOn_subset_set _ _)) $$ H
  iintro H
  have e1 : m.view.readAt (Elt F) r.toLoadRect f = Y := by
    rw [← h, ← hf]; rfl
  rw [e1]
  iapply Hk
  iexists f
  isplitr; · ipureintro; exact hf
  iexact H

/-- A store over a rectangle of a memref that holds `X`, after which it holds `Y`. -/
theorem wp_st (c : Dev nD) {cs : CoreSpace} {s : Shape} {e : EltTy} {α : Type} (m : Memref sig .tc cs s e) (r : Rect s)
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α}
    {Q : α → sProp (MM F)} (X Y : s.Idx → Elt F e) (h : r.overlay X w = Y) :
    (owns (c : Thread nD τ) m fullShare X : sProp (MM F))
      ⊢ iprop((owns (c : Thread nD τ) m fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (f := f) (S := m.view.set) (View.set_slice_subset _ _)) $$ H
  iintro H
  iapply Hk
  iexists _
  isplitr
  swap
  · iexact H
  ipureintro
  rw [← h, ← hf]
  funext y
  by_cases hy : y ∈ r.set
  · obtain ⟨x, -, rfl⟩ := Finset.mem_map.mp (by rw [← Rect.map_emb_univ] at hy; exact hy)
    rw [Rect.overlay_emb]
    exact View.read_slice_write_emb (v := m.view) r f w (Finset.mem_univ x)
  · rw [Rect.overlay_of_not_mem _ _ _ hy]
    exact View.read_slice_write_of_not_mem (v := m.view) r f w Finset.univ (by rw [Rect.map_emb_univ]; exact hy)

/-! ## The whole array -/

theorem part_full {s : Shape} {α : Type} (off : Fin s.rank → Nat) (h : off = fun _ => 0) (inb : ∀ a, off a + s.size a ≤ s.size a)
    (X : s.Idx → α) : part (Rect.unit off s.size inb) X = X := by
  subst h; funext x
  refine congrArg X (funext fun a => Fin.ext ?_)
  show 0 + 1 * (x a).val = (x a).val
  omega

theorem overlay_full {s : Shape} {α : Type} (off : Fin s.rank → Nat) (h : off = fun _ => 0) (inb : ∀ a, off a + s.size a ≤ s.size a)
    (X w : s.Idx → α) : (Rect.unit off s.size inb).overlay X w = w := by
  funext x
  have e : (Rect.unit off s.size inb).emb x = x := by
    subst h
    refine funext fun a => Fin.ext ?_
    show 0 + 1 * (x a).val = (x a).val
    omega
  have := Rect.overlay_emb (Rect.unit off s.size inb) X w x
  rwa [e] at this

theorem zero₂ : (![0, 0] : Fin 2 → Nat) = fun _ => 0 := funext fun a => by fin_cases a <;> rfl

/-! ## Two rows -/

theorem idx2_ext {m n : Nat} {x y : (⟨2, ![m, n]⟩ : Shape).Idx} (h0 : (x 0).val = (y 0).val) (h1 : (x 1).val = (y 1).val) : x = y :=
  funext (Fin.forall_fin_two.mpr ⟨Fin.ext h0, Fin.ext h1⟩)

/-- The array of two rows. -/
def rows2 {n : Nat} {α : Type} (a b : (⟨2, ![1, n]⟩ : Shape).Idx → α) : (⟨2, ![2, n]⟩ : Shape).Idx → α :=
  fun j => if (j 0).val = 0 then a (ix2 0 (j 1)) else b (ix2 0 (j 1))

section Rows

variable {n : Nat} {α : Type} (a b w : (⟨2, ![1, n]⟩ : Shape).Idx → α)

theorem rows2_0 {j : (⟨2, ![2, n]⟩ : Shape).Idx} (h : (j 0).val = 0) (x : (⟨2, ![1, n]⟩ : Shape).Idx) (hx : (x 1).val = (j 1).val) : rows2 a b j = a x :=
  (if_pos h).trans (congrArg a (idx2_ext (by have : (x 0).val < 1 := (x 0).isLt; show 0 = (x 0).val; omega) hx.symm))

theorem rows2_1 {j : (⟨2, ![2, n]⟩ : Shape).Idx} (h : ¬ (j 0).val = 0) (x : (⟨2, ![1, n]⟩ : Shape).Idx) (hx : (x 1).val = (j 1).val) : rows2 a b j = b x :=
  (if_neg h).trans (congrArg b (idx2_ext (by have : (x 0).val < 1 := (x 0).isLt; show 0 = (x 0).val; omega) hx.symm))

theorem exists_rows2 (X : (⟨2, ![2, n]⟩ : Shape).Idx → α) : ∃ a b, X = rows2 a b := by
  refine ⟨fun x => X (ix2 0 (x 1)), fun x => X (ix2 1 (x 1)), funext fun j => ?_⟩
  have hj : (j 0).val < 2 := (j 0).isLt
  by_cases h : (j 0).val = 0
  · rw [rows2_0 _ _ h (ix2 0 (j 1)) rfl]
    exact congrArg X (idx2_ext h rfl)
  · rw [rows2_1 _ _ h (ix2 0 (j 1)) rfl]
    exact congrArg X (idx2_ext (show (j 0).val = 1 by omega) rfl)

theorem part_row0 (inb : ∀ q, (![0, 0] : Fin 2 → Nat) q + (![1, n] : Fin 2 → Nat) q ≤ (![2, n] : Fin 2 → Nat) q) :
    part (Rect.unit (s := ⟨2, ![2, n]⟩) ![0, 0] ![1, n] inb) (rows2 a b) = a := by
  funext x
  change (⟨2, ![1, n]⟩ : Shape).Idx at x
  have hx : (x 0).val < 1 := (x 0).isLt
  exact rows2_0 a b (show 0 + 1 * (x 0).val = 0 by omega) x (show (x 1).val = 0 + 1 * (x 1).val by omega)

theorem part_row1 (inb : ∀ q, (![1, 0] : Fin 2 → Nat) q + (![1, n] : Fin 2 → Nat) q ≤ (![2, n] : Fin 2 → Nat) q) :
    part (Rect.unit (s := ⟨2, ![2, n]⟩) ![1, 0] ![1, n] inb) (rows2 a b) = b := by
  funext x
  change (⟨2, ![1, n]⟩ : Shape).Idx at x
  exact rows2_1 a b (show ¬ 1 + 1 * (x 0).val = 0 by omega) x (show (x 1).val = 0 + 1 * (x 1).val by omega)

theorem overlay_row0 (inb : ∀ q, (![0, 0] : Fin 2 → Nat) q + (![1, n] : Fin 2 → Nat) q ≤ (![2, n] : Fin 2 → Nat) q) :
    (Rect.unit (s := ⟨2, ![2, n]⟩) ![0, 0] ![1, n] inb).overlay (rows2 a b) w = rows2 w b := by
  funext j
  have hj : (j 0).val < 2 := (j 0).isLt
  by_cases h : (j 0).val = 0
  · have e : (Rect.unit (s := ⟨2, ![2, n]⟩) ![0, 0] ![1, n] inb).emb (ix2 0 (j 1) : (⟨2, ![1, n]⟩ : Shape).Idx) = j :=
      idx2_ext (show 0 + 1 * 0 = (j 0).val by omega) (show 0 + 1 * (j 1).val = (j 1).val by omega)
    have := Rect.overlay_emb (Rect.unit (s := ⟨2, ![2, n]⟩) ![0, 0] ![1, n] inb) (rows2 a b) w (ix2 0 (j 1) : (⟨2, ![1, n]⟩ : Shape).Idx)
    rw [e] at this
    rw [this, rows2_0 _ _ h (ix2 0 (j 1)) rfl]
  · rw [Rect.overlay_of_not_mem _ _ _ (fun hm => h (by
      have := ((Rect.mem_set_unit).mp hm 0).2
      have : (j 0).val < 0 + 1 := this
      omega)), rows2_1 _ _ h (ix2 0 (j 1)) rfl, rows2_1 _ _ h (ix2 0 (j 1)) rfl]

theorem overlay_row1 (inb : ∀ q, (![1, 0] : Fin 2 → Nat) q + (![1, n] : Fin 2 → Nat) q ≤ (![2, n] : Fin 2 → Nat) q) :
    (Rect.unit (s := ⟨2, ![2, n]⟩) ![1, 0] ![1, n] inb).overlay (rows2 a b) w = rows2 a w := by
  funext j
  have hj : (j 0).val < 2 := (j 0).isLt
  by_cases h : (j 0).val = 0
  · rw [Rect.overlay_of_not_mem _ _ _ (fun hm => by
      have := ((Rect.mem_set_unit).mp hm 0).1
      have : 1 ≤ (j 0).val := this
      omega), rows2_0 _ _ h (ix2 0 (j 1)) rfl, rows2_0 _ _ h (ix2 0 (j 1)) rfl]
  · have e : (Rect.unit (s := ⟨2, ![2, n]⟩) ![1, 0] ![1, n] inb).emb (ix2 0 (j 1) : (⟨2, ![1, n]⟩ : Shape).Idx) = j :=
      idx2_ext (show 1 + 1 * 0 = (j 0).val by omega) (show 0 + 1 * (j 1).val = (j 1).val by omega)
    have := Rect.overlay_emb (Rect.unit (s := ⟨2, ![2, n]⟩) ![1, 0] ![1, n] inb) (rows2 a b) w (ix2 0 (j 1) : (⟨2, ![1, n]⟩ : Shape).Idx)
    rw [e] at this
    rw [this, rows2_1 _ _ h (ix2 0 (j 1)) rfl]

end Rows

/-! ## A band of rows -/

section Band

variable {n : Nat} {α : Type}

/-- The `k`-th 2048 rows. -/
def band (k : Nat) (X : (⟨2, ![16384, n]⟩ : Shape).Idx → α) : (⟨2, ![2048, n]⟩ : Shape).Idx → α :=
  fun x => X (ix2 ⟨(2048 * k + (x 0).val) % 16384, Nat.mod_lt _ (by decide)⟩ (x 1))

/-- The array with its `k`-th 2048 rows replaced. -/
def putBand (k : Nat) (X : (⟨2, ![16384, n]⟩ : Shape).Idx → α) (w : (⟨2, ![2048, n]⟩ : Shape).Idx → α) : (⟨2, ![16384, n]⟩ : Shape).Idx → α :=
  fun j => if (j 0).val / 2048 = k then w (ix2 ⟨(j 0).val % 2048, Nat.mod_lt _ (by decide)⟩ (j 1)) else X j

theorem band_putBand (k : Nat) (hk : k < 8) (X : (⟨2, ![16384, n]⟩ : Shape).Idx → α) (w : (⟨2, ![2048, n]⟩ : Shape).Idx → α) :
    band k (putBand k X w) = w := by
  funext x
  have hx : (x 0).val < 2048 := (x 0).isLt
  refine (if_pos (show (2048 * k + (x 0).val) % 16384 / 2048 = k by omega)).trans (congrArg w (idx2_ext ?_ rfl))
  show (2048 * k + (x 0).val) % 16384 % 2048 = (x 0).val
  omega

theorem band_putBand_ne (k k' : Nat) (hk : k' < 8) (h : k' ≠ k) (X : (⟨2, ![16384, n]⟩ : Shape).Idx → α) (w : (⟨2, ![2048, n]⟩ : Shape).Idx → α) :
    band k' (putBand k X w) = band k' X := by
  funext x
  have hx : (x 0).val < 2048 := (x 0).isLt
  exact if_neg (show ¬ (2048 * k' + (x 0).val) % 16384 / 2048 = k by omega)

theorem part_band (k : Nat) (hk : k < 8) (off : Fin 2 → Nat) (hoff : off = ![2048 * k, 0]) (inb : ∀ q, off q + (![2048, n] : Fin 2 → Nat) q ≤ (![16384, n] : Fin 2 → Nat) q)
    (X : (⟨2, ![16384, n]⟩ : Shape).Idx → α) : part (Rect.unit (s := ⟨2, ![16384, n]⟩) off ![2048, n] inb) X = band k X := by
  subst hoff
  funext x
  change (⟨2, ![2048, n]⟩ : Shape).Idx at x
  have hx : (x 0).val < 2048 := (x 0).isLt
  exact congrArg X (idx2_ext (show 2048 * k + 1 * (x 0).val = (2048 * k + (x 0).val) % 16384 by omega)
    (show 0 + 1 * (x 1).val = (x 1).val by omega))

theorem overlay_band (k : Nat) (hk : k < 8) (off : Fin 2 → Nat) (hoff : off = ![2048 * k, 0]) (inb : ∀ q, off q + (![2048, n] : Fin 2 → Nat) q ≤ (![16384, n] : Fin 2 → Nat) q)
    (X : (⟨2, ![16384, n]⟩ : Shape).Idx → α) (w : (⟨2, ![2048, n]⟩ : Shape).Idx → α) :
    (Rect.unit (s := ⟨2, ![16384, n]⟩) off ![2048, n] inb).overlay X w = putBand k X w := by
  subst hoff
  funext j
  have hj : (j 0).val < 16384 := (j 0).isLt
  by_cases h : (j 0).val / 2048 = k
  · have e : (Rect.unit (s := ⟨2, ![16384, n]⟩) ![2048 * k, 0] ![2048, n] inb).emb (ix2 ⟨(j 0).val % 2048, Nat.mod_lt _ (by decide)⟩ (j 1) : (⟨2, ![2048, n]⟩ : Shape).Idx) = j :=
      idx2_ext (show 2048 * k + 1 * ((j 0).val % 2048) = (j 0).val by omega) (show 0 + 1 * (j 1).val = (j 1).val by omega)
    have := Rect.overlay_emb (Rect.unit (s := ⟨2, ![16384, n]⟩) ![2048 * k, 0] ![2048, n] inb) X w (ix2 ⟨(j 0).val % 2048, Nat.mod_lt _ (by decide)⟩ (j 1) : (⟨2, ![2048, n]⟩ : Shape).Idx)
    rw [e] at this
    exact this.trans (if_pos h).symm
  · refine (Rect.overlay_of_not_mem _ _ _ (fun hm => h ?_)).trans (if_neg h).symm
    have := (Rect.mem_set_unit).mp hm 0
    have h1 : 2048 * k ≤ (j 0).val := this.1
    have h2 : (j 0).val < 2048 * k + 2048 := this.2
    omega

end Band

end Cert.Proof
-- ==== Proof.MlpBody.lean ====
/-
  The dense layers' body, one triple per phase: what each grid point leaves in the scratch arrays and in the block of
  the output.
-/
module

public import proofs.«01_k».proof.Proof.MlpOps
public import proofs.«01_k».proof.Proof.Gen.KernelIdeal.Skeleton

@[expose] public section

set_option maxRecDepth 65536

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The conditions -/

theorem cond1_iff : ∀ i : grid2.Coords, k2_cond1 i = 1#1 ↔ (i 0).val = 0 := by decide +kernel
theorem cond4_iff : ∀ i : grid2.Coords, k2_cond4 i = 1#1 ↔ (i 0).val = 1 := by decide +kernel
theorem cond7_iff : ∀ i : grid2.Coords, k2_cond7 i = 1#1 ↔ (i 0).val = 2 := by decide +kernel

/-- The body's test that the inner coordinate is `k`. -/
abbrev isAt (i : grid2.Coords) (k : BitVec 32) : BitVec 1 :=
  Scalar.cmpi .ne (Scalar.extui (Scalar.cmpi .eq (BitVec.ofNat 32 (i 1).val) k) : BitVec 32) 0#32

theorem first_iff : ∀ i : grid2.Coords, isAt i 0#32 = 1#1 ↔ (i 1).val = 0 := by decide +kernel
theorem last_iff : ∀ i : grid2.Coords, isAt i 7#32 = 1#1 ↔ (i 1).val = 7 := by decide +kernel

/-! ## Two conditional steps -/

/-- Core `c` holds the memref whole, at `X`. -/
abbrev own (c : Dev nD) {s : Shape} (m : Memref sig .tc .vmem s .f32) (X : s.Idx → F .f32) : sProp (MM F) :=
  owns (c : Thread nD τ) m fullShare X

/-- Core `c` runs the program. -/
abbrev run (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

/-- The row of zeros an accumulator starts at. -/
def zrow (n : Nat) : (⟨2, ![1, n]⟩ : Shape).Idx → F .f32 := fun _ => Scalar.ofBits .f32 0x00000000#32

/-- The accumulator's row before the step: zero at the first. -/
def start {n : Nat} (k : Nat) (a : (⟨2, ![1, n]⟩ : Shape).Idx → F .f32) : (⟨2, ![1, n]⟩ : Shape).Idx → F .f32 := if k = 0 then zrow n else a

/-- A row written at the last step only. -/
def atLast {n : Nat} (k : Nat) (x a : (⟨2, ![1, n]⟩ : Shape).Idx → F .f32) : (⟨2, ![1, n]⟩ : Shape).Idx → F .f32 := if k = 7 then x else a

theorem pay11_eq : (k2_pay11 (F := F)) = rows2 (zrow 128) (zrow 128) := by
  funext j; unfold rows2 zrow; split <;> rfl
theorem pay16_eq : (k2_pay16 (F := F)) = rows2 (zrow 64) (zrow 64) := by
  funext j; unfold rows2 zrow; split <;> rfl

/-- At the first inner point both rows are set to zero. -/
theorem wp_zero (c : Dev nD) (i : grid2.Coords) {n : Nat} (m : Memref sig .tc .vmem ⟨2, ![2, n]⟩ .f32) {inb : ∀ q, (![0, 0] : Fin 2 → Nat) q + (![2, n] : Fin 2 → Nat) q ≤ (![2, n] : Fin 2 → Nat) q}
    (z : (⟨2, ![2, n]⟩ : Shape).Idx → F .f32) (hz : z = rows2 (zrow n) (zrow n))
    {hl : m.view.LoadsAt (Rect.unit (s := ⟨2, ![2, n]⟩) ![0, 0] ![2, n] inb).toLoadRect} {hx : (m.access (Rect.unit (s := ⟨2, ![2, n]⟩) ![0, 0] ![2, n] inb)).Stores Finset.univ}
    {hm : (Finset.univ : Finset (Rect.unit (s := ⟨2, ![2, n]⟩) ![0, 0] ![2, n] inb).shape.Idx) = Finset.univ ∨ ∀ a, (Rect.unit (s := ⟨2, ![2, n]⟩) ![0, 0] ![2, n] inb).stride a = 1}
    (a b : (⟨2, ![1, n]⟩ : Shape).Idx → F .f32) {α : Type} (k : Prog (TpuEff nD τ sig (Elt F) Λ₀ .tc) α) (R : α → sProp (MM F)) :
    own c m (rows2 a b)
      ⊢ iprop((own c m (rows2 (start (i 1).val a) (start (i 1).val b)) -∗ run c k R)
        -∗ run c (if _ : isAt i 0#32 = 1#1 then
            Prog.lift (.load m (Rect.unit (s := ⟨2, ![2, n]⟩) ![0, 0] ![2, n] inb).toLoadRect hl) >>= fun _ =>
            Prog.lift (.store m (Rect.unit (s := ⟨2, ![2, n]⟩) ![0, 0] ![2, n] inb) z Finset.univ hx hm) >>= fun _ => k
          else k) R) := by
  iintro H Hk
  unfold start run
  by_cases h : (i 1).val = 0
  · rw [dif_pos ((first_iff i).mpr h), if_pos h, if_pos h]
    simp only [Prog.lift, Prog.bind_op, Prog.bind_ret, Prog.pure_eq_ret]
    iapply (wp_ld c m _ _ _ (part_full _ zero₂ _ _)) $$ H; iintro H
    iapply (wp_st c m _ _ _ ((overlay_full _ zero₂ _ _ _).trans hz)) $$ H; iintro H
    iapply Hk $$ H
  · rw [dif_neg (fun e => h ((first_iff i).mp e)), if_neg h, if_neg h]
    iapply Hk $$ H

/-- At the last inner point the accumulator's two rows are read, and two rows made of them stored. -/
theorem wp_last (c : Dev nD) (i : grid2.Coords) {n : Nat} (m m' : Memref sig .tc .vmem ⟨2, ![2, n]⟩ .f32)
    {inb : ∀ q, (![0, 0] : Fin 2 → Nat) q + (![1, n] : Fin 2 → Nat) q ≤ (![2, n] : Fin 2 → Nat) q} {inb' : ∀ q, (![1, 0] : Fin 2 → Nat) q + (![1, n] : Fin 2 → Nat) q ≤ (![2, n] : Fin 2 → Nat) q}
    (f : ((⟨2, ![1, n]⟩ : Shape).Idx → F .f32) → (⟨2, ![1, n]⟩ : Shape).Idx → F .f32)
    (g : ((⟨2, ![1, n]⟩ : Shape).Idx → F .f32) → ((⟨2, ![1, n]⟩ : Shape).Idx → F .f32) → (⟨2, ![1, n]⟩ : Shape).Idx → F .f32)
    {hl : m.view.LoadsAt (Rect.unit (s := ⟨2, ![2, n]⟩) ![0, 0] ![1, n] inb).toLoadRect} {hl' : m.view.LoadsAt (Rect.unit (s := ⟨2, ![2, n]⟩) ![1, 0] ![1, n] inb').toLoadRect}
    {kl : m'.view.LoadsAt (Rect.unit (s := ⟨2, ![2, n]⟩) ![0, 0] ![1, n] inb).toLoadRect} {kl' : m'.view.LoadsAt (Rect.unit (s := ⟨2, ![2, n]⟩) ![1, 0] ![1, n] inb').toLoadRect}
    {hx : (m'.access (Rect.unit (s := ⟨2, ![2, n]⟩) ![0, 0] ![1, n] inb)).Stores Finset.univ} {hx' : (m'.access (Rect.unit (s := ⟨2, ![2, n]⟩) ![1, 0] ![1, n] inb')).Stores Finset.univ}
    {hm : (Finset.univ : Finset (Rect.unit (s := ⟨2, ![2, n]⟩) ![0, 0] ![1, n] inb).shape.Idx) = Finset.univ ∨ ∀ a, (Rect.unit (s := ⟨2, ![2, n]⟩) ![0, 0] ![1, n] inb).stride a = 1}
    {hm' : (Finset.univ : Finset (Rect.unit (s := ⟨2, ![2, n]⟩) ![1, 0] ![1, n] inb').shape.Idx) = Finset.univ ∨ ∀ a, (Rect.unit (s := ⟨2, ![2, n]⟩) ![1, 0] ![1, n] inb').stride a = 1}
    (a b a' b' : (⟨2, ![1, n]⟩ : Shape).Idx → F .f32) {α : Type} (k : Prog (TpuEff nD τ sig (Elt F) Λ₀ .tc) α) (R : α → sProp (MM F)) :
    (iprop(own c m (rows2 a b) ∗ own c m' (rows2 a' b')) : sProp (MM F))
      ⊢ iprop((own c m (rows2 a b) -∗ own c m' (rows2 (atLast (i 1).val (f a) a') (atLast (i 1).val (g a b) b')) -∗ run c k R)
        -∗ run c (if _ : isAt i 7#32 = 1#1 then
            (Prog.lift (.load m (Rect.unit (s := ⟨2, ![2, n]⟩) ![0, 0] ![1, n] inb).toLoadRect hl) : Prog (TpuEff nD τ sig (Elt F) Λ₀ .tc) (Vec F ⟨2, ![1, n]⟩ .f32)) >>= fun v50 =>
            (Prog.lift (.load m (Rect.unit (s := ⟨2, ![2, n]⟩) ![1, 0] ![1, n] inb').toLoadRect hl') : Prog (TpuEff nD τ sig (Elt F) Λ₀ .tc) (Vec F ⟨2, ![1, n]⟩ .f32)) >>= fun v53 =>
            Prog.lift (.load m' (Rect.unit (s := ⟨2, ![2, n]⟩) ![0, 0] ![1, n] inb).toLoadRect kl) >>= fun _ =>
            Prog.lift (.store m' (Rect.unit (s := ⟨2, ![2, n]⟩) ![0, 0] ![1, n] inb) (f v50) Finset.univ hx hm) >>= fun _ =>
            Prog.lift (.load m' (Rect.unit (s := ⟨2, ![2, n]⟩) ![1, 0] ![1, n] inb').toLoadRect kl') >>= fun _ =>
            Prog.lift (.store m' (Rect.unit (s := ⟨2, ![2, n]⟩) ![1, 0] ![1, n] inb') (g v50 v53) Finset.univ hx' hm') >>= fun _ => k
          else k) R) := by
  iintro ⟨H, H'⟩ Hk
  unfold atLast run
  by_cases h : (i 1).val = 7
  · rw [dif_pos ((last_iff i).mpr h), if_pos h, if_pos h]
    simp only [Prog.lift, Prog.bind_op, Prog.bind_ret, Prog.pure_eq_ret]
    iapply (wp_ld c m _ _ _ (part_row0 a b _)) $$ H; iintro H
    iapply (wp_ld c m _ _ _ (part_row1 a b _)) $$ H; iintro H
    iapply (wp_ld c m' _ _ _ (part_row0 a' b' _)) $$ H'; iintro H'
    iapply (wp_st c m' _ _ _ (overlay_row0 a' b' (f a) _)) $$ H'; iintro H'
    iapply (wp_ld c m' _ _ _ (part_row1 (f a) b' _)) $$ H'; iintro H'
    iapply (wp_st c m' _ _ _ (overlay_row1 (f a) b' (g a b) _)) $$ H'; iintro H'
    iapply Hk $$ H H'
  · rw [dif_neg (fun e => h ((last_iff i).mp e)), if_neg h, if_neg h]
    iapply Hk $$ H H'

/-! ## The phases -/

section

variable (c : Dev nD)
variable (i : grid2.Coords)
  (arg2 : Memref sig .tc .vmem S2048x416 .f32) (harg2 : arg2.IsWhole)
  (arg3 : Memref sig .tc .vmem S2048x13 .f32) (harg3 : arg3.IsWhole)
  (arg4 : Memref sig .tc .vmem S416x128 .f32) (harg4 : arg4.IsWhole)
  (arg5 : Memref sig .tc .vmem S13x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S128x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S1x64 .f32) (harg12 : arg12.IsWhole)
  (arg13 : Memref sig .tc .vmem S1x64 .f32) (harg13 : arg13.IsWhole)
  (arg14 : Memref sig .tc .vmem S1x1 .f32) (harg14 : arg14.IsWhole)
  (arg15 : Memref sig .tc .vmem S2048x1 .f32) (harg15 : arg15.IsWhole)
  (arg16 : Memref sig .tc .vmem S16384x128 .f32) (harg16 : arg16.IsWhole)
  (arg17 : Memref sig .tc .vmem S16384x64 .f32) (harg17 : arg17.IsWhole)
  (arg18 : Memref sig .tc .vmem S2x128 .f32) (harg18 : arg18.IsWhole)
  (arg19 : Memref sig .tc .vmem S2x64 .f32) (harg19 : arg19.IsWhole)
  (arg20 : Memref sig .tc .vmem S2x128 .f32) (harg20 : arg20.IsWhole)
  (arg21 : Memref sig .tc .vmem S2x64 .f32) (harg21 : arg21.IsWhole)

/-- The first phase, up to the first layer's sums. -/
theorem wp_part1 (h : k2_cond1 i = 1#1) (v1 : BitVec 32) (X : Vec F S2048x416 .f32) (Nm : Vec F S2048x13 .f32) (W : Vec F S416x128 .f32) (Wn : Vec F S13x128 .f32) (B : Vec F S1x128 .f32)
    (H : Vec F S16384x128 .f32) (a b : Vec F S1x128 .f32) (Q : FVec F S1x128 .f32 → sProp (MM F)) :
    (iprop(own c arg2 X ∗ own c arg3 Nm ∗ own c arg4 W ∗ own c arg5 Wn ∗ own c arg6 B ∗ own c arg16 H ∗ own c arg18 (rows2 a b)) : sProp (MM F))
      ⊢ iprop((own c arg2 X -∗ own c arg3 Nm -∗ own c arg4 W -∗ own c arg5 Wn -∗ own c arg6 B -∗ own c arg16 (putBand (i 1).val H (k2_pay13 X W Nm Wn B)) -∗ own c arg18 (rows2 (k2_pay14 X W Nm Wn B (start (i 1).val a)) (start (i 1).val b))
          -∗ Q (k2_pay15 X W Nm Wn B (start (i 1).val b))) -∗ run c (k2_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) v1 h) Q) := by
  have hi1 : (i 1).val < 8 := (i 1).isLt
  rw [k2_part1_eq_skeleton]; unfold k2_part1_skel run
  iintro ⟨H2, H3, H4, H5, H6, H16, H18⟩ Hk
  simp only []
  iapply (wp_zero c i arg18 _ pay11_eq a b) $$ H18; iintro H18
  simp only [Prog.lift, Prog.bind_op, Prog.bind_ret, Prog.pure_eq_ret]
  iapply (wp_ld c arg2 _ _ _ (part_full _ zero₂ _ _)) $$ H2; iintro H2
  iapply (wp_ld c arg4 _ _ _ (part_full _ zero₂ _ _)) $$ H4; iintro H4
  iapply (wp_ld c arg3 _ _ _ (part_full _ zero₂ _ _)) $$ H3; iintro H3
  iapply (wp_ld c arg5 _ _ _ (part_full _ zero₂ _ _)) $$ H5; iintro H5
  iapply (wp_ld c arg6 _ _ _ (part_full _ zero₂ _ _)) $$ H6; iintro H6
  iapply (wp_ld c arg16 _ _ _ (part_band _ hi1 _ (k2_off1_eq i) _ _)) $$ H16; iintro H16
  iapply (wp_st c arg16 _ _ _ (overlay_band _ hi1 _ (k2_off1_eq i) _ _ _)) $$ H16; iintro H16
  iapply (wp_ld c arg18 _ _ _ (part_row0 _ _ _)) $$ H18; iintro H18
  iapply (wp_ld c arg18 _ _ _ (part_row0 _ _ _)) $$ H18; iintro H18
  iapply (wp_st c arg18 _ _ _ (overlay_row0 _ _ _ _)) $$ H18; iintro H18
  iapply (wp_ld c arg18 _ _ _ (part_row1 _ _ _)) $$ H18; iintro H18
  rw [wp_ret]; imodintro
  iapply Hk $$ H2 H3 H4 H5 H6 H16 H18

/-- The first phase: a block of the first layer, and its sums. -/
theorem wp_phase0 (h : (i 0).val = 0) (X : Vec F S2048x416 .f32) (Nm : Vec F S2048x13 .f32) (W : Vec F S416x128 .f32) (Wn : Vec F S13x128 .f32) (B : Vec F S1x128 .f32)
    (H : Vec F S16384x128 .f32) (a b : Vec F S1x128 .f32) (m r : Vec F S1x128 .f32) (Q : PUnit → sProp (MM F)) :
    (iprop(own c arg2 X ∗ own c arg3 Nm ∗ own c arg4 W ∗ own c arg5 Wn ∗ own c arg6 B ∗ own c arg16 H ∗ own c arg18 (rows2 a b) ∗ own c arg20 (rows2 m r)) : sProp (MM F))
      ⊢ iprop((own c arg2 X -∗ own c arg3 Nm -∗ own c arg4 W -∗ own c arg5 Wn -∗ own c arg6 B -∗ own c arg16 (putBand (i 1).val H (k2_pay13 X W Nm Wn B)) -∗ own c arg18 (rows2 (k2_pay14 X W Nm Wn B (start (i 1).val a)) (k2_pay1 (k2_pay15 X W Nm Wn B (start (i 1).val b)))) -∗ own c arg20 (rows2 (atLast (i 1).val (k2_pay3 (k2_pay14 X W Nm Wn B (start (i 1).val a))) m) (atLast (i 1).val (k2_pay4 (k2_pay14 X W Nm Wn B (start (i 1).val a)) (k2_pay1 (k2_pay15 X W Nm Wn B (start (i 1).val b)))) r))
          -∗ Q ⟨⟩) -∗ run c (cc2__mlp_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q) := by
  have hi1 : (i 1).val < 8 := (i 1).isLt
  rw [cc2__mlp_body_eq_skeleton]; unfold cc2__mlp_body_skel
  simp only []
  have n4 : ¬ k2_cond4 i = 1#1 := fun e => by have := (cond4_iff i).mp e; omega
  have n7 : ¬ k2_cond7 i = 1#1 := fun e => by have := (cond7_iff i).mp e; omega
  simp only [dif_pos ((cond1_iff i).mpr h), dif_neg n4, dif_neg n7]
  unfold run
  iintro ⟨H2, H3, H4, H5, H6, H16, H18, H20⟩ Hk
  simp only [Prog.bind_assoc]
  rw [wp_bind]
  iapply (wp_part1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ((cond1_iff i).mpr h) _ X Nm W Wn B H a b) $$ [H2 H3 H4 H5 H6 H16 H18]
  · iframe
  iintro H2 H3 H4 H5 H6 H16 H18
  simp only [Prog.lift, Prog.bind_op, Prog.bind_ret]
  iapply (wp_ld c arg18 _ _ _ (part_row1 _ _ _)) $$ H18; iintro H18
  iapply (wp_st c arg18 _ _ _ (overlay_row1 _ _ _ _)) $$ H18; iintro H18
  iapply (wp_last c i arg18 arg20 k2_pay3 k2_pay4 _ _ m r) $$ [H18 H20]
  · iframe
  iintro H18 H20
  rw [Prog.pure_eq_ret]; unfold run
  rw [wp_ret]; imodintro
  iapply Hk $$ H2 H3 H4 H5 H6 H16 H18 H20

/-- The second phase, up to the second layer's sums. -/
theorem wp_part2 (h : k2_cond4 i = 1#1) (v1 : BitVec 32) (G E : Vec F S1x128 .f32) (W : Vec F S128x64 .f32) (B : Vec F S1x64 .f32)
    (H : Vec F S16384x128 .f32) (H' : Vec F S16384x64 .f32) (a b : Vec F S1x64 .f32) (m r : Vec F S1x128 .f32) (Q : (Σ' (_ : FVec F S2048x64 .f32), FVec F S1x64 .f32) → sProp (MM F)) :
    (iprop(own c arg7 G ∗ own c arg8 E ∗ own c arg9 W ∗ own c arg10 B ∗ own c arg16 H ∗ own c arg17 H' ∗ own c arg19 (rows2 a b) ∗ own c arg20 (rows2 m r)) : sProp (MM F))
      ⊢ iprop((own c arg7 G -∗ own c arg8 E -∗ own c arg9 W -∗ own c arg10 B -∗ own c arg16 H -∗ own c arg17 (putBand (i 1).val H' (k2_pay18 (band (i 1).val H) m r G E W B)) -∗ own c arg19 (rows2 (start (i 1).val a) (start (i 1).val b)) -∗ own c arg20 (rows2 m r)
          -∗ Q ⟨k2_pay17 (band (i 1).val H) m r G E W B, k2_pay19 (band (i 1).val H) m r G E W B (start (i 1).val a)⟩) -∗ run c (k2_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) v1 h) Q) := by
  have hi1 : (i 1).val < 8 := (i 1).isLt
  rw [k2_part2_eq_skeleton]; unfold k2_part2_skel run
  iintro ⟨H7, H8, H9, H10, H16, H17, H19, H20⟩ Hk
  simp only []
  iapply (wp_zero c i arg19 _ pay16_eq a b) $$ H19; iintro H19
  simp only [Prog.lift, Prog.bind_op, Prog.bind_ret, Prog.pure_eq_ret]
  iapply (wp_ld c arg16 _ _ _ (part_band _ hi1 _ (k2_off2_eq i) _ _)) $$ H16; iintro H16
  iapply (wp_ld c arg20 _ _ _ (part_row0 _ _ _)) $$ H20; iintro H20
  iapply (wp_ld c arg20 _ _ _ (part_row1 _ _ _)) $$ H20; iintro H20
  iapply (wp_ld c arg7 _ _ _ (part_full _ zero₂ _ _)) $$ H7; iintro H7
  iapply (wp_ld c arg8 _ _ _ (part_full _ zero₂ _ _)) $$ H8; iintro H8
  iapply (wp_ld c arg9 _ _ _ (part_full _ zero₂ _ _)) $$ H9; iintro H9
  iapply (wp_ld c arg10 _ _ _ (part_full _ zero₂ _ _)) $$ H10; iintro H10
  iapply (wp_ld c arg17 _ _ _ (part_band _ hi1 _ (k2_off3_eq i) _ _)) $$ H17; iintro H17
  iapply (wp_st c arg17 _ _ _ (overlay_band _ hi1 _ (k2_off3_eq i) _ _ _)) $$ H17; iintro H17
  iapply (wp_ld c arg19 _ _ _ (part_row0 _ _ _)) $$ H19; iintro H19
  rw [wp_ret]; imodintro
  iapply Hk $$ H7 H8 H9 H10 H16 H17 H19 H20

/-- The second phase: a block of the second layer, and its sums. -/
theorem wp_phase1 (h : (i 0).val = 1) (G E : Vec F S1x128 .f32) (W : Vec F S128x64 .f32) (B : Vec F S1x64 .f32)
    (H : Vec F S16384x128 .f32) (H' : Vec F S16384x64 .f32) (a b : Vec F S1x64 .f32) (m r : Vec F S1x128 .f32) (m' r' : Vec F S1x64 .f32) (Q : PUnit → sProp (MM F)) :
    (iprop(own c arg7 G ∗ own c arg8 E ∗ own c arg9 W ∗ own c arg10 B ∗ own c arg16 H ∗ own c arg17 H' ∗ own c arg19 (rows2 a b) ∗ own c arg20 (rows2 m r) ∗ own c arg21 (rows2 m' r')) : sProp (MM F))
      ⊢ iprop((own c arg7 G -∗ own c arg8 E -∗ own c arg9 W -∗ own c arg10 B -∗ own c arg16 H -∗ own c arg17 (putBand (i 1).val H' (k2_pay18 (band (i 1).val H) m r G E W B)) -∗ own c arg19 (rows2 (k2_pay5 (k2_pay19 (band (i 1).val H) m r G E W B (start (i 1).val a))) (k2_pay6 (k2_pay17 (band (i 1).val H) m r G E W B) (start (i 1).val b))) -∗ own c arg20 (rows2 m r) -∗ own c arg21 (rows2 (atLast (i 1).val (k2_pay8 (k2_pay5 (k2_pay19 (band (i 1).val H) m r G E W B (start (i 1).val a)))) m') (atLast (i 1).val (k2_pay9 (k2_pay5 (k2_pay19 (band (i 1).val H) m r G E W B (start (i 1).val a))) (k2_pay6 (k2_pay17 (band (i 1).val H) m r G E W B) (start (i 1).val b))) r'))
          -∗ Q ⟨⟩) -∗ run c (cc2__mlp_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q) := by
  have hi1 : (i 1).val < 8 := (i 1).isLt
  rw [cc2__mlp_body_eq_skeleton]; unfold cc2__mlp_body_skel
  simp only []
  have n1 : ¬ k2_cond1 i = 1#1 := fun e => by have := (cond1_iff i).mp e; omega
  have n7 : ¬ k2_cond7 i = 1#1 := fun e => by have := (cond7_iff i).mp e; omega
  simp only [dif_neg n1, dif_pos ((cond4_iff i).mpr h), dif_neg n7]
  unfold run
  iintro ⟨H7, H8, H9, H10, H16, H17, H19, H20, H21⟩ Hk
  simp only [Prog.bind_assoc, Prog.pure_eq_ret, Prog.bind_ret]
  rw [wp_bind]
  iapply (wp_part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ((cond4_iff i).mpr h) _ G E W B H H' a b m r) $$ [H7 H8 H9 H10 H16 H17 H19 H20]
  · iframe
  iintro H7 H8 H9 H10 H16 H17 H19 H20
  simp only [Prog.lift, Prog.bind_op, Prog.bind_ret]
  iapply (wp_ld c arg19 _ _ _ (part_row0 _ _ _)) $$ H19; iintro H19
  iapply (wp_st c arg19 _ _ _ (overlay_row0 _ _ _ _)) $$ H19; iintro H19
  iapply (wp_ld c arg19 _ _ _ (part_row1 _ _ _)) $$ H19; iintro H19
  iapply (wp_ld c arg19 _ _ _ (part_row1 _ _ _)) $$ H19; iintro H19
  iapply (wp_st c arg19 _ _ _ (overlay_row1 _ _ _ _)) $$ H19; iintro H19
  iapply (wp_last c i arg19 arg21 k2_pay8 k2_pay9 _ _ m' r') $$ [H19 H21]
  · iframe
  iintro H19 H21
  unfold run
  rw [wp_ret]; imodintro
  iapply Hk $$ H7 H8 H9 H10 H16 H17 H19 H20 H21

/-- The third phase: a block of the output. -/
theorem wp_phase2 (h : (i 0).val = 2) (G E V : Vec F S1x64 .f32) (B : Vec F S1x1 .f32) (Y : Vec F S2048x1 .f32) (H' : Vec F S16384x64 .f32) (m' r' : Vec F S1x64 .f32) (Q : PUnit → sProp (MM F)) :
    (iprop(own c arg11 G ∗ own c arg12 E ∗ own c arg13 V ∗ own c arg14 B ∗ own c arg15 Y ∗ own c arg17 H' ∗ own c arg21 (rows2 m' r')) : sProp (MM F))
      ⊢ iprop((own c arg11 G -∗ own c arg12 E -∗ own c arg13 V -∗ own c arg14 B -∗ own c arg15 (k2_pay10 (band (i 1).val H') m' r' G E V B) -∗ own c arg17 H' -∗ own c arg21 (rows2 m' r')
          -∗ Q ⟨⟩) -∗ run c (cc2__mlp_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q) := by
  have hi1 : (i 1).val < 8 := (i 1).isLt
  rw [cc2__mlp_body_eq_skeleton]; unfold cc2__mlp_body_skel
  simp only []
  rw [dif_neg (fun e => by have := (cond1_iff i).mp e; omega), dif_neg (fun e => by have := (cond4_iff i).mp e; omega), dif_pos ((cond7_iff i).mpr h)]
  unfold run
  iintro ⟨H11, H12, H13, H14, H15, H17, H21⟩ Hk
  simp only [Prog.lift, Prog.bind_op, Prog.bind_ret, Prog.pure_eq_ret]
  iapply (wp_ld c arg17 _ _ _ (part_band _ hi1 _ (k2_off4_eq i) _ _)) $$ H17; iintro H17
  iapply (wp_ld c arg21 _ _ _ (part_row0 _ _ _)) $$ H21; iintro H21
  iapply (wp_ld c arg21 _ _ _ (part_row1 _ _ _)) $$ H21; iintro H21
  iapply (wp_ld c arg11 _ _ _ (part_full _ zero₂ _ _)) $$ H11; iintro H11
  iapply (wp_ld c arg12 _ _ _ (part_full _ zero₂ _ _)) $$ H12; iintro H12
  iapply (wp_ld c arg13 _ _ _ (part_full _ zero₂ _ _)) $$ H13; iintro H13
  iapply (wp_ld c arg14 _ _ _ (part_full _ zero₂ _ _)) $$ H14; iintro H14
  iapply (wp_ld c arg15 _ _ _ (part_full _ zero₂ _ _)) $$ H15; iintro H15
  iapply (wp_st c arg15 _ _ _ (overlay_full _ zero₂ _ _ _)) $$ H15; iintro H15
  rw [wp_ret]; imodintro
  iapply Hk $$ H11 H12 H13 H14 H15 H17 H21

end

end Cert.Proof
-- ==== Proof.MlpMath.lean ====
/-
  What the dense layers' call computes: the first layer's blocks and its sums, the second layer's blocks and its sums,
  the output's blocks; and what the scratch arrays hold before each grid point.
-/
module

public import proofs.«01_k».proof.Proof.MlpBody

@[expose] public section

noncomputable section

namespace Cert.Proof

open Cert.KernelIdeal Cert.KernelIdeal.Gen
open Idealize.ShloMosaic

variable {F : FTy → Type} [FloatOps F]

/-- The call's operands. -/
structure MlpIn (F : FTy → Type) where
  x : Vec F S16384x416 .f32
  nm : Vec F S16384x13 .f32
  w1 : Vec F S416x128 .f32
  wn : Vec F S13x128 .f32
  b1 : Vec F S1x128 .f32
  g1 : Vec F S1x128 .f32
  e1 : Vec F S1x128 .f32
  w2 : Vec F S128x64 .f32
  b2 : Vec F S1x64 .f32
  g2 : Vec F S1x64 .f32
  e2 : Vec F S1x64 .f32
  w3 : Vec F S1x64 .f32
  b3 : Vec F S1x1 .f32

namespace MlpIn

variable (I : MlpIn F)

/-- The first layer's block `k`. -/
def h1 (k : Nat) : Vec F S2048x128 .f32 := k2_pay13 (band k I.x) I.w1 (band k I.nm) I.wn I.b1

/-- The sum of the first layer's rows, and of their squares, over the blocks below `k`. -/
def s1 : Nat → Vec F S1x128 .f32
  | 0 => zrow 128
  | k + 1 => k2_pay14 (band k I.x) I.w1 (band k I.nm) I.wn I.b1 (s1 k)
def q1 : Nat → Vec F S1x128 .f32
  | 0 => zrow 128
  | k + 1 => k2_pay1 (k2_pay15 (band k I.x) I.w1 (band k I.nm) I.wn I.b1 (q1 k))

/-- The first layer's mean, and the reciprocal root of its variance. -/
def m1 : Vec F S1x128 .f32 := k2_pay3 (I.s1 8)
def r1 : Vec F S1x128 .f32 := k2_pay4 (I.s1 8) (I.q1 8)

/-- The second layer's block `k`. -/
def h2 (k : Nat) : Vec F S2048x64 .f32 := k2_pay18 (I.h1 k) I.m1 I.r1 I.g1 I.e1 I.w2 I.b2

/-- The sum of the second layer's rows, and of their squares, over the blocks below `k`. -/
def s2 : Nat → Vec F S1x64 .f32
  | 0 => zrow 64
  | k + 1 => k2_pay5 (k2_pay19 (I.h1 k) I.m1 I.r1 I.g1 I.e1 I.w2 I.b2 (s2 k))
def q2 : Nat → Vec F S1x64 .f32
  | 0 => zrow 64
  | k + 1 => k2_pay6 (k2_pay17 (I.h1 k) I.m1 I.r1 I.g1 I.e1 I.w2 I.b2) (q2 k)

/-- The second layer's mean, and the reciprocal root of its variance. -/
def m2 : Vec F S1x64 .f32 := k2_pay8 (I.s2 8)
def r2 : Vec F S1x64 .f32 := k2_pay9 (I.s2 8) (I.q2 8)

/-- The output's block `k`. -/
def out (k : Nat) : Vec F S2048x1 .f32 := k2_pay10 (I.h2 k) I.m2 I.r2 I.g2 I.e2 I.w3 I.b3

end MlpIn

/-- What the scratch arrays hold. -/
structure Scr (F : FTy → Type) where
  H : Vec F S16384x128 .f32
  H' : Vec F S16384x64 .f32
  a : Vec F S1x128 .f32
  b : Vec F S1x128 .f32
  a' : Vec F S1x64 .f32
  b' : Vec F S1x64 .f32
  m : Vec F S1x128 .f32
  r : Vec F S1x128 .f32
  m' : Vec F S1x64 .f32
  r' : Vec F S1x64 .f32

/-- What they hold before grid point `t`, in terms of the operands. -/
structure Inv (I : MlpIn F) (t : Nat) (s : Scr F) : Prop where
  H : ∀ j, j < t → j < 8 → band j s.H = I.h1 j
  ab : 0 < t → t ≤ 8 → s.a = I.s1 t ∧ s.b = I.q1 t
  mr : 8 ≤ t → s.m = I.m1 ∧ s.r = I.r1
  H' : ∀ j, j + 8 < t → j < 8 → band j s.H' = I.h2 j
  ab' : 8 < t → t ≤ 16 → s.a' = I.s2 (t - 8) ∧ s.b' = I.q2 (t - 8)
  mr' : 16 ≤ t → s.m' = I.m2 ∧ s.r' = I.r2

theorem Inv.zero (I : MlpIn F) (s : Scr F) : Inv I 0 s where
  H j h := absurd h (by omega)
  ab h := absurd h (by omega)
  mr h := absurd h (by omega)
  H' j h := absurd h (by omega)
  ab' h := absurd h (by omega)
  mr' h := absurd h (by omega)

/-- A point of the first phase. -/
theorem Inv.step0 {I : MlpIn F} {t : Nat} {s : Scr F} (h : Inv I t s) (ht : t < 8)
    {X : Vec F S2048x416 .f32} {W : Vec F S416x128 .f32} {Nm : Vec F S2048x13 .f32} {Wn : Vec F S13x128 .f32} {B : Vec F S1x128 .f32}
    (hX : X = band t I.x) (hW : W = I.w1) (hN : Nm = band t I.nm) (hn : Wn = I.wn) (hB : B = I.b1) :
    Inv I (t + 1) { s with
      H := putBand t s.H (k2_pay13 X W Nm Wn B)
      a := k2_pay14 X W Nm Wn B (start t s.a)
      b := k2_pay1 (k2_pay15 X W Nm Wn B (start t s.b))
      m := atLast t (k2_pay3 (k2_pay14 X W Nm Wn B (start t s.a))) s.m
      r := atLast t (k2_pay4 (k2_pay14 X W Nm Wn B (start t s.a)) (k2_pay1 (k2_pay15 X W Nm Wn B (start t s.b)))) s.r } := by
  subst hX hW hN hn hB
  have ea : k2_pay14 (band t I.x) I.w1 (band t I.nm) I.wn I.b1 (start t s.a) = I.s1 (t + 1) := by
    unfold start
    split
    · subst_vars; rfl
    · rw [(h.ab (by omega) (by omega)).1]; rfl
  have eb : k2_pay1 (k2_pay15 (band t I.x) I.w1 (band t I.nm) I.wn I.b1 (start t s.b)) = I.q1 (t + 1) := by
    unfold start
    split
    · subst_vars; rfl
    · rw [(h.ab (by omega) (by omega)).2]; rfl
  refine ⟨fun j hj hj8 => ?_, fun _ _ => ⟨ea, eb⟩, fun h8 => ?_, fun j hj => absurd hj (by omega), fun h8 => absurd h8 (by omega), fun h8 => absurd h8 (by omega)⟩
  · by_cases e : j = t
    · subst e; exact band_putBand _ hj8 _ _
    · exact (band_putBand_ne t j hj8 e _ _).trans (h.H j (by omega) hj8)
  · have e : t = 7 := by omega
    subst e
    rw [ea, eb]
    exact ⟨rfl, rfl⟩

/-- A point of the second phase. -/
theorem Inv.step1 {I : MlpIn F} {t : Nat} {s : Scr F} (h : Inv I (8 + t) s) (ht : t < 8)
    {G E : Vec F S1x128 .f32} {W : Vec F S128x64 .f32} {B : Vec F S1x64 .f32}
    (hG : G = I.g1) (hE : E = I.e1) (hW : W = I.w2) (hB : B = I.b2) :
    Inv I (8 + t + 1) { s with
      H' := putBand t s.H' (k2_pay18 (band t s.H) s.m s.r G E W B)
      a' := k2_pay5 (k2_pay19 (band t s.H) s.m s.r G E W B (start t s.a'))
      b' := k2_pay6 (k2_pay17 (band t s.H) s.m s.r G E W B) (start t s.b')
      m' := atLast t (k2_pay8 (k2_pay5 (k2_pay19 (band t s.H) s.m s.r G E W B (start t s.a')))) s.m'
      r' := atLast t (k2_pay9 (k2_pay5 (k2_pay19 (band t s.H) s.m s.r G E W B (start t s.a'))) (k2_pay6 (k2_pay17 (band t s.H) s.m s.r G E W B) (start t s.b'))) s.r' } := by
  subst hG hE hW hB
  obtain ⟨em, er⟩ := h.mr (by omega)
  have eH := h.H t (by omega) ht
  have ea : k2_pay5 (k2_pay19 (band t s.H) s.m s.r I.g1 I.e1 I.w2 I.b2 (start t s.a')) = I.s2 (t + 1) := by
    rw [eH, em, er]
    unfold start
    split
    · subst_vars; rfl
    · rw [(h.ab' (by omega) (by omega)).1, Nat.add_sub_cancel_left]; rfl
  have eb : k2_pay6 (k2_pay17 (band t s.H) s.m s.r I.g1 I.e1 I.w2 I.b2) (start t s.b') = I.q2 (t + 1) := by
    rw [eH, em, er]
    unfold start
    split
    · subst_vars; rfl
    · rw [(h.ab' (by omega) (by omega)).2, Nat.add_sub_cancel_left]; rfl
  have e8 : 8 + t + 1 - 8 = t + 1 := by omega
  refine ⟨fun j hj hj8 => h.H j (by omega) hj8, fun _ h8 => absurd h8 (by omega), fun _ => ⟨em, er⟩, fun j hj hj8 => ?_, fun _ _ => by rw [e8]; exact ⟨ea, eb⟩, fun h8 => ?_⟩
  · by_cases e : j = t
    · subst e
      refine (band_putBand _ hj8 _ _).trans ?_
      rw [eH, em, er]; rfl
    · exact (band_putBand_ne t j hj8 e _ _).trans (h.H' j (by omega) hj8)
  · have e : t = 7 := by omega
    subst e
    rw [ea, eb]
    exact ⟨rfl, rfl⟩

/-- A point of the third phase: the scratch arrays stay, and the block of the output is the operands'. -/
theorem Inv.step2 {I : MlpIn F} {t : Nat} {s : Scr F} (h : Inv I (16 + t) s) : Inv I (16 + t + 1) s where
  H j _ hj := h.H j (by omega) hj
  ab _ h' := absurd h' (by omega)
  mr _ := h.mr (by omega)
  H' j _ hj := h.H' j (by omega) hj
  ab' _ h' := absurd h' (by omega)
  mr' _ := h.mr' (by omega)

theorem Inv.out {I : MlpIn F} {t : Nat} {s : Scr F} (h : Inv I (16 + t) s) (ht : t < 8)
    {G E V : Vec F S1x64 .f32} {B : Vec F S1x1 .f32} (hG : G = I.g2) (hE : E = I.e2) (hV : V = I.w3) (hB : B = I.b3) :
    k2_pay10 (band t s.H') s.m' s.r' G E V B = I.out t := by
  subst hG hE hV hB
  rw [h.H' t (by omega) ht, (h.mr' (by omega)).1, (h.mr' (by omega)).2]; rfl

end Cert.Proof
-- ==== Proof.MlpRegion.lean ====
/-
  The dense layers' call as a pipeline: what its body is handed and leaves at each grid point.
-/
module

public import proofs.«01_k».proof.Proof.MlpMath
public import proofs.«01_k».proof.Proof.Gen.KernelIdeal.Points
public import proofs.«01_k».proof.Proof.Gen.KernelIdeal.Launch
public import Idealize.ShloMosaic.Lib.Pipeline.DatRel
public import Idealize.ShloMosaic.Lib.Pipeline.ArrRel
public import Idealize.ShloMosaic.Lib.Pipeline.FrameBody
public import Idealize.ShloMosaic.Lib.Pipeline.Value

@[expose] public section

set_option maxRecDepth 65536

noncomputable section

namespace Cert.Proof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The grid -/

theorem coord0 : ∀ t : Fin grid2.N, (grid2.coords t 0).val = t.val / 8 := by decide +kernel
theorem coord1 : ∀ t : Fin grid2.N, (grid2.coords t 1).val = t.val % 8 := by decide +kernel
theorem index0 : ∀ t : Fin grid2.N, t.val < 8 → cc2_transform_0 (grid2.coords t) = ![t.val, 0] := by decide +kernel
theorem index1 : ∀ t : Fin grid2.N, t.val < 8 → cc2_transform_1 (grid2.coords t) = ![t.val, 0] := by decide +kernel
theorem index13 : ∀ t : Fin grid2.N, cc2_transform_13 (grid2.coords t) = ![t.val % 8, 0] := by decide +kernel

/-! ## What the body is handed -/

variable (V : Valuation τ sig (Elt F)) (c : Dev nD)

/-- The call's operands, of what the host's arrays hold. -/
def mlpIn : MlpIn F where
  x := V main_v7
  nm := V main_arg1
  w1 := V main_v9
  wn := V main_v10
  b1 := V main_v11
  g1 := V main_v12
  e1 := V main_v13
  w2 := V main_v14
  b2 := V main_v15
  g2 := V main_v16
  e2 := V main_v17
  w3 := V main_arg11
  b3 := V main_v18

abbrev arrs (w : Fin cfg2.W) : Buf (Elt F) ((cfg2.win w).arr.view.loc (c.tc : Thread nD τ)) := V (Proc.devRef .tc (Pipeline.arrRef spec2 w))

/-- The block of window `w`'s array at grid point `t`. -/
def blockAt : (w : Fin cfg2.W) → (t : Fin cfg2.N) → (cfg2.win w).block.Idx → Elt F (cfg2.win w).elt :=
  fun
  | 0 => fun t => (win2_0.blk t).view.read (Elt F) (arrs V c 0)
  | 1 => fun t => (win2_1.blk t).view.read (Elt F) (arrs V c 1)
  | 2 => fun t => (win2_2.blk t).view.read (Elt F) (arrs V c 2)
  | 3 => fun t => (win2_3.blk t).view.read (Elt F) (arrs V c 3)
  | 4 => fun t => (win2_4.blk t).view.read (Elt F) (arrs V c 4)
  | 5 => fun t => (win2_5.blk t).view.read (Elt F) (arrs V c 5)
  | 6 => fun t => (win2_6.blk t).view.read (Elt F) (arrs V c 6)
  | 7 => fun t => (win2_7.blk t).view.read (Elt F) (arrs V c 7)
  | 8 => fun t => (win2_8.blk t).view.read (Elt F) (arrs V c 8)
  | 9 => fun t => (win2_9.blk t).view.read (Elt F) (arrs V c 9)
  | 10 => fun t => (win2_10.blk t).view.read (Elt F) (arrs V c 10)
  | 11 => fun t => (win2_11.blk t).view.read (Elt F) (arrs V c 11)
  | 12 => fun t => (win2_12.blk t).view.read (Elt F) (arrs V c 12)
  | 13 => fun t => (win2_13.blk t).view.read (Elt F) (arrs V c 13)
  | ⟨_ + 14, h⟩ => absurd h (Nat.not_lt.2 (Nat.le_add_left _ _))

/-- What the scratch arrays hold before grid point `n`. -/
def scratch (n : Nat) : sProp (MM F) :=
  iprop(∃ s : Scr F, ⌜Inv (mlpIn V) n s⌝ ∗ own c (Memref.whole cc2_scratch0) s.H ∗ own c (Memref.whole cc2_scratch1) s.H'
    ∗ own c (Memref.whole cc2_scratch2) (rows2 s.a s.b) ∗ own c (Memref.whole cc2_scratch3) (rows2 s.a' s.b')
    ∗ own c (Memref.whole cc2_scratch4) (rows2 s.m s.r) ∗ own c (Memref.whole cc2_scratch5) (rows2 s.m' s.r'))

/-- The pipeline's proof data. -/
def dat : Pipeline.Dat τ (Elt F) (HIx 2) ℕ UU ℕ cfg2 c where
  A := arrs V c
  after := blockAt V c
  Φ t := scratch V c t.val
  q _ := fullShare
  owed _ := 0
  recorded _ := {p | (K (F := F)).lev (SparseCore.T c, p.1) p.2 ≤ 16}

/-- The one window whose contents the body makes. -/
def made : Fin cfg2.W → Bool := fun w => w == 13

/-- What the body leaves in the output's window at the third phase's points. -/
def outRel : (w : Fin cfg2.W) → Fin cfg2.N → ((cfg2.win w).block.Idx → Elt F (cfg2.win w).elt) → Prop :=
  fun
  | 0 => fun _ _ => True
  | 1 => fun _ _ => True
  | 2 => fun _ _ => True
  | 3 => fun _ _ => True
  | 4 => fun _ _ => True
  | 5 => fun _ _ => True
  | 6 => fun _ _ => True
  | 7 => fun _ _ => True
  | 8 => fun _ _ => True
  | 9 => fun _ _ => True
  | 10 => fun _ _ => True
  | 11 => fun _ _ => True
  | 12 => fun _ _ => True
  | 13 => fun t X => 16 ≤ t.val → X = (mlpIn V).out (t.val - 16)
  | ⟨_ + 14, h⟩ => absurd h (Nat.not_lt.2 (Nat.le_add_left _ _))

/-! ## The blocks -/

theorem blockAt_0 (t : Fin cfg2.N) (h : t.val < 8) : blockAt V c 0 t = band t.val (mlpIn V).x := by
  have e := index0 t h
  funext x
  have hx : (x 0).val < 2048 := (x 0).isLt
  refine congrArg (V main_v7) (idx2_ext ?_ ?_)
  · show cc2_transform_0 (grid2.coords t) 0 * 2048 + 1 * (x 0).val = (2048 * t.val + (x 0).val) % 16384
    rw [e]
    show t.val * 2048 + 1 * (x 0).val = _
    omega
  · show cc2_transform_0 (grid2.coords t) 1 * _ + 1 * (x 1).val = (x 1).val
    rw [e]
    show 0 * _ + 1 * (x 1).val = _
    omega

theorem blockAt_1 (t : Fin cfg2.N) (h : t.val < 8) : blockAt V c 1 t = band t.val (mlpIn V).nm := by
  have e := index1 t h
  funext x
  have hx : (x 0).val < 2048 := (x 0).isLt
  refine congrArg (V main_arg1) (idx2_ext ?_ ?_)
  · show cc2_transform_1 (grid2.coords t) 0 * 2048 + 1 * (x 0).val = (2048 * t.val + (x 0).val) % 16384
    rw [e]
    show t.val * 2048 + 1 * (x 0).val = _
    omega
  · show cc2_transform_1 (grid2.coords t) 1 * _ + 1 * (x 1).val = (x 1).val
    rw [e]
    show 0 * _ + 1 * (x 1).val = _
    omega

theorem blockAt_2 (t : Fin cfg2.N) : blockAt V c 2 t = (mlpIn V).w1 := by
  funext x
  refine congrArg (V main_v9) (idx2_ext ?_ ?_)
  · show 0 * _ + 1 * (x 0).val = (x 0).val
    omega
  · show 0 * _ + 1 * (x 1).val = (x 1).val
    omega

theorem blockAt_3 (t : Fin cfg2.N) : blockAt V c 3 t = (mlpIn V).wn := by
  funext x
  refine congrArg (V main_v10) (idx2_ext ?_ ?_)
  · show 0 * _ + 1 * (x 0).val = (x 0).val
    omega
  · show 0 * _ + 1 * (x 1).val = (x 1).val
    omega

theorem blockAt_4 (t : Fin cfg2.N) : blockAt V c 4 t = (mlpIn V).b1 := by
  funext x
  refine congrArg (V main_v11) (idx2_ext ?_ ?_)
  · show 0 * _ + 1 * (x 0).val = (x 0).val
    omega
  · show 0 * _ + 1 * (x 1).val = (x 1).val
    omega

theorem blockAt_5 (t : Fin cfg2.N) : blockAt V c 5 t = (mlpIn V).g1 := by
  funext x
  refine congrArg (V main_v12) (idx2_ext ?_ ?_)
  · show 0 * _ + 1 * (x 0).val = (x 0).val
    omega
  · show 0 * _ + 1 * (x 1).val = (x 1).val
    omega

theorem blockAt_6 (t : Fin cfg2.N) : blockAt V c 6 t = (mlpIn V).e1 := by
  funext x
  refine congrArg (V main_v13) (idx2_ext ?_ ?_)
  · show 0 * _ + 1 * (x 0).val = (x 0).val
    omega
  · show 0 * _ + 1 * (x 1).val = (x 1).val
    omega

theorem blockAt_7 (t : Fin cfg2.N) : blockAt V c 7 t = (mlpIn V).w2 := by
  funext x
  refine congrArg (V main_v14) (idx2_ext ?_ ?_)
  · show 0 * _ + 1 * (x 0).val = (x 0).val
    omega
  · show 0 * _ + 1 * (x 1).val = (x 1).val
    omega

theorem blockAt_8 (t : Fin cfg2.N) : blockAt V c 8 t = (mlpIn V).b2 := by
  funext x
  refine congrArg (V main_v15) (idx2_ext ?_ ?_)
  · show 0 * _ + 1 * (x 0).val = (x 0).val
    omega
  · show 0 * _ + 1 * (x 1).val = (x 1).val
    omega

theorem blockAt_9 (t : Fin cfg2.N) : blockAt V c 9 t = (mlpIn V).g2 := by
  funext x
  refine congrArg (V main_v16) (idx2_ext ?_ ?_)
  · show 0 * _ + 1 * (x 0).val = (x 0).val
    omega
  · show 0 * _ + 1 * (x 1).val = (x 1).val
    omega

theorem blockAt_10 (t : Fin cfg2.N) : blockAt V c 10 t = (mlpIn V).e2 := by
  funext x
  refine congrArg (V main_v17) (idx2_ext ?_ ?_)
  · show 0 * _ + 1 * (x 0).val = (x 0).val
    omega
  · show 0 * _ + 1 * (x 1).val = (x 1).val
    omega

theorem blockAt_11 (t : Fin cfg2.N) : blockAt V c 11 t = (mlpIn V).w3 := by
  funext x
  refine congrArg (V main_arg11) (idx2_ext ?_ ?_)
  · show 0 * _ + 1 * (x 0).val = (x 0).val
    omega
  · show 0 * _ + 1 * (x 1).val = (x 1).val
    omega

theorem blockAt_12 (t : Fin cfg2.N) : blockAt V c 12 t = (mlpIn V).b3 := by
  funext x
  refine congrArg (V main_v18) (idx2_ext ?_ ?_)
  · show 0 * _ + 1 * (x 0).val = (x 0).val
    omega
  · show 0 * _ + 1 * (x 1).val = (x 1).val
    omega

theorem before_eq (w : Fin cfg2.W) (hw : w ≠ 13) (t : Fin cfg2.N) (d : (cfg2.win w).block.Idx → Elt F (cfg2.win w).elt) :
    (dat V c).before w t d = blockAt V c w t := by
  match w, hw with
  | 0, _ => exact (dat V c).before_in_eq_fetched 0 rfl (fun _ => rfl) (fun _ _ _ => rfl) (fun _ => rfl) t d
  | 1, _ => exact (dat V c).before_in_eq_fetched 1 rfl (fun _ => rfl) (fun _ _ _ => rfl) (fun _ => rfl) t d
  | 2, _ => exact (dat V c).before_in_eq_fetched 2 rfl (fun _ => rfl) (fun _ _ _ => rfl) (fun _ => rfl) t d
  | 3, _ => exact (dat V c).before_in_eq_fetched 3 rfl (fun _ => rfl) (fun _ _ _ => rfl) (fun _ => rfl) t d
  | 4, _ => exact (dat V c).before_in_eq_fetched 4 rfl (fun _ => rfl) (fun _ _ _ => rfl) (fun _ => rfl) t d
  | 5, _ => exact (dat V c).before_in_eq_fetched 5 rfl (fun _ => rfl) (fun _ _ _ => rfl) (fun _ => rfl) t d
  | 6, _ => exact (dat V c).before_in_eq_fetched 6 rfl (fun _ => rfl) (fun _ _ _ => rfl) (fun _ => rfl) t d
  | 7, _ => exact (dat V c).before_in_eq_fetched 7 rfl (fun _ => rfl) (fun _ _ _ => rfl) (fun _ => rfl) t d
  | 8, _ => exact (dat V c).before_in_eq_fetched 8 rfl (fun _ => rfl) (fun _ _ _ => rfl) (fun _ => rfl) t d
  | 9, _ => exact (dat V c).before_in_eq_fetched 9 rfl (fun _ => rfl) (fun _ _ _ => rfl) (fun _ => rfl) t d
  | 10, _ => exact (dat V c).before_in_eq_fetched 10 rfl (fun _ => rfl) (fun _ _ _ => rfl) (fun _ => rfl) t d
  | 11, _ => exact (dat V c).before_in_eq_fetched 11 rfl (fun _ => rfl) (fun _ _ _ => rfl) (fun _ => rfl) t d
  | 12, _ => exact (dat V c).before_in_eq_fetched 12 rfl (fun _ => rfl) (fun _ _ _ => rfl) (fun _ => rfl) t d
  | ⟨_ + 14, h⟩, _ => exact absurd h (Nat.not_lt.2 (Nat.le_add_left _ _))

/-! ## The body at each point -/

theorem body_eq (t : Fin cfg2.N) : (defs₀ (F := F)) .tc cfg2.body (cfg2.bodyArgs t (cfg2.slots t)) = bodyAt2 (F := F) t := rfl

/-- The windows' buffers at grid point `t`, the output's holding `Y`. -/
def stages (t : Fin cfg2.N) (Y : Vec F S2048x1 .f32) : sProp (MM F) :=
  iprop(own c (st2_0 t) (blockAt V c 0 t)
    ∗ own c (st2_1 t) (blockAt V c 1 t)
    ∗ own c (st2_2 t) (blockAt V c 2 t)
    ∗ own c (st2_3 t) (blockAt V c 3 t)
    ∗ own c (st2_4 t) (blockAt V c 4 t)
    ∗ own c (st2_5 t) (blockAt V c 5 t)
    ∗ own c (st2_6 t) (blockAt V c 6 t)
    ∗ own c (st2_7 t) (blockAt V c 7 t)
    ∗ own c (st2_8 t) (blockAt V c 8 t)
    ∗ own c (st2_9 t) (blockAt V c 9 t)
    ∗ own c (st2_10 t) (blockAt V c 10 t)
    ∗ own c (st2_11 t) (blockAt V c 11 t)
    ∗ own c (st2_12 t) (blockAt V c 12 t) ∗ own c (st2_13 t) Y)

/-- A point of phase 0. -/
theorem wp_point0 (t : Fin cfg2.N) (h : t.val < 8) (Y : Vec F S2048x1 .f32) (Q : PUnit → sProp (MM F)) :
    (iprop(stages V c t Y ∗ scratch V c t.val) : sProp (MM F))
      ⊢ iprop((scratch V c (t.val + 1) -∗ (∃ X, ⌜outRel V 13 t X⌝ ∗ stages V c t X) -∗ Q ⟨⟩) -∗ run c (bodyAt2 (F := F) t) Q) := by
  have e0 : (grid2.coords t 0).val = 0 := by rw [coord0]; omega
  have e1 : (grid2.coords t 1).val = t.val := by rw [coord1]; omega
  unfold stages scratch bodyAt2
  iintro ⟨⟨H0, H1, H2, H3, H4, H5, H6, H7, H8, H9, H10, H11, H12, H13⟩, ⟨%s, %hs, S0, S1, S2, S3, S4, S5⟩⟩ Hk
  have P := wp_phase0 c (grid2.coords t) (win2_0.stage (cfg2.slots t 0)) (hstage2_0 _) (win2_1.stage (cfg2.slots t 1)) (hstage2_1 _) (win2_2.stage (cfg2.slots t 2)) (hstage2_2 _) (win2_3.stage (cfg2.slots t 3)) (hstage2_3 _) (win2_4.stage (cfg2.slots t 4)) (hstage2_4 _) (win2_5.stage (cfg2.slots t 5)) (hstage2_5 _) (win2_6.stage (cfg2.slots t 6)) (hstage2_6 _) (win2_7.stage (cfg2.slots t 7)) (hstage2_7 _) (win2_8.stage (cfg2.slots t 8)) (hstage2_8 _) (win2_9.stage (cfg2.slots t 9)) (hstage2_9 _) (win2_10.stage (cfg2.slots t 10)) (hstage2_10 _) (win2_11.stage (cfg2.slots t 11)) (hstage2_11 _) (win2_12.stage (cfg2.slots t 12)) (hstage2_12 _) (win2_13.stage (cfg2.slots t 13)) (hstage2_13 _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) e0 (blockAt V c 0 t) (blockAt V c 1 t) (blockAt V c 2 t) (blockAt V c 3 t) (blockAt V c 4 t) s.H s.a s.b s.m s.r Q
  rw [e1] at P
  iapply P $$ [H0 H1 H2 H3 H4 S0 S2 S4]
  · iframe
  iintro H0 H1 H2 H3 H4 S0 S2 S4
  iapply Hk $$ [S0 S1 S2 S3 S4 S5]
  · iexists _
    isplitr
    · ipureintro; exact (Inv.step0 hs h (blockAt_0 V c t h) (blockAt_2 V c t) (blockAt_1 V c t h) (blockAt_3 V c t) (blockAt_4 V c t))
    · iframe
  · iexists (Y)
    isplitr
    · ipureintro; exact fun h => absurd h (by omega)
    · iframe

/-- A point of phase 1. -/
theorem wp_point1 (t : Fin cfg2.N) (h : 8 ≤ t.val) (h' : t.val < 16) (Y : Vec F S2048x1 .f32) (Q : PUnit → sProp (MM F)) :
    (iprop(stages V c t Y ∗ scratch V c t.val) : sProp (MM F))
      ⊢ iprop((scratch V c (t.val + 1) -∗ (∃ X, ⌜outRel V 13 t X⌝ ∗ stages V c t X) -∗ Q ⟨⟩) -∗ run c (bodyAt2 (F := F) t) Q) := by
  obtain ⟨k, hk⟩ : ∃ k, t.val = 8 + k := ⟨t.val - 8, by omega⟩
  have e0 : (grid2.coords t 0).val = 1 := by rw [coord0]; omega
  have e1 : (grid2.coords t 1).val = k := by rw [coord1]; omega
  unfold stages scratch bodyAt2
  rw [hk]
  iintro ⟨⟨H0, H1, H2, H3, H4, H5, H6, H7, H8, H9, H10, H11, H12, H13⟩, ⟨%s, %hs, S0, S1, S2, S3, S4, S5⟩⟩ Hk
  have P := wp_phase1 c (grid2.coords t) (win2_0.stage (cfg2.slots t 0)) (hstage2_0 _) (win2_1.stage (cfg2.slots t 1)) (hstage2_1 _) (win2_2.stage (cfg2.slots t 2)) (hstage2_2 _) (win2_3.stage (cfg2.slots t 3)) (hstage2_3 _) (win2_4.stage (cfg2.slots t 4)) (hstage2_4 _) (win2_5.stage (cfg2.slots t 5)) (hstage2_5 _) (win2_6.stage (cfg2.slots t 6)) (hstage2_6 _) (win2_7.stage (cfg2.slots t 7)) (hstage2_7 _) (win2_8.stage (cfg2.slots t 8)) (hstage2_8 _) (win2_9.stage (cfg2.slots t 9)) (hstage2_9 _) (win2_10.stage (cfg2.slots t 10)) (hstage2_10 _) (win2_11.stage (cfg2.slots t 11)) (hstage2_11 _) (win2_12.stage (cfg2.slots t 12)) (hstage2_12 _) (win2_13.stage (cfg2.slots t 13)) (hstage2_13 _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) e0 (blockAt V c 5 t) (blockAt V c 6 t) (blockAt V c 7 t) (blockAt V c 8 t) s.H s.H' s.a' s.b' s.m s.r s.m' s.r' Q
  rw [e1] at P
  iapply P $$ [H5 H6 H7 H8 S0 S1 S3 S4 S5]
  · iframe
  iintro H5 H6 H7 H8 S0 S1 S3 S4 S5
  iapply Hk $$ [S0 S1 S2 S3 S4 S5]
  · iexists _
    isplitr
    · ipureintro; exact (Inv.step1 hs (by omega) (blockAt_5 V c t) (blockAt_6 V c t) (blockAt_7 V c t) (blockAt_8 V c t))
    · iframe
  · iexists (Y)
    isplitr
    · ipureintro; exact fun h => absurd h (by omega)
    · iframe

/-- A point of phase 2. -/
theorem wp_point2 (t : Fin cfg2.N) (h : 16 ≤ t.val) (h' : t.val < 24) (Y : Vec F S2048x1 .f32) (Q : PUnit → sProp (MM F)) :
    (iprop(stages V c t Y ∗ scratch V c t.val) : sProp (MM F))
      ⊢ iprop((scratch V c (t.val + 1) -∗ (∃ X, ⌜outRel V 13 t X⌝ ∗ stages V c t X) -∗ Q ⟨⟩) -∗ run c (bodyAt2 (F := F) t) Q) := by
  obtain ⟨k, hk⟩ : ∃ k, t.val = 16 + k := ⟨t.val - 16, by omega⟩
  have e0 : (grid2.coords t 0).val = 2 := by rw [coord0]; omega
  have e1 : (grid2.coords t 1).val = k := by rw [coord1]; omega
  unfold stages scratch bodyAt2
  rw [hk]
  iintro ⟨⟨H0, H1, H2, H3, H4, H5, H6, H7, H8, H9, H10, H11, H12, H13⟩, ⟨%s, %hs, S0, S1, S2, S3, S4, S5⟩⟩ Hk
  have P := wp_phase2 c (grid2.coords t) (win2_0.stage (cfg2.slots t 0)) (hstage2_0 _) (win2_1.stage (cfg2.slots t 1)) (hstage2_1 _) (win2_2.stage (cfg2.slots t 2)) (hstage2_2 _) (win2_3.stage (cfg2.slots t 3)) (hstage2_3 _) (win2_4.stage (cfg2.slots t 4)) (hstage2_4 _) (win2_5.stage (cfg2.slots t 5)) (hstage2_5 _) (win2_6.stage (cfg2.slots t 6)) (hstage2_6 _) (win2_7.stage (cfg2.slots t 7)) (hstage2_7 _) (win2_8.stage (cfg2.slots t 8)) (hstage2_8 _) (win2_9.stage (cfg2.slots t 9)) (hstage2_9 _) (win2_10.stage (cfg2.slots t 10)) (hstage2_10 _) (win2_11.stage (cfg2.slots t 11)) (hstage2_11 _) (win2_12.stage (cfg2.slots t 12)) (hstage2_12 _) (win2_13.stage (cfg2.slots t 13)) (hstage2_13 _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) e0 (blockAt V c 9 t) (blockAt V c 10 t) (blockAt V c 11 t) (blockAt V c 12 t) Y s.H' s.m' s.r' Q
  rw [e1] at P
  iapply P $$ [H9 H10 H11 H12 H13 S1 S5]
  · iframe
  iintro H9 H10 H11 H12 H13 S1 S5
  iapply Hk $$ [S0 S1 S2 S3 S4 S5]
  · iexists _
    isplitr
    · ipureintro; exact (Inv.step2 hs)
    · iframe
  · iexists (k2_pay10 (band k s.H') s.m' s.r' (blockAt V c 9 t) (blockAt V c 10 t) (blockAt V c 11 t) (blockAt V c 12 t))
    isplitr
    · ipureintro; exact fun _ => by rw [show t.val - 16 = k by omega]; exact Inv.out hs (by omega) (blockAt_9 V c t) (blockAt_10 V c t) (blockAt_11 V c t) (blockAt_12 V c t)
    · iframe

theorem made_0 : made 0 = false := rfl
theorem made_1 : made 1 = false := rfl
theorem made_2 : made 2 = false := rfl
theorem made_3 : made 3 = false := rfl
theorem made_4 : made 4 = false := rfl
theorem made_5 : made 5 = false := rfl
theorem made_6 : made 6 = false := rfl
theorem made_7 : made 7 = false := rfl
theorem made_8 : made 8 = false := rfl
theorem made_9 : made 9 = false := rfl
theorem made_10 : made 10 = false := rfl
theorem made_11 : made 11 = false := rfl
theorem made_12 : made 12 = false := rfl
theorem made_13 : made 13 = true := rfl

theorem body_ok : Pipeline.BodyObligationRel (dat V c) (defs₀ (F := F)) 𝒱₀ none Set.univ made (outRel V) := by
  intro t
  have ht : t.val < 24 := t.isLt
  rw [bigSep_W2, bigSep_W2, body_eq, show (dat V c).Φ t.castSucc = scratch V c t.val from rfl, show (dat V c).Φ t.succ = scratch V c (t.val + 1) from rfl]
  simp only [made_0, made_1, made_2, made_3, made_4, made_5, made_6, made_7, made_8, made_9, made_10, made_11, made_12, made_13]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%Y, %hY, H13⟩⟩
  rw [before_eq V c 0 (by decide) t d0]
  rw [before_eq V c 1 (by decide) t d1]
  rw [before_eq V c 2 (by decide) t d2]
  rw [before_eq V c 3 (by decide) t d3]
  rw [before_eq V c 4 (by decide) t d4]
  rw [before_eq V c 5 (by decide) t d5]
  rw [before_eq V c 6 (by decide) t d6]
  rw [before_eq V c 7 (by decide) t d7]
  rw [before_eq V c 8 (by decide) t d8]
  rw [before_eq V c 9 (by decide) t d9]
  rw [before_eq V c 10 (by decide) t d10]
  rw [before_eq V c 11 (by decide) t d11]
  rw [before_eq V c 12 (by decide) t d12]
  have P : ∀ Q : PUnit → sProp (MM F), (iprop(stages V c t Y ∗ scratch V c t.val) : sProp (MM F))
      ⊢ iprop((scratch V c (t.val + 1) -∗ (∃ X, ⌜outRel V 13 t X⌝ ∗ stages V c t X) -∗ Q ⟨⟩) -∗ run c (bodyAt2 (F := F) t) Q) := by
    intro Q
    by_cases h0 : t.val < 8
    · exact wp_point0 V c t h0 Y _
    by_cases h1 : t.val < 16
    · exact wp_point1 V c t (by omega) h1 Y _
    · exact wp_point2 V c t (by omega) ht Y _
  iapply (P _) $$ [HΦ H0 H1 H2 H3 H4 H5 H6 H7 H8 H9 H10 H11 H12 H13]
  · unfold stages
    iframe
  iintro HΦ ⟨%X, %hX, HS⟩
  unfold stages
  icases HS with ⟨H0, H1, H2, H3, H4, H5, H6, H7, H8, H9, H10, H11, H12, H13⟩
  isplitl [HΦ]
  · iexact HΦ
  isplitl [HO]
  · iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  iexists X
  isplitr
  · ipureintro; exact hX
  · iexact H13

end Cert.Proof
-- ==== Proof.MlpCall.lean ====
/-
  The dense layers' call on the host's arrays: entered with every array held, it ends with every array held, the output's
  blocks as computed.
-/
module

public import proofs.«01_k».proof.Proof.MlpRegion
public import Idealize.ShloMosaic.Lib.Pipeline.RegionArraysF

@[expose] public section

set_option maxRecDepth 65536

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.StableHlo (after held_sub_split held_congr)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The output array after the run -/

section Out

variable (V : Valuation τ sig (Elt F)) (c : Dev nD)

theorem read_out (t : Fin cfg2.N) (G : Vec F S16384x1 .f32) : (win2_13.blk t).view.read (Elt F) G = band (t.val % 8) G := by
  have e := index13 t
  funext x
  have hx : (x 0).val < 2048 := (x 0).isLt
  refine congrArg G (idx2_ext ?_ ?_)
  · show cc2_transform_13 (grid2.coords t) 0 * 2048 + 1 * (x 0).val = (2048 * (t.val % 8) + (x 0).val) % 16384
    rw [e]
    show (t.val % 8) * 2048 + 1 * (x 0).val = _
    omega
  · show cc2_transform_13 (grid2.coords t) 1 * _ + 1 * (x 1).val = (x 1).val
    rw [e]
    show 0 * _ + 1 * (x 1).val = _
    omega

theorem band_write_same (t : Fin cfg2.N) (G : Vec F S16384x1 .f32) (X : Vec F S2048x1 .f32) :
    band (t.val % 8) ((win2_13.blk t).view.write (Elt F) G X Finset.univ) = X :=
  (read_out t _).symm.trans (View.read_write_univ _ _)

theorem out_emb (t : Fin cfg2.N) (y : S2048x1.Idx) : (((win2_13.blk t).view.emb y : S16384x1.Idx) 0).val = (t.val % 8) * 2048 + (y 0).val := by
  have e := index13 t
  show cc2_transform_13 (grid2.coords t) 0 * 2048 + 1 * (y 0).val = _
  rw [e]
  show (t.val % 8) * 2048 + 1 * (y 0).val = _
  omega

theorem out_not_mem (t : Fin cfg2.N) (i : S16384x1.Idx) (h : (i 0).val / 2048 ≠ t.val % 8) : i ∉ (win2_13.blk t).view.setOn Finset.univ := by
  intro hm
  obtain ⟨y, -, hy⟩ := Finset.mem_map.mp hm
  have hy0 : (y 0).val < 2048 := (y 0).isLt
  have h0 := out_emb t y
  generalize ((win2_13.blk t).view.emb y : S16384x1.Idx) = j at hy h0
  subst hy
  omega

theorem write_other (t : Fin cfg2.N) (i : S16384x1.Idx) (h : (i 0).val / 2048 ≠ t.val % 8) (G : Vec F S16384x1 .f32) (X : Vec F S2048x1 .f32) :
    ((win2_13.blk t).view.write (Elt F) G X Finset.univ : Vec F S16384x1 .f32) i = G i :=
  View.write_of_not_mem (v := (win2_13.blk t).view) (h := out_not_mem t i h) ..

theorem band_eq (k : Nat) (hk : k < 8) (G G' : Vec F S16384x1 .f32) (h : ∀ i, (i 0).val / 2048 = k → G i = G' i) : band k G = band k G' := by
  funext x
  have hx : (x 0).val < 2048 := (x 0).isLt
  refine h _ ?_
  show ((2048 * k + (x 0).val) % 16384) / 2048 = _
  omega

theorem band_write_other (t : Fin cfg2.N) (k : Nat) (hk : k < 8) (h : k ≠ t.val % 8) (G : Vec F S16384x1 .f32) (X : Vec F S2048x1 .f32) :
    band k ((win2_13.blk t).view.write (Elt F) G X Finset.univ : Vec F S16384x1 .f32) = band k G :=
  band_eq k hk _ _ fun i hi => write_other t i (fun e => h (hi.symm.trans e)) G X

/-- The blocks the third phase's points below `n` have written. -/
theorem out_blocks : ∀ n, n ≤ 24 → ∀ G, ((dat V c).toRRel made (outRel V)).ArrAt 13 n G → ∀ k, k < 8 → 16 + k < n → band k G = (mlpIn V).out k
  | 0, _, _, _, _, _, h => absurd h (by omega)
  | n + 1, hn, G, hG, k, hk, hlt => by
    have ht : n < cfg2.N := hn
    have hs := ((dat V c).toRRel made (outRel V)).ArrAt_succ 13 ⟨n, ht⟩
    rw [if_pos (flush2_13 ⟨n, ht⟩)] at hs
    have hG' : ((dat V c).toRRel made (outRel V)).ArrStep 13 ⟨n, ht⟩ (((dat V c).toRRel made (outRel V)).ArrAt 13 n) G := hs ▸ hG
    obtain ⟨G₀, X, hG₀, hX, rfl⟩ := hG'
    have hX := (dat V c).toRRel_leaves (made_13) hX
    by_cases e : k = n % 8
    · have h16 : 16 ≤ n := by omega
      have hk' : n - 16 = k := by omega
      have hX' : X = (mlpIn V).out (n - 16) := hX h16
      rw [hk'] at hX'
      subst hX'
      subst e
      exact band_write_same ⟨n, ht⟩ _ _
    · refine (band_write_other ⟨n, ht⟩ k hk e _ _).trans (out_blocks n (by omega) G₀ hG₀ k hk ?_)
      by_contra hc
      exact e (by omega)

end Out

/-! ## The region -/

abbrev adm : (p : Fin 1) → (pcfgs (F := F) p).Adm := fun p => (cfgs p).toPCfg_adm

/-- The rounds of the pipeline's staging buffers. -/
def EP : Emb UP (MM F) := (Emb.inl : Emb UP (UP × Counters)).trans embR
instance EP_landsIn : (EP (F := F)).LandsIn (upEmb : UEmb _ (MM F)) := by unfold EP; infer_instance

theorem kit : Pipeline.PLaunchFacts (nD := nD) (τ := τ) (pcfgs (F := F)) 0 := launch2.toP

theorem phinj : Function.Injective (Pipeline.cellOf (nD := nD) (τ := τ) (Pipeline.pin pcfgs (adm (F := F)))) := cellOf_inj

/-- The waits on staging buffers are at the lowest level. -/
theorem waits_low (c : Dev nD) (p : SemLoc sig × HIx 2) (h : p ∈ cfg2.waitPairs (none : HIx 2)) : (K (F := F)).lev (T c, p.1) p.2 ≤ 16 := by
  obtain ⟨w, s, rfl⟩ := h
  exact Nat.zero_le _

section Region

variable (V : Dev nD → Valuation τ sig (Elt F))

abbrev pdats (p : Fin 1) (c : Dev nD) : Pipeline.Dat τ (Elt F) (HIx 2) ℕ UU ℕ (Pipeline.pin pcfgs (adm (F := F)) p) c := dat (V c) c
abbrev rdats (p : Fin 1) (c : Dev nD) : Pipeline.RDat τ (Elt F) (HIx 2) ℕ UU ℕ (Pipeline.pin pcfgs (adm (F := F)) p) c := (dat (V c) c).toRRel made (outRel (V c))

/-- What the TensorCore owes between calls: nothing, its recorded waits below the last call's. -/
abbrev idle (c : Dev nD) : sProp (MM F) := iprop(∃ W, ⌜(K (F := F)).WBelow (T c) W 16⌝ ∗ owes (T c) (0 : CellTallies nD τ sig (HIx 2)) W)

theorem share_eq (c : Dev nD) (w : Fin cfg2.W) : (dat (V c) c).share w = fullShare := by
  unfold Pipeline.Dat.share
  split <;> rfl

theorem arrays_at (c : Dev nD) (G : (w : Fin cfg2.W) → Buf (Elt F) ((cfg2.win w).arr.view.loc (c.tc : Thread nD τ))) (W : Valuation τ sig (Elt F))
    (hG : ∀ w, G w = W (Proc.devRef .tc (Pipeline.arrRef spec2 w))) :
    ((dat (V c) c).arrays G : sProp (MM F)) = StableHlo.held (c.tc : Thread nD τ) (Pipeline.arrRefs spec2) W :=
  Pipeline.arrays_held pcfgs adm (pdats V) (0 : Fin 1) kit c (share_eq V c) G W hG

theorem scratch_in (c : Dev nD) : (Pipeline.scopedRest spec2 c : sProp (MM F)) ⊢ scratch (V c) c 0 := by
  rw [scopedRest2_eq]
  iintro ⟨⟨%f0, H0⟩, ⟨%f1, H1⟩, ⟨%f2, H2⟩, ⟨%f3, H3⟩, ⟨%f4, H4⟩, ⟨%f5, H5⟩⟩
  obtain ⟨a, b, e2⟩ := exists_rows2 f2
  obtain ⟨a', b', e3⟩ := exists_rows2 f3
  obtain ⟨m, r, e4⟩ := exists_rows2 f4
  obtain ⟨m', r', e5⟩ := exists_rows2 f5
  subst e2 e3 e4 e5
  unfold scratch own
  iexists (⟨f0, f1, a, b, a', b', m, r, m', r'⟩ : Scr F)
  isplitr
  · ipureintro; exact Inv.zero _ _
  simp only [owns_whole]
  iframe

theorem scratch_out (c : Dev nD) (n : Nat) : (scratch (V c) c n : sProp (MM F)) ⊢ Pipeline.scopedRest spec2 c := by
  rw [scopedRest2_eq]
  unfold scratch own
  simp only [owns_whole]
  iintro ⟨%s, -, H0, H1, H2, H3, H4, H5⟩
  isplitl [H0]; · iexists _; iexact H0
  isplitl [H1]; · iexists _; iexact H1
  isplitl [H2]; · iexists _; iexact H2
  isplitl [H3]; · iexists _; iexact H3
  isplitl [H4]; · iexists _; iexact H4
  iexists _; iexact H5

theorem in_of_ne : ∀ w : Fin cfg2.W, w ≠ 13 → (cfg2.win w).isOut = false := by decide
theorem arrRef_ne : ∀ w : Fin cfg2.W, w ≠ 13 → Pipeline.arrRef spec2 w ≠ main_v19 := by decide

theorem upd_out (W : Valuation τ sig (Elt F)) (g : S16384x1.Idx → Elt F .f32) (w : Fin cfg2.W) (hw : w ≠ 13) :
    Function.update W (main_v19 : DevRef τ sig) g (Proc.devRef .tc (Pipeline.arrRef spec2 w)) = W (Proc.devRef .tc (Pipeline.arrRef spec2 w)) :=
  Function.update_of_ne (fun e => arrRef_ne w hw (Proc.devRef_injective (τ := τ) (sig := sig) Proc.tc e)) _ _

/-- What the arrays hold after the run: the inputs as they were, the output's blocks as computed. -/
theorem arrays_out (c : Dev nD) : ((rdats V (0 : Fin 1) c).arraysAt cfg2.N : sProp (MM F))
    ⊢ iprop(∃ g : S16384x1.Idx → Elt F .f32, ⌜∀ k, k < 8 → band k g = (mlpIn (V c)).out k⌝
        ∗ StableHlo.held (c.tc : Thread nD τ) (Pipeline.arrRefs spec2) (Function.update (V c) (main_v19 : DevRef τ sig) g)) := by
  unfold Pipeline.RDat.arraysAt
  refine (BI.bigSep_exists_pi Finset.univ _).trans ?_
  iintro ⟨%A, H⟩
  ihave H' := (BI.bigSep_pure_sep Finset.univ (fun w => (rdats V (0 : Fin 1) c).ArrAt w cfg2.N (A w)) _) $$ H
  icases H' with ⟨%hA, H⟩
  iexists (A 13)
  isplitr
  · ipureintro
    exact fun k hk => out_blocks (V c) c 24 (Nat.le_refl _) (A 13) (hA 13 (Finset.mem_univ _)) k hk (by omega)
  have hG : ∀ w, A w = Function.update (V c) (main_v19 : DevRef τ sig) (A 13) (Proc.devRef .tc (Pipeline.arrRef spec2 w)) := by
    intro w
    by_cases hw : w = 13
    · subst hw
      exact (Function.update_self (main_v19 : DevRef τ sig) (A 13) (V c)).symm
    · have h1 := hA w (Finset.mem_univ _)
      rw [Pipeline.RDat.ArrAt_in _ w (in_of_ne w hw)] at h1
      exact h1.trans (upd_out (V c) (A 13) w hw).symm
  rw [← arrays_at V c A _ hG]
  rw [show (dat (V c) c).arrays A = bigSep Finset.univ (fun w : Fin cfg2.W => ((cfg2.win w).arr.view.loc (c.tc : Thread nD τ) ↦[(cfg2.win w).arr.view.set]{(dat (V c) c).share w} A w : sProp (MM F))) from rfl]
  iexact H

theorem no_levels : (levAts (fun _ : GSem nD τ sig => (∅ : Finset (HIx 2))) (K (F := F)).lev : sProp (MM F)) = iprop(emp) :=
  bigSep_emp_const _

/-- What the call is entered with and what it leaves. -/
abbrev entered (W : Valuation τ sig (Elt F)) (c : Dev nD) : sProp (MM F) :=
  iprop(StableHlo.held (c.tc : Thread nD τ) (Pipeline.arrRefs spec2) W ∗ idle c)
abbrev left (W : Valuation τ sig (Elt F)) (c : Dev nD) : sProp (MM F) :=
  iprop((∃ g : S16384x1.Idx → Elt F .f32, ⌜∀ k, k < 8 → band k g = (mlpIn W).out k⌝
        ∗ StableHlo.held (c.tc : Thread nD τ) (Pipeline.arrRefs spec2) (Function.update W (main_v19 : DevRef τ sig) g)) ∗ idle c)

/-- The call on every device: from its arrays as the host has them to its arrays with the output's blocks as computed. -/
def region : Pipeline.RDat.RegionSeg pcfgs (adm (F := F)) (rdats V) none defs₀ 𝒱₀ (fun _ => ∅) (K (F := F)).lev (0 : Fin 1) where
  win := (kit (F := F)).win.to₀
  block_pos := (kit (F := F)).block_pos
  stage_whole := (kit (F := F)).stage_whole
  K := PEmpty
  osem k := k.elim
  ho := Pipeline.OwnSemFacts.none _
  hbody c := (body_ok (V c) c).toRRel
  hwaits c := by
    rw [no_levels]
    exact Pipeline.RDat.cellsWaits_of_owed_zero (Pipeline.pin pcfgs adm) (rdats V) none 0 c (fun _ => rfl)
  pre c := entered (V c) c
  post c := left (V c) c
  X _ := iprop(emp)
  Y _ := iprop(emp)
  Z _ := iprop(emp)
  hentry c := by
    unfold entered
    rw [Pipeline.ownSems0_none, Pipeline.prefHeld_of_none _ rfl, ← arrays_at V c (arrs (V c) c) (V c) (fun _ => rfl)]
    iintro ⟨⟨Ha, HO⟩, -, -⟩
    imodintro
    isplitl [Ha]
    · rw [show (rdats V (0 : Fin 1) c).arrays (rdats V (0 : Fin 1) c).A = (dat (V c) c).arrays (arrs (V c) c) from rfl]
      iexact Ha
    isplitr; · iempintro
    isplitl [HO]
    · icases HO with ⟨%W, %hW, HO⟩
      iexists W
      isplitr
      · ipureintro; exact fun p hp => Or.inl (hW p hp)
      iexact HO
    isplitl <;> iempintro
  hin c := by
    refine .trans ?_ (scratch_in V c)
    iintro ⟨-, -, Hr⟩
    iexact Hr
  hout c := by
    rw [Pipeline.ownSems0_none]
    refine (scratch_out V c 24).trans ?_
    iintro Hr
    isplitr; · iempintro
    isplitr; · iempintro
    iexact Hr
  hexit c := by
    unfold left
    iintro ⟨Ha, HO, -, -⟩
    imodintro
    isplitl [Ha]; · iapply (arrays_out V c) $$ Ha
    icases HO with ⟨%W, %hW, HO⟩
    iexists W
    isplitr
    · ipureintro
      intro p hp
      rcases hW hp with h | h
      · exact h
      · exact waits_low c p h
    iexact HO

end Region

/-! ## The call, from the host's arrays -/

theorem out_mem : (main_v19 : DevRef τ sig) ∈ Pipeline.arrRefs (τ := τ) spec2 :=
  Finset.mem_map.mpr ⟨main_v19, Finset.mem_image.mpr ⟨13, Finset.mem_univ _, rfl⟩, rfl⟩

/-- The host's call is the pipeline's, as @main names it. -/
theorem mlp_lift : (Prog.lift (.customCall (SparseCore.inner (Pipeline.entry 0)) ()) : Prog (TpuEff nD τ sig (Elt F) (SparseCore.Sig (ΛP (F := F)) 2) .tc) PUnit)
    = SparseCore.liftProg (.op (.customCall (Pipeline.entry 0) ()) fun x => .ret x) := rfl

/-- The dense layers' call: what @main holds before it and after it. -/
theorem wp_mlp (d : Dev nD) (W : Valuation τ sig (Elt F)) {Φ : PUnit → sProp (MM F)} :
    (iprop(boundary (T d) ∗ StableHlo.held (d.tc : Thread nD τ) (Pipeline.ucRefs τ sig) W ∗ (K (F := F)).tcSt EH d 2
      ∗ Pipeline.cellsGhost (Pipeline.pin pcfgs (adm (F := F))) EP 0 d ∗ Pipeline.toksInit (Pipeline.pin pcfgs (adm (F := F))) EP 0 d
      ∗ ((boundary (T d) ∗ (∃ g : S16384x1.Idx → Elt F .f32, ⌜∀ k, k < 8 → band k g = (mlpIn W).out k⌝
          ∗ StableHlo.held (d.tc : Thread nD τ) (Pipeline.ucRefs τ sig) (Function.update W (main_v19 : DevRef τ sig) g)) ∗ (K (F := F)).tcSt EH d 2) -∗ Φ ⟨⟩)) : sProp (MM F))
    ⊢ wp frame (wpE ((K (F := F)).defs (D (F := F))) 𝒱 (T d) none) Set.univ
        (Prog.lift (.customCall (SparseCore.inner (Pipeline.entry 0)) ())) Φ := by
  rw [mlp_lift]
  refine .trans ?_ ((K (F := F)).wp_liftProg (D (F := F)) 𝒱 (T d) Set.univ none (.op (.customCall (Pipeline.entry 0) ()) fun x => .ret x) Φ)
  refine .trans ?_ (Pipeline.RDat.RegionSeg.wp pcfgs adm (rdats fun _ => W) none phinj EP defs₀ 𝒱₀ (fun _ => ∅) (K (F := F)).lev (region fun _ => W) d none
    (fun _ h => nomatch h) (fun x => .ret x) Φ)
  have hsub : Pipeline.arrRefs (τ := τ) spec2 ⊆ Pipeline.ucRefs τ sig := Pipeline.arrRefs_sub_ucRefs spec2 (by decide)
  have hout (g : S16384x1.Idx → Elt F .f32) : (StableHlo.held (d.tc : Thread nD τ) (Pipeline.ucRefs τ sig \ Pipeline.arrRefs spec2) (Function.update W (main_v19 : DevRef τ sig) g) : sProp (MM F))
      = StableHlo.held (d.tc : Thread nD τ) (Pipeline.ucRefs τ sig \ Pipeline.arrRefs spec2) W :=
    held_congr _ fun b hb => Function.update_of_ne (fun e => (Finset.mem_sdiff.mp hb).2 (by rw [e]; exact out_mem)) _ _
  rw [show (region fun _ => W).post d = left W d from rfl, show (region fun _ => W).pre d = entered W d from rfl]
  unfold entered left
  simp only [no_levels, held_sub_split (d.tc : Thread nD τ) hsub, hout]
  unfold SparseCore.Cfg.tcSt
  rw [(K (F := F)).Otc_end d (Nat.le_refl 2)]
  iintro ⟨Hb, ⟨Ha, Hrest⟩, ⟨HO, Ht⟩, Hc, Htk, Hk⟩
  isplitl [Hk Hrest Ht]
  · iintro ⟨Hb, ⟨⟨%g, %hg, Ha⟩, HO⟩⟩
    rw [wp_ret]
    imodintro
    iapply Hk
    isplitl [Hb]; · iexact Hb
    isplitl [Ha Hrest]
    · iexists g
      isplitr; · ipureintro; exact hg
      isplitl [Ha] <;> iassumption
    isplitl [HO]; · iexact HO
    iexact Ht
  isplitl [Hb]; · iexact Hb
  isplitl [Ha HO]
  · isplitl [Ha]; · iexact Ha
    iexact HO
  isplitr; · iempintro
  isplitl [Hc] <;> iassumption

end Cert.Proof
-- ==== Proof.Main.lean ====
/-
  The program's run: the arrays laid out, the relayout call, the flat result read as rows, the gather call, its rows
  and the layers' parameters laid out, the dense layers' call.
-/
module

public import proofs.«01_k».proof.Proof.Calls
public import proofs.«01_k».proof.Proof.MlpCall

@[expose] public section

set_option maxRecDepth 65536

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.Transfers (shareDrop shareTokN)
open Idealize.ShloMosaic.StableHlo (after held_sub_split held_congr)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## A call, from the host's arrays -/

/-- The TensorCore's arrays: every one that is no kernel's scratch. -/
abbrev hostSet : Finset (DevRef τ sig) := Pipeline.ucRefs τ sig

theorem mem_hostSet {b : Ref sig .tc} (h : b.isScoped = false) : Proc.devRef (τ := τ) .tc b ∈ hostSet :=
  Finset.mem_filter.mpr ⟨Finset.mem_map.mpr ⟨b, Finset.mem_univ _, rfl⟩, by
    show ¬ b.isScoped = true
    simp [h]⟩

/-- Three of the host's arrays and the rest. -/
theorem held_three (d : Dev nD) (b1 b2 b3 : Ref sig .tc) (h1 : b1.isScoped = false) (h2 : b2.isScoped = false) (h3 : b3.isScoped = false)
    (h12 : b1 ≠ b2) (h13 : b1 ≠ b3) (h23 : b2 ≠ b3) (W : Valuation τ sig (Elt F)) :
    (StableHlo.held (d.tc : Thread nD τ) hostSet W : sProp (MM F)) = iprop(((lc d b1 ↦{fullShare} W b1) ∗ (lc d b2 ↦{fullShare} W b2) ∗ (lc d b3 ↦{fullShare} W b3))
      ∗ StableHlo.held (d.tc : Thread nD τ) (hostSet \ {(b1 : DevRef τ sig), (b2 : DevRef τ sig), (b3 : DevRef τ sig)}) W) := by
  rw [held_sub_split (d.tc : Thread nD τ) (T := {(b1 : DevRef τ sig), (b2 : DevRef τ sig), (b3 : DevRef τ sig)}) (fun x hx => by
    simp only [Finset.mem_insert, Finset.mem_singleton] at hx
    rcases hx with rfl | rfl | rfl
    · exact mem_hostSet h1
    · exact mem_hostSet h2
    · exact mem_hostSet h3)]
  have hi := Proc.devRef_injective (τ := τ) (sig := sig) Proc.tc
  congr 1
  unfold StableHlo.held
  rw [SparseCore.bigSep_insert' (by
      simp only [Finset.mem_insert, Finset.mem_singleton, not_or]
      exact ⟨fun e => h12 (hi e), fun e => h13 (hi e)⟩),
    SparseCore.bigSep_insert' (by
      simp only [Finset.mem_singleton]
      exact fun e => h23 (hi e)), bigSep_singleton]

variable (A : Dev nD → Arrays F)

/-- A call that reads two of the host's arrays and writes a third, its handshakes dealing those three to the tiles:
    after it the third holds what the tiles wrote. -/
theorem wp_call (κ : GSem nD τ sig → ℕ) (d : Dev nD) (q : Fin 2) (b1 b2 b3 : Ref sig .tc)
    (h1 : b1.isScoped = false) (h2 : b2.isScoped = false) (h3 : b3.isScoped = false)
    (h12 : b1 ≠ b2) (h13 : b1 ≠ b3) (h23 : b2 ≠ b3) (W : Valuation τ sig (Elt F)) (g : Buf (Elt F) (lc d b3)) (Z : Nat → Finset (Idx (lc d b3)))
    (hd : ∀ w ∈ Finset.range 32, ∀ w' ∈ Finset.range 32, w ≠ w' → Disjoint (Z w) (Z w')) (hc : (Finset.range 32).biUnion Z = Finset.univ)
    (hst : (bigSep Finset.univ fun c : Fin ((K (F := F)).nCore q) => (P A).st q d c) = bigSep Finset.univ fun c : Fin 2 => bigSep Finset.univ fun s : Fin 16 =>
      (fun w => (iprop((lc d b1 ↦{shareTokN fullShare w} W b1) ∗ (lc d b2 ↦{shareTokN fullShare w} W b2) ∗ (lc d b3 ↦[Z w]{fullShare} W b3)) : sProp (MM F))) (2 * s.val + c.val))
    (hdn : (bigSep Finset.univ fun c : Fin ((K (F := F)).nCore q) => (P A).dn q d c) = bigSep Finset.univ fun c : Fin 2 => bigSep Finset.univ fun s : Fin 16 =>
      (fun w => (iprop((lc d b1 ↦{shareTokN fullShare w} W b1) ∗ (lc d b2 ↦{shareTokN fullShare w} W b2) ∗ (lc d b3 ↦[Z w]{fullShare} g)) : sProp (MM F))) (2 * s.val + c.val))
    {Φ : PUnit → sProp (MM F)} :
    (iprop((K (F := F)).ctx EH (P A) κ ∗ (K (F := F)).tcSt EH d q.val ∗ StableHlo.held (d.tc : Thread nD τ) hostSet W
      ∗ (((K (F := F)).tcSt EH d (q.val + 1) ∗ StableHlo.held (d.tc : Thread nD τ) hostSet (Function.update W (b3 : DevRef τ sig) g)) -∗ Φ ⟨⟩)) : sProp (MM F))
    ⊢ wp frame (wpE ((K (F := F)).defs (D (F := F))) 𝒱 (T d) none) Set.univ ((K (F := F)).run d q) Φ := by
  have hi := Proc.devRef_injective (τ := τ) (sig := sig) Proc.tc
  have hb := deal (F := F) (ℓ1 := lc d b1) (ℓ2 := lc d b2) (ℓ3 := lc d b3) (W b1) (W b2) (W b3) Z hd hc
  have ha := deal (F := F) (ℓ1 := lc d b1) (ℓ2 := lc d b2) (ℓ3 := lc d b3) (W b1) (W b2) g Z hd hc
  rw [held_three d b1 b2 b3 h1 h2 h3 h12 h13 h23 W, held_three d b1 b2 b3 h1 h2 h3 h12 h13 h23 (Function.update W (b3 : DevRef τ sig) g),
    Function.update_of_ne (fun e => h13 (hi e)), Function.update_of_ne (fun e => h23 (hi e)), Function.update_self,
    held_congr (d.tc : Thread nD τ) (S := hostSet \ {(b1 : DevRef τ sig), (b2 : DevRef τ sig), (b3 : DevRef τ sig)}) (V := Function.update W (b3 : DevRef τ sig) g) (V' := W) (fun b hb => by
      refine Function.update_of_ne (fun e => (Finset.mem_sdiff.mp hb).2 ?_) _ _
      rw [e]; simp)]
  iintro ⟨#Hctx, Hst, ⟨H, Hrest⟩, Hk⟩
  ihave H := hb.1 $$ H
  icases H with ⟨Hkeep, H⟩
  iapply ((K (F := F)).wp_run (D (F := F)) 𝒱 (EH := EH) (P := P A) κ d q)
  isplitr; · iexact Hctx
  isplitl [Hst]; · iexact Hst
  isplitl [H]; · rw [hst]; iexact H
  rw [hdn]
  iintro ⟨Hst, H⟩
  ihave H := ha.2 $$ [Hkeep H]
  · isplitl [Hkeep] <;> iassumption
  iapply Hk
  isplitl [Hst]; · iexact Hst
  isplitl [H] <;> iassumption

/-! ## The arrays at each point of @main -/

variable (m : (ℓ : Loc nD τ sig) → Buf (Elt F) ℓ) (ρ : Dev nD → PrngReg) (d : Dev nD)

/-- Before the relayout call: the indices flat, the tables transposed, their last 32 rows in a list. -/
abbrev before0 : Valuation τ sig (Elt F) :=
  (StableHlo.reshape main_v2 main_v3 (rfl : (.f32 : EltTy) = .f32) shapeCasts_S26x32x16_S13312 : HloOp τ sig (Elt F)).result
    ((StableHlo.unary main_arg2 main_v2 ((extractStridedSlice S26x32x16 ![0, 99968, 0] · slices_S26x100000x16_S26x32x16_0_99968_0) : (⟨S26x100000x16, .f32⟩ : BufTy).Contents (Elt F) → (⟨S26x32x16, .f32⟩ : BufTy).Contents (Elt F))).result
      ((StableHlo.unary main_arg2 main_v1 ((transpose S26x16x100000 [0, 2, 1] · transposes_S26x100000x16_S26x16x100000_0_2_1) : (⟨S26x100000x16, .f32⟩ : BufTy).Contents (Elt F) → (⟨S26x16x100000, .f32⟩ : BufTy).Contents (Elt F))).result
        ((StableHlo.reshape main_arg0 main_v0 (rfl : (.i32 : EltTy) = .i32) shapeCasts_S16384x26_S425984 : HloOp τ sig (Elt F)).result (fun b => m (d, b)))))

/-- The flat result of the relayout call. -/
def flatRows : S41600000.Idx → Elt F .f32 := relG (before0 m d main_v1) (before0 m d main_v3)

/-- Before the gather call: the flat result there and read as rows. -/
abbrev before1 : Valuation τ sig (Elt F) :=
  (StableHlo.reshape main_v4 main_v5 (rfl : (.f32 : EltTy) = .f32) shapeCasts_S41600000_S2600000x16 : HloOp τ sig (Elt F)).result
    (Function.update (before0 m d) (main_v4 : DevRef τ sig) (flatRows m d))

/-- The gathered rows. -/
def gathered : S425984x16.Idx → Elt F .f32 := gath (before1 m d main_v5) (before1 m d main_v0)

/-- The gathered rows read as examples and the layers' parameters laid out, one array at a time. -/
abbrev w7 : Valuation τ sig (Elt F) := (StableHlo.reshape main_v6 main_v7 (rfl : (.f32 : EltTy) = .f32) shapeCasts_S425984x16_S16384x416 : HloOp τ sig (Elt F)).result (Function.update (before1 m d) (main_v6 : DevRef τ sig) (gathered m d))
abbrev w8 : Valuation τ sig (Elt F) := (StableHlo.unary main_arg3 main_v8 ((transpose S429x128 [1, 0] · transposes_S128x429_S429x128_1_0) : (⟨S128x429, .f32⟩ : BufTy).Contents (Elt F) → (⟨S429x128, .f32⟩ : BufTy).Contents (Elt F)) : HloOp τ sig (Elt F)).result (w7 m d)
abbrev w9 : Valuation τ sig (Elt F) := (StableHlo.unary main_v8 main_v9 ((extractStridedSlice S416x128 ![0, 0] · slices_S429x128_S416x128_0_0) : (⟨S429x128, .f32⟩ : BufTy).Contents (Elt F) → (⟨S416x128, .f32⟩ : BufTy).Contents (Elt F)) : HloOp τ sig (Elt F)).result (w8 m d)
abbrev w10 : Valuation τ sig (Elt F) := (StableHlo.unary main_v8 main_v10 ((extractStridedSlice S13x128 ![416, 0] · slices_S429x128_S13x128_416_0) : (⟨S429x128, .f32⟩ : BufTy).Contents (Elt F) → (⟨S13x128, .f32⟩ : BufTy).Contents (Elt F)) : HloOp τ sig (Elt F)).result (w9 m d)
abbrev w11 : Valuation τ sig (Elt F) := (StableHlo.reshape main_arg4 main_v11 (rfl : (.f32 : EltTy) = .f32) shapeCasts_S128_S1x128 : HloOp τ sig (Elt F)).result (w10 m d)
abbrev w12 : Valuation τ sig (Elt F) := (StableHlo.reshape main_arg5 main_v12 (rfl : (.f32 : EltTy) = .f32) shapeCasts_S128_S1x128 : HloOp τ sig (Elt F)).result (w11 m d)
abbrev w13 : Valuation τ sig (Elt F) := (StableHlo.reshape main_arg6 main_v13 (rfl : (.f32 : EltTy) = .f32) shapeCasts_S128_S1x128 : HloOp τ sig (Elt F)).result (w12 m d)
abbrev w14 : Valuation τ sig (Elt F) := (StableHlo.unary main_arg7 main_v14 ((transpose S128x64 [1, 0] · transposes_S64x128_S128x64_1_0) : (⟨S64x128, .f32⟩ : BufTy).Contents (Elt F) → (⟨S128x64, .f32⟩ : BufTy).Contents (Elt F)) : HloOp τ sig (Elt F)).result (w13 m d)
abbrev w15 : Valuation τ sig (Elt F) := (StableHlo.reshape main_arg8 main_v15 (rfl : (.f32 : EltTy) = .f32) shapeCasts_S64_S1x64 : HloOp τ sig (Elt F)).result (w14 m d)
abbrev w16 : Valuation τ sig (Elt F) := (StableHlo.reshape main_arg9 main_v16 (rfl : (.f32 : EltTy) = .f32) shapeCasts_S64_S1x64 : HloOp τ sig (Elt F)).result (w15 m d)
abbrev w17 : Valuation τ sig (Elt F) := (StableHlo.reshape main_arg10 main_v17 (rfl : (.f32 : EltTy) = .f32) shapeCasts_S64_S1x64 : HloOp τ sig (Elt F)).result (w16 m d)
abbrev w18 : Valuation τ sig (Elt F) := (StableHlo.reshape main_arg12 main_v18 (rfl : (.f32 : EltTy) = .f32) shapeCasts_S1_S1x1 : HloOp τ sig (Elt F)).result (w17 m d)

/-- Before the dense layers' call. -/
abbrev before2 : Valuation τ sig (Elt F) := w18 m d

/-- The output: block `j 0 / 2048` of the dense layers' output. -/
def result : S16384x1.Idx → Elt F .f32 := fun j => (mlpIn (before2 m d)).out ((j 0).val / 2048) (ix2 ⟨(j 0).val % 2048, Nat.mod_lt _ (by decide)⟩ (j 1))

/-- An array with the output's blocks is the output. -/
theorem eq_result (g : S16384x1.Idx → Elt F .f32) (h : ∀ k, k < 8 → band k g = (mlpIn (before2 m d)).out k) : g = result m d := by
  funext j
  have hj : (j 0).val < 16384 := (j 0).isLt
  unfold result
  rw [← h ((j 0).val / 2048) (by omega)]
  refine congrArg g (idx2_ext ?_ rfl)
  show (j 0).val = (2048 * ((j 0).val / 2048) + (j 0).val % 2048) % 16384
  omega

/-- At the end. -/
abbrev atEnd : Valuation τ sig (Elt F) := Function.update (before2 m d) (main_v19 : DevRef τ sig) (result m d)

/-- The arrays the calls work on. -/
def arrays (d : Dev nD) : Arrays F where
  tb := before0 m d main_v1
  tl := before0 m d main_v3
  f4 := before0 m d main_v4
  tab := before1 m d main_v5
  ix := before1 m d main_v0
  f6 := before1 m d main_v6

theorem unscoped_held : (unscopedBufs d (fun b => m ((SparseCore.T d).loc b)) : sProp (MM F)) = StableHlo.held (d.tc : Thread nD τ) hostSet (fun b => m (d, b)) :=
  Pipeline.unscopedBufs_held d (fun b => m (d, b))

/-- The ghost state of the dense layers' pipeline. -/
abbrev G (d : Dev nD) : sProp (MM F) :=
  iprop(Pipeline.cellsGhost (Pipeline.pin pcfgs (adm (F := F))) EP 0 d ∗ Pipeline.toksInit (Pipeline.pin pcfgs (adm (F := F))) EP 0 d)

/-- What the TensorCore ends with. -/
abbrev FIN (d : Dev nD) : sProp (MM F) := StableHlo.held (d.tc : Thread nD τ) hostSet (atEnd m d)

set_option backward.isDefEq.respectTransparency.types false in
set_option maxHeartbeats 1000000 in
/-- @main's run on a device's TensorCore. -/
theorem hmain (κ : GSem nD τ sig → ℕ) (d : Dev nD) :
    (iprop((K (F := F)).ctx EH (P (arrays m)) κ ∗ (K (F := F)).tcSt EH d 0 ∗ (K (F := F)).tcRes m ρ d ∗ G d) : sProp (MM F))
      ⊢ wp frame (wpE ((K (F := F)).defs (D (F := F))) 𝒱 (T d) none) Set.univ (main (F := F) d)
          fun _ => iprop((K (F := F)).tcSt EH d 2 ∗ FIN m d ∗ (K (F := F)).tcEnd d) := by
  unfold SparseCore.Cfg.tcRes SparseCore.Cfg.tcEnd
  rw [unscoped_held]
  unfold main
  simp only [wp_bind]
  iintro ⟨#Hctx, Hst, ⟨Hb, Hbufs, Hts, -⟩, ⟨Hc, Htk⟩⟩
  iapply (StableHlo.wp_hlo_within 𝒱 (d.tc : Thread nD τ) none Set.univ (S := hostSet) (Pipeline.sub_ucRefs _ (StableHlo.reshape_bufs_sub ..))) $$ [Hb Hbufs]
  · isplitl [Hb] <;> iassumption
  iintro H; rw [wp_ret]; imodintro
  iapply (StableHlo.wp_hlo_within 𝒱 (d.tc : Thread nD τ) none Set.univ (S := hostSet) (Pipeline.sub_ucRefs _ (StableHlo.unary_bufs_sub ..))) $$ H
  iintro H; rw [wp_ret]; imodintro
  iapply (StableHlo.wp_hlo_within 𝒱 (d.tc : Thread nD τ) none Set.univ (S := hostSet) (Pipeline.sub_ucRefs _ (StableHlo.unary_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  icases H with ⟨Hb, H⟩
  iapply (wp_call (F := F) (arrays m) κ d 0 main_v1 main_v3 main_v4 rfl rfl rfl (by decide) (by decide) (by decide) (before0 m d) (flatRows m d) Oset Oset_disj Oset_cover rfl rfl)
  isplitr; · iexact Hctx
  isplitl [Hst]; · iexact Hst
  isplitl [H]; · iexact H
  iintro ⟨Hst, H⟩
  iapply (StableHlo.wp_hlo_within 𝒱 (d.tc : Thread nD τ) none Set.univ (S := hostSet) (Pipeline.sub_ucRefs _ (StableHlo.reshape_bufs_sub ..))) $$ [Hb H]
  · isplitl [Hb] <;> iassumption
  iintro ⟨Hb, H⟩; rw [wp_ret]; imodintro
  iapply (wp_call (F := F) (arrays m) κ d 1 main_v5 main_v0 main_v6 rfl rfl rfl (by decide) (by decide) (by decide) (before1 m d) (gathered m d) (fun w => Rset w 0 4) Rows_disj Rows_cover rfl rfl)
  isplitr; · iexact Hctx
  isplitl [Hst]; · iexact Hst
  isplitl [H]; · iexact H
  iintro ⟨Hst, H⟩
  iapply (StableHlo.wp_hlo_within 𝒱 (d.tc : Thread nD τ) none Set.univ (S := hostSet) (Pipeline.sub_ucRefs _ (StableHlo.reshape_bufs_sub ..))) $$ [Hb H]
  · isplitl [Hb] <;> iassumption
  iintro H; rw [wp_ret]; imodintro
  iapply (StableHlo.wp_hlo_within 𝒱 (d.tc : Thread nD τ) none Set.univ (S := hostSet) (Pipeline.sub_ucRefs _ (StableHlo.unary_bufs_sub ..))) $$ H
  iintro H; rw [wp_ret]; imodintro
  iapply (StableHlo.wp_hlo_within 𝒱 (d.tc : Thread nD τ) none Set.univ (S := hostSet) (Pipeline.sub_ucRefs _ (StableHlo.unary_bufs_sub ..))) $$ H
  iintro H; rw [wp_ret]; imodintro
  iapply (StableHlo.wp_hlo_within 𝒱 (d.tc : Thread nD τ) none Set.univ (S := hostSet) (Pipeline.sub_ucRefs _ (StableHlo.unary_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  iapply (StableHlo.wp_hlo_within 𝒱 (d.tc : Thread nD τ) none Set.univ (S := hostSet) (Pipeline.sub_ucRefs _ (StableHlo.unary_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro H; rw [wp_ret]; imodintro
  iapply (StableHlo.wp_hlo_within 𝒱 (d.tc : Thread nD τ) none Set.univ (S := hostSet) (Pipeline.sub_ucRefs _ (StableHlo.reshape_bufs_sub ..))) $$ H
  iintro ⟨Hb, H⟩; rw [wp_ret]; imodintro
  iapply (wp_mlp (F := F) d (before2 m d))
  isplitl [Hb]; · iexact Hb
  isplitl [H]; · iexact H
  isplitl [Hst]; · iexact Hst
  isplitl [Hc]; · iexact Hc
  isplitl [Htk]; · iexact Htk
  iintro ⟨Hb, ⟨%g, %hg, H⟩, Hst⟩
  rw [eq_result m d g hg, wp_pure]; imodintro
  isplitl [Hst]; · iexact Hst
  isplitl [H]; · iexact H
  isplitl [Hb] <;> iassumption

/-- Holding the host's arrays, what the memory has. -/
def fq (d : Dev nD) (s' : Phys nD τ sig (Elt F)) : Prop := ∀ b : Ref sig .tc, b.isScoped = false → s'.mem.mem (lc d b) = atEnd m d b

theorem hfin (d : Dev nD) (s' : Phys nD τ sig (Elt F)) : iprop(FIN m d ∗ SI s') ⊢ (⌜fq m d s'⌝ : sProp (MM F)) := by
  unfold fq
  refine (forall_intro fun b => (forall_intro fun hb => ?_).trans pure_forall.2).trans pure_forall.2
  unfold FIN StableHlo.held
  refine (sep_mono_left (bigSep_elim (mem_hostSet hb))).trans ?_
  iintro ⟨H, HSI⟩
  ihave H := (SI_pointsTo_agree (st := s') (ℓ := lc d b) (I := Finset.univ) (q := fullShare) (f := atEnd m d b)) $$ [HSI H]
  · isplitl [HSI] <;> iassumption
  icases H with %h
  ipureintro; exact funext fun i => h i (Finset.mem_univ i)

/-! ## The launch -/

def u₀ : UU := (initOf (K (F := F)).hsCells (K (F := F)).hsToks,
  (initOf (Pipeline.cells (Pipeline.pin pcfgs (adm (F := F))) phinj) (Pipeline.launchToks (Pipeline.pin pcfgs (adm (F := F))) phinj), 1))

theorem hu₀ : (ownU (u₀ (F := F)) : sProp (MM F))
    ⊢ |={Set.univ}=> iprop(BI.own (EH (initOf (K (F := F)).hsCells (K (F := F)).hsToks)) ∗ (bigSep Finset.univ G)
        ∗ bigSep Finset.univ fun thr : Thread nD τ => bigSep Finset.univ fun q : Fin 2 => (P A).x q thr) := by
  have he : (bigSep Finset.univ fun thr : Thread nD τ => bigSep Finset.univ fun q : Fin 2 => (P (F := F) A).x q thr) = (iprop(emp) : sProp (MM F)) := by
    rw [show (fun thr : Thread nD τ => bigSep Finset.univ fun q : Fin 2 => (P (F := F) A).x q thr) = fun _ => iprop(emp) from
      funext fun _ => bigSep_emp_const _]
    exact bigSep_emp_const _
  have hG : (iprop((bigSep Finset.univ fun c : Dev nD => bigSep Finset.univ fun p => Pipeline.cellsGhost (Pipeline.pin pcfgs (adm (F := F))) EP p c)
      ∗ (bigSep Finset.univ fun c : Dev nD => bigSep Finset.univ fun p => Pipeline.toksInit (Pipeline.pin pcfgs (adm (F := F))) EP p c)) : sProp (MM F)) ⊢ bigSep Finset.univ G := by
    unfold G
    rw [bigSep_sep']
    exact BIClass.sep_mono (bigSep_mono fun c _ => bigSep_elim (Finset.mem_univ (0 : Fin 1))) (bigSep_mono fun c _ => bigSep_elim (Finset.mem_univ (0 : Fin 1)))
  have hs (a : UP) (b : Counters) : (BI.own ((embR : Emb (UP × Counters) (MM F)) (a, b)) : sProp (MM F))
      ⊢ iprop(BI.own (EP a) ∗ BI.own (((Emb.inr : Emb Counters (UP × Counters)).trans embR) b)) := own_pair_emb embR a b
  unfold u₀
  rw [he]
  iintro Hu
  ihave H := (ownU_pair _ _) $$ Hu
  icases H with ⟨HH, HR⟩
  ihave HR := (hs _ _) $$ HR
  icases HR with ⟨HR, -⟩
  imod (Pipeline.fund_ghost (Pipeline.pin pcfgs (adm (F := F))) EP phinj) $$ HR with HG
  imodintro
  isplitl [HH]; · iexact HH
  isplitl [HG]
  · iapply hG $$ HG
  iempintro

/-- Every run ends with every host array of every device as computed and every counter at zero. -/
def Done : PUnit × MemSt nD τ sig (Elt F) → Prop := fun r =>
  (∀ (d : Dev nD) (b : Ref sig .tc), b.isScoped = false → r.2.mem (lc d b) = atEnd m d b) ∧ r.2.sem = fun _ => 0

theorem run_main [∀ e, Nonempty (Elt F e)] (hA : ∀ d, InRange (arrays m d).ix) :
    θ_run (defs (F := F)) (threads (F := F)) ⟨m, fun _ => 0, ρ⟩ (Done m) :=
  SparseCore.Cfg.θ_run_sc_quiescent (K := K (F := F)) (D := D (F := F)) (𝒱 := 𝒱) (EH := EH) (P := P (arrays m)) (A := ∅) facts v₀
    (fun q hq => match q with | 0 => nomatch hq | 1 => nomatch hq)
    (fun q _ => tileObl (arrays m) facts hA q)
    (fun q _ => SparseCore.Cfg.VecSplit.of_plain (vecSplit (arrays m) q))
    m ρ main G (FIN m) (u₀ (F := F)) (sep_elim_left.trans (hu₀ (arrays m))) (hmain m ρ) (fq m) (hfin m) (Done m) (fun _ h hz => ⟨h, hz⟩)

end Cert.Proof
-- ==== Proof.Look.lean ====
/-
  What the relayout and the gather compute together: field `c`'s row of its table at the index the example gives, the 26
  rows of an example side by side.
-/
module

public import proofs.«01_k».proof.Proof.RelaySets
public import proofs.«01_k».proof.Proof.GatherMath
public import Idealize.ShloMosaic.Lib.Pipeline.Value

@[expose] public section

set_option maxRecDepth 65536

noncomputable section

namespace Cert.Proof

open Cert.KernelIdeal Cert.KernelIdeal.Gen
open Idealize.ShloMosaic

variable {F : FTy → Type} [FloatOps F]

/-- Example `j 0`, column `j 1`: field `c = j 1 / 16`, coordinate `j 1 % 16` of the row of table `c` that the example
    names. -/
def look (cat : S16384x26.Idx → BitVec 32) (emb : S26x100000x16.Idx → Elt F .f32) : S16384x416.Idx → Elt F .f32 := fun j =>
  have hj : (j 1).val < 416 := (j 1).isLt
  emb (ix3 ⟨(j 1).val / 16, by omega⟩ ⟨(cat (ix2 (j 0) ⟨(j 1).val / 16, by omega⟩)).toNat % 100000, Nat.mod_lt _ (by decide)⟩ ⟨(j 1).val % 16, by omega⟩)

/-- The transposed tables and the tails relaid are the tables row after row. -/
theorem relG_apply (emb : S26x100000x16.Idx → Elt F .f32) (q : S41600000.Idx) (c : Fin 26) (v : Fin 100000) (e : Fin 16)
    (hq : (q 0).val = c.val * 1600000 + v.val * 16 + e.val) :
    relG (transpose S26x16x100000 [0, 2, 1] emb transposes_S26x100000x16_S26x16x100000_0_2_1)
      (shapeCast S13312 (extractStridedSlice S26x32x16 ![0, 99968, 0] emb slices_S26x100000x16_S26x32x16_0_99968_0) shapeCasts_S26x32x16_S13312) q
      = emb (ix3 c v e) := by
  have hc := c.isLt; have hv := v.isLt; have he := e.isLt
  unfold relG
  by_cases h : (q 0).val % 1600000 < 1599488
  · rw [dif_pos h]
    refine transpose_apply _ _ _ _ _ fun b => ?_
    match b with
    | ⟨0, _⟩ => show c.val = (q 0).val / 1600000; omega
    | ⟨1, _⟩ => show e.val = (q 0).val % 1600000 % 16; omega
    | ⟨2, _⟩ => show v.val = (q 0).val % 1600000 / 16; omega
  · rw [dif_neg h]
    have hv' : 99968 ≤ v.val := by omega
    rw [shapeCast_apply _ _ _ (ix3 c ⟨v.val - 99968, by omega⟩ e : S26x32x16.Idx) (by
      rw [Shape.rowMajor_val_three, Shape.rowMajor_val_one]
      show (c.val * 32 + (v.val - 99968)) * 16 + e.val = (q 0).val / 1600000 * 512 + ((q 0).val % 1600000 - 1599488)
      omega)]
    refine extractStridedSlice_apply _ _ _ _ _ fun a => ?_
    match a with
    | ⟨0, _⟩ => show c.val = 0 + c.val; omega
    | ⟨1, _⟩ => show v.val = 99968 + (v.val - 99968); omega
    | ⟨2, _⟩ => show e.val = 0 + e.val; omega

/-- The two calls and the reshapes between them, of indices within the tables. -/
theorem calls_look (cat : S16384x26.Idx → BitVec 32) (hcat : ∀ i, (cat i).toNat < 100000) (emb : S26x100000x16.Idx → Elt F .f32) :
    shapeCast S16384x416
      (gath (shapeCast S2600000x16 (relG (transpose S26x16x100000 [0, 2, 1] emb transposes_S26x100000x16_S26x16x100000_0_2_1)
          (shapeCast S13312 (extractStridedSlice S26x32x16 ![0, 99968, 0] emb slices_S26x100000x16_S26x32x16_0_99968_0) shapeCasts_S26x32x16_S13312))
        shapeCasts_S41600000_S2600000x16) (shapeCast S425984 cat shapeCasts_S16384x26_S425984)) shapeCasts_S425984x16_S16384x416
      = look cat emb := by
  funext j
  have hj0 : (j 0).val < 16384 := (j 0).isLt
  have hj1 : (j 1).val < 416 := (j 1).isLt
  rw [shapeCast_apply _ _ _ (ix2 ⟨(j 0).val * 26 + (j 1).val / 16, by omega⟩ ⟨(j 1).val % 16, by omega⟩ : S425984x16.Idx) (by
    rw [Shape.rowMajor_val_two, Shape.rowMajor_val_two]
    show ((j 0).val * 26 + (j 1).val / 16) * 16 + (j 1).val % 16 = (j 0).val * 416 + (j 1).val
    omega)]
  have hi : shapeCast S425984 cat shapeCasts_S16384x26_S425984 (ix1 ⟨(j 0).val * 26 + (j 1).val / 16, by omega⟩) = cat (ix2 (j 0) ⟨(j 1).val / 16, by omega⟩) :=
    shapeCast_apply _ _ _ _ (by
      rw [Shape.rowMajor_val_two, Shape.rowMajor_val_one]; rfl)
  unfold gath look
  have h := hcat (ix2 (j 0) ⟨(j 1).val / 16, by omega⟩)
  have hm : ((cat (ix2 (j 0) ⟨(j 1).val / 16, by omega⟩)).toNat + ((j 0).val * 26 + (j 1).val / 16) % 26 * 100000) % 2600000
      = (cat (ix2 (j 0) ⟨(j 1).val / 16, by omega⟩)).toNat + (j 1).val / 16 * 100000 := by omega
  rw [shapeCast_apply _ _ _ (ix1 ⟨((cat (ix2 (j 0) ⟨(j 1).val / 16, by omega⟩)).toNat + (j 1).val / 16 * 100000) * 16 + (j 1).val % 16, by omega⟩ : S41600000.Idx) (by
    rw [Shape.rowMajor_val_two, Shape.rowMajor_val_one]
    show _ = (((shapeCast S425984 cat shapeCasts_S16384x26_S425984 (ix1 ⟨(j 0).val * 26 + (j 1).val / 16, _⟩)).toNat + ((j 0).val * 26 + (j 1).val / 16) % 26 * 100000) % 2600000) * 16 + (j 1).val % 16
    rw [hi, hm]; rfl)]
  exact relG_apply emb _ _ _ _ (by
    show ((cat _).toNat + (j 1).val / 16 * 100000) * 16 + (j 1).val % 16 = (j 1).val / 16 * 1600000 + (cat _).toNat % 100000 * 16 + (j 1).val % 16
    omega)

/-- The dimension numbers of the reference's indexing: a table and a row for each result row, the 16 coordinates kept. -/
abbrev lookDims (wf : GatherDims.WF ⟨3, ![26, 100000, 16]⟩ ⟨3, ![16384, 26, 2]⟩ ⟨3, ![16384, 26, 16]⟩ [2] [0, 1] [] [0, 1] [] 2 ![1, 1, 16]) :
    GatherDims ⟨3, ![26, 100000, 16]⟩ ⟨3, ![16384, 26, 2]⟩ ⟨3, ![16384, 26, 16]⟩ where
  offsetDims := [2]
  collapsedSliceDims := [0, 1]
  operandBatchingDims := []
  startIndicesBatchingDims := []
  startIndexMap := [0, 1]
  indexVectorDim := 2
  sliceSizes := ![1, 1, 16]
  wf := wf

/-- The reference's indexing read at a table number and a row within range: nothing is clamped. -/
theorem gather_look (wf) (emb : (⟨3, ![26, 100000, 16]⟩ : Shape).Idx → Elt F .f32) (ix : IVec ⟨3, ![16384, 26, 2]⟩ 32)
    (b : Fin 16384) (c : Fin 26) (e : Fin 16) (v : Fin 100000)
    (h0 : (ix (ix3 b c 0)).toInt.toNat = c.val) (h1 : (ix (ix3 b c 1)).toInt.toNat = v.val) :
    Host.gather (lookDims wf) emb ix (ix3 b c e) = emb (ix3 c v e) := by
  unfold Host.gather
  congr 1
  funext a
  refine Fin.ext ?_
  show (lookDims wf).start (ix3 b c e) ix a + (lookDims wf).batchCoord (ix3 b c e) a + (lookDims wf).offCoord (ix3 b c e) a = _
  rw [GatherDims.batchCoord_eq_zero _ _ _ List.not_mem_nil]
  have hs0 (hk) : (lookDims wf).siIdx (ix3 b c e) ⟨0, hk⟩ = ix3 b c 0 := by
    funext d; refine Fin.ext ?_
    match d with
    | ⟨0, _⟩ => rfl
    | ⟨1, _⟩ => rfl
    | ⟨2, _⟩ => rfl
  have hs1 (hk) : (lookDims wf).siIdx (ix3 b c e) ⟨1, hk⟩ = ix3 b c 1 := by
    funext d; refine Fin.ext ?_
    match d with
    | ⟨0, _⟩ => rfl
    | ⟨1, _⟩ => rfl
    | ⟨2, _⟩ => rfl
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (by decide : (0 : Fin 3) ∈ ([0, 1] : List (Fin 3))))]
    unfold GatherDims.start
    rw [dif_pos (show (0 : Fin 3) ∈ (lookDims wf).startIndexMap from (by decide : (0 : Fin 3) ∈ ([0, 1] : List (Fin 3))))]
    have h := c.isLt
    refine (congrArg (fun z => min (ix z).toInt.toNat 25 + 0 + 0) (hs0 (show 0 < 2 by decide))).trans ?_
    show min (ix (ix3 b c 0)).toInt.toNat 25 + 0 + 0 = c.val
    rw [h0]; omega
  · rw [GatherDims.offCoord_eq_zero _ _ _ (fun h => ((GatherDims.mem_sKept _ _).mp h).1 (by decide : (1 : Fin 3) ∈ ([0, 1] : List (Fin 3))))]
    unfold GatherDims.start
    rw [dif_pos (show (1 : Fin 3) ∈ (lookDims wf).startIndexMap from (by decide : (1 : Fin 3) ∈ ([0, 1] : List (Fin 3))))]
    have h := v.isLt
    refine (congrArg (fun z => min (ix z).toInt.toNat 99999 + 0 + 0) (hs1 (show 1 < 2 by decide))).trans ?_
    show min (ix (ix3 b c 1)).toInt.toNat 99999 + 0 + 0 = v.val
    rw [h1]; omega
  · unfold GatherDims.start GatherDims.offCoord
    rw [dif_neg (show (2 : Fin 3) ∉ (lookDims wf).startIndexMap from (by decide : (2 : Fin 3) ∉ ([0, 1] : List (Fin 3)))), dif_pos ((GatherDims.mem_sKept _ _).mpr ⟨(by decide : (2 : Fin 3) ∉ ([0, 1] : List (Fin 3))), List.not_mem_nil⟩)]
    show 0 + 0 + e.val = e.val
    omega

end Cert.Proof
-- ==== Proof.MlpValue.lean ====
/-
  The dense layers' call as plain sums over the rows, at the extended reals.
-/
module

public import proofs.«01_k».proof.Proof.MlpMath
public import proofs.«01_k».proof.Proof.Stats
public import Idealize.ShloMosaic.Lib.Pointwise

@[expose] public section

set_option maxRecDepth 65536

noncomputable section

namespace Cert.Proof

open Cert.KernelIdeal Cert.KernelIdeal.Gen
open Idealize.ShloMosaic
open scoped BigOperators

/-- A layer's product: each row against each column, and the column's offset. -/
def lin {n p : Nat} (a : Fin 16384 → Fin n → EReal) (w : Fin n → Fin p → EReal) (b : Fin p → EReal) : Fin 16384 → Fin p → EReal :=
  fun i c => (∑ k, a i k * w k c) + b c

/-- A layer's entries normalized over the rows, negative ones put to zero. -/
def act {n : Nat} (h : Fin 16384 → Fin n → EReal) (g e : Fin n → EReal) : Fin 16384 → Fin n → EReal :=
  fun i c => max (kNorm (fun i => h i c) (g c) (e c) i) 0

/-- The row a block's row is. -/
abbrev rowAt (k : Nat) (r : Fin 2048) : Fin 16384 := ⟨(2048 * k + r.val) % 16384, Nat.mod_lt _ (by decide)⟩

namespace MlpIn

variable (I : MlpIn Ideal)

/-- The first layer: its table columns and its number columns, each with their rows of the weights. -/
def H1 : Fin 16384 → Fin 128 → EReal := fun i c =>
  ((∑ k : Fin 416, I.x (ix2 i k) * I.w1 (ix2 k c)) + ∑ k : Fin 13, I.nm (ix2 i k) * I.wn (ix2 k c)) + I.b1 (ix2 0 c)

def A1 : Fin 16384 → Fin 128 → EReal := act I.H1 (fun c => I.g1 (ix2 0 c)) (fun c => I.e1 (ix2 0 c))

def H2 : Fin 16384 → Fin 64 → EReal := lin I.A1 (fun k c => I.w2 (ix2 k c)) (fun c => I.b2 (ix2 0 c))

def A2 : Fin 16384 → Fin 64 → EReal := act I.H2 (fun c => I.g2 (ix2 0 c)) (fun c => I.e2 (ix2 0 c))

def O : Fin 16384 → EReal := fun i => (∑ k, I.A2 i k * I.w3 (ix2 0 k)) + I.b3 (ix2 0 0)

theorem pay12_apply (k : Nat) (r : Fin 2048) (c : Fin 128) :
    k2_pay12 (band k I.x) I.w1 (band k I.nm) I.wn I.b1 (ix2 r c) = I.H1 (rowAt k r) c := by
  unfold H1
  pointwise [k2_pay12, band]

theorem h1_apply (k : Nat) (r : Fin 2048) (c : Fin 128) : I.h1 k (ix2 r c) = I.H1 (rowAt k r) c := by
  rw [← pay12_apply]
  unfold h1
  pointwise [k2_pay13]

theorem pay14_apply (k : Nat) (v : Vec Ideal S1x128 .f32) (c : Fin 128) :
    k2_pay14 (band k I.x) I.w1 (band k I.nm) I.wn I.b1 v (ix2 0 c) = v (ix2 0 c) + ∑ r : Fin 2048, I.H1 (rowAt k r) c := by
  simp only [← pay12_apply]
  pointwise [k2_pay14]

theorem pay15_apply (k : Nat) (v : Vec Ideal S1x128 .f32) (c : Fin 128) :
    k2_pay1 (k2_pay15 (band k I.x) I.w1 (band k I.nm) I.wn I.b1 v) (ix2 0 c)
      = v (ix2 0 c) + ∑ r : Fin 2048, I.H1 (rowAt k r) c * I.H1 (rowAt k r) c := by
  simp only [← pay12_apply]
  pointwise [k2_pay1, k2_pay15]

theorem zrow_apply {n : Nat} (c : Fin n) : zrow (F := Ideal) n (ix2 0 c) = (0 : EReal) :=
  Ideal.ofBits_zero_f32

theorem s1_apply (c : Fin 128) : I.s1 8 (ix2 0 c) = ∑ i, I.H1 i c :=
  sum_bands (S := fun k => I.s1 k (ix2 0 c)) (fun i => I.H1 i c) (zrow_apply c) fun k => pay14_apply I k _ c

theorem q1_apply (c : Fin 128) : I.q1 8 (ix2 0 c) = ∑ i, I.H1 i c * I.H1 i c :=
  sum_bands (S := fun k => I.q1 k (ix2 0 c)) (fun i => I.H1 i c * I.H1 i c) (zrow_apply c) fun k => pay15_apply I k _ c

theorem m1_apply (c : Fin 128) : I.m1 (ix2 0 c) = kMean fun i => I.H1 i c := by
  unfold kMean
  rw [← s1_apply]
  unfold m1
  pointwise [k2_pay3, k2_pay2]

theorem r1_apply (c : Fin 128) : I.r1 (ix2 0 c) = kRoot fun i => I.H1 i c := by
  unfold kRoot kMean
  rw [← s1_apply, ← q1_apply]
  unfold r1
  pointwise [k2_pay4, k2_pay2]

theorem pay17_apply (k : Nat) (r : Fin 2048) (c : Fin 64) :
    k2_pay17 (I.h1 k) I.m1 I.r1 I.g1 I.e1 I.w2 I.b2 (ix2 r c) = I.H2 (rowAt k r) c := by
  unfold H2 lin A1 act kNorm
  simp only [← m1_apply, ← r1_apply, ← h1_apply]
  pointwise [k2_pay17]

theorem h2_apply (k : Nat) (r : Fin 2048) (c : Fin 64) : I.h2 k (ix2 r c) = I.H2 (rowAt k r) c := by
  rw [← pay17_apply]
  unfold h2
  pointwise [k2_pay18]

theorem pay19_apply (k : Nat) (v : Vec Ideal S1x64 .f32) (c : Fin 64) :
    k2_pay5 (k2_pay19 (I.h1 k) I.m1 I.r1 I.g1 I.e1 I.w2 I.b2 v) (ix2 0 c) = v (ix2 0 c) + ∑ r : Fin 2048, I.H2 (rowAt k r) c := by
  simp only [← pay17_apply]
  pointwise [k2_pay5, k2_pay19]

theorem pay6_apply (k : Nat) (v : Vec Ideal S1x64 .f32) (c : Fin 64) :
    k2_pay6 (k2_pay17 (I.h1 k) I.m1 I.r1 I.g1 I.e1 I.w2 I.b2) v (ix2 0 c)
      = v (ix2 0 c) + ∑ r : Fin 2048, I.H2 (rowAt k r) c * I.H2 (rowAt k r) c := by
  simp only [← pay17_apply]
  pointwise [k2_pay6]

theorem s2_apply (c : Fin 64) : I.s2 8 (ix2 0 c) = ∑ i, I.H2 i c :=
  sum_bands (S := fun k => I.s2 k (ix2 0 c)) (fun i => I.H2 i c) (zrow_apply c) fun k => pay19_apply I k _ c

theorem q2_apply (c : Fin 64) : I.q2 8 (ix2 0 c) = ∑ i, I.H2 i c * I.H2 i c :=
  sum_bands (S := fun k => I.q2 k (ix2 0 c)) (fun i => I.H2 i c * I.H2 i c) (zrow_apply c) fun k => pay6_apply I k _ c

theorem m2_apply (c : Fin 64) : I.m2 (ix2 0 c) = kMean fun i => I.H2 i c := by
  unfold kMean
  rw [← s2_apply]
  unfold m2
  pointwise [k2_pay8, k2_pay7]

theorem r2_apply (c : Fin 64) : I.r2 (ix2 0 c) = kRoot fun i => I.H2 i c := by
  unfold kRoot kMean
  rw [← s2_apply, ← q2_apply]
  unfold r2
  pointwise [k2_pay9, k2_pay7]

theorem out_apply (k : Nat) (r : Fin 2048) (c : Fin 1) : I.out k (ix2 r c) = I.O (rowAt k r) := by
  unfold O A2 act kNorm
  simp only [← m2_apply, ← r2_apply, ← h2_apply]
  unfold out
  pointwise [k2_pay10]

end MlpIn

end Cert.Proof

end
-- ==== Proof.Ends.lean ====
/-
  What the program leaves: its arguments unchanged, its result the dense layers' output; and what the dense layers' call
  reads, in terms of the arguments.
-/
module

public import proofs.«01_k».proof.Proof.Main
public import proofs.«01_k».proof.Proof.Look
public import proofs.«01_k».proof.Proof.MlpValue
public import Idealize.ShloMosaic.Lib.StableHlo.Run

@[expose] public section

set_option maxRecDepth 65536

noncomputable section

namespace Cert.Proof

open Cert.KernelIdeal Cert.KernelIdeal.Gen
open Idealize.ShloMosaic Idealize.ShloMosaic.TcCoe Idealize.ShloMosaic.StableHlo

variable {F : FTy → Type} [FloatOps F]

variable (m : (ℓ : Loc nD τ sig) → Buf (Elt F) ℓ) (d : Dev nD)

theorem tc_ne {a b : Ref sig .tc} (h : a ≠ b) : (a : DevRef τ sig) ≠ (b : DevRef τ sig) :=
  fun e => h (Proc.devRef_injective (τ := τ) (sig := sig) Proc.tc e)

/-- What the arrays before the first call are not. -/
theorem before0_ne (b : Ref sig .tc) (h0 : b ≠ main_v0) (h1 : b ≠ main_v1) (h2 : b ≠ main_v2) (h3 : b ≠ main_v3) : before0 m d b = m (lc d b) := by
  unfold before0
  rw [reshape_result_ne (h := h3), unary_result_ne (h := h2), unary_result_ne (h := h1), reshape_result_ne (h := h0)]

theorem before0_v0 : before0 m d main_v0 = shapeCast S425984 (m (lc d main_arg0)) shapeCasts_S16384x26_S425984 := by
  unfold before0; rw [reshape_result_ne (h := by decide), unary_result_ne (h := by decide), unary_result_ne (h := by decide), reshape_result]; rfl

theorem before0_v1 : before0 m d main_v1 = transpose S26x16x100000 [0, 2, 1] (m (lc d main_arg2)) transposes_S26x100000x16_S26x16x100000_0_2_1 := by
  unfold before0; rw [reshape_result_ne (h := by decide), unary_result_ne (h := by decide), unary_result, reshape_result_ne (h := by decide)]

theorem before0_v3 : before0 m d main_v3
    = shapeCast S13312 (extractStridedSlice S26x32x16 ![0, 99968, 0] (m (lc d main_arg2)) slices_S26x100000x16_S26x32x16_0_99968_0) shapeCasts_S26x32x16_S13312 := by
  unfold before0; rw [reshape_result, unary_result, unary_result_ne (h := by decide), reshape_result_ne (h := by decide)]; rfl

theorem before1_ne (b : Ref sig .tc) (h : b ≠ main_v5) (h' : b ≠ main_v4) : before1 m d b = before0 m d b :=
  (reshape_result_ne (h := h) ..).trans (Function.update_of_ne (tc_ne h') _ _)

theorem before1_v5 : before1 m d main_v5 = shapeCast S2600000x16 (flatRows m d) shapeCasts_S41600000_S2600000x16 := by
  refine (reshape_result' _ _ _ _ _).trans ?_
  rw [Function.update_self]; rfl

/-- The gather call leaves the other arrays. -/
theorem after_ne (b : Ref sig .tc) (h : b ≠ main_v6) : (Function.update (before1 m d) (main_v6 : DevRef τ sig) (gathered m d) : Valuation τ sig (Elt F)) b = before1 m d b :=
  Function.update_of_ne (tc_ne h) _ _

/-- An argument is as it was launched at every point: no operation before the dense layers' call writes it. -/
theorem before2_ne (b : Ref sig .tc) (h : ∀ v ∈ [main_v0, main_v1, main_v2, main_v3, main_v4, main_v5, main_v6, main_v7, main_v8, main_v9, main_v10, main_v11, main_v12, main_v13, main_v14, main_v15, main_v16, main_v17, main_v18], b ≠ v) :
    before2 m d b = m (lc d b) := by
  simp only [List.forall_mem_cons] at h
  obtain ⟨h0, h1, h2, h3, h4, h5, h6, h7, h8, h9, h10, h11, h12, h13, h14, h15, h16, h17, h18, -⟩ := h
  unfold before2 w18 w17 w16 w15 w14 w13 w12 w11 w10 w9 w8 w7
  rw [reshape_result_ne (h := h18), reshape_result_ne (h := h17), reshape_result_ne (h := h16), reshape_result_ne (h := h15), unary_result_ne (h := h14), reshape_result_ne (h := h13), reshape_result_ne (h := h12), reshape_result_ne (h := h11), unary_result_ne (h := h10), unary_result_ne (h := h9), unary_result_ne (h := h8), reshape_result_ne (h := h7), after_ne m d b h6, before1_ne m d b h5 h4, before0_ne m d b h0 h1 h2 h3]

theorem atEnd_arg (b : Ref sig .tc) (h : ∀ v ∈ [main_v0, main_v1, main_v2, main_v3, main_v4, main_v5, main_v6, main_v7, main_v8, main_v9, main_v10, main_v11, main_v12, main_v13, main_v14, main_v15, main_v16, main_v17, main_v18, main_v19], b ≠ v) :
    atEnd m d b = m (lc d b) :=
  (Function.update_of_ne (tc_ne (h _ (by simp))) _ _).trans (before2_ne m d b fun v hv => h v (by
    simp only [List.mem_cons, List.not_mem_nil, or_false] at hv ⊢
    tauto))

/-- Every argument ends as it was launched. -/
theorem args_kept (mem : (ℓ : Loc nD τ sig) → Buf (Elt F) ℓ) (hm : ∀ b : Ref sig .tc, b.isScoped = false → mem (lc d b) = atEnd m d b) :
    mem (lc d main_arg0) = m (lc d main_arg0) ∧ mem (lc d main_arg1) = m (lc d main_arg1) ∧ mem (lc d main_arg2) = m (lc d main_arg2) ∧ mem (lc d main_arg3) = m (lc d main_arg3) ∧ mem (lc d main_arg4) = m (lc d main_arg4) ∧ mem (lc d main_arg5) = m (lc d main_arg5) ∧ mem (lc d main_arg6) = m (lc d main_arg6) ∧ mem (lc d main_arg7) = m (lc d main_arg7) ∧ mem (lc d main_arg8) = m (lc d main_arg8) ∧ mem (lc d main_arg9) = m (lc d main_arg9) ∧ mem (lc d main_arg10) = m (lc d main_arg10) ∧ mem (lc d main_arg11) = m (lc d main_arg11) ∧ mem (lc d main_arg12) = m (lc d main_arg12) :=
  have h (b : Ref sig .tc) (hb : b.isScoped = false) (hn : ∀ v ∈ [main_v0, main_v1, main_v2, main_v3, main_v4, main_v5, main_v6, main_v7, main_v8, main_v9, main_v10, main_v11, main_v12, main_v13, main_v14, main_v15, main_v16, main_v17, main_v18, main_v19], b ≠ v) :
      mem (lc d b) = m (lc d b) := (hm b hb).trans (atEnd_arg m d b hn)
  ⟨h main_arg0 rfl (by decide), h main_arg1 rfl (by decide), h main_arg2 rfl (by decide), h main_arg3 rfl (by decide), h main_arg4 rfl (by decide), h main_arg5 rfl (by decide), h main_arg6 rfl (by decide), h main_arg7 rfl (by decide), h main_arg8 rfl (by decide), h main_arg9 rfl (by decide), h main_arg10 rfl (by decide), h main_arg11 rfl (by decide), h main_arg12 rfl (by decide)⟩

/-- The result array ends with the output. -/
theorem atEnd_v19 : atEnd m d main_v19 = result m d := Function.update_self ..

/-- The indices the gather call reads: the argument's, flat. -/
theorem arrays_ix : (arrays m d).ix = shapeCast S425984 (m (lc d main_arg0)) shapeCasts_S16384x26_S425984 :=
  (before1_ne m d _ (by decide) (by decide)).trans (before0_v0 m d)

theorem inRange_ix (h : ∀ i, (m (lc d main_arg0) i : BitVec 32).toNat < 100000) : InRange (arrays m d).ix := by
  rw [arrays_ix]
  exact fun p => h _

/-! ## What the dense layers' call reads -/

/-! An operation leaves every array but its result. -/

theorem w8_ne (b : Ref sig .tc) (h : b ≠ main_v8) : w8 m d b = w7 m d b := unary_result_ne (h := h) ..
theorem w9_ne (b : Ref sig .tc) (h : b ≠ main_v9) : w9 m d b = w8 m d b := unary_result_ne (h := h) ..
theorem w10_ne (b : Ref sig .tc) (h : b ≠ main_v10) : w10 m d b = w9 m d b := unary_result_ne (h := h) ..
theorem w11_ne (b : Ref sig .tc) (h : b ≠ main_v11) : w11 m d b = w10 m d b := reshape_result_ne (h := h) ..
theorem w12_ne (b : Ref sig .tc) (h : b ≠ main_v12) : w12 m d b = w11 m d b := reshape_result_ne (h := h) ..
theorem w13_ne (b : Ref sig .tc) (h : b ≠ main_v13) : w13 m d b = w12 m d b := reshape_result_ne (h := h) ..
theorem w14_ne (b : Ref sig .tc) (h : b ≠ main_v14) : w14 m d b = w13 m d b := unary_result_ne (h := h) ..
theorem w15_ne (b : Ref sig .tc) (h : b ≠ main_v15) : w15 m d b = w14 m d b := reshape_result_ne (h := h) ..
theorem w16_ne (b : Ref sig .tc) (h : b ≠ main_v16) : w16 m d b = w15 m d b := reshape_result_ne (h := h) ..
theorem w17_ne (b : Ref sig .tc) (h : b ≠ main_v17) : w17 m d b = w16 m d b := reshape_result_ne (h := h) ..
theorem w18_ne (b : Ref sig .tc) (h : b ≠ main_v18) : w18 m d b = w17 m d b := reshape_result_ne (h := h) ..

/-- An argument's array after the gathered rows are laid out. -/
theorem w7_arg (b : Ref sig .tc) (h : ∀ v ∈ [main_v0, main_v1, main_v2, main_v3, main_v4, main_v5, main_v6, main_v7], b ≠ v) : w7 m d b = m (lc d b) := by
  simp only [List.forall_mem_cons] at h
  obtain ⟨h0, h1, h2, h3, h4, h5, h6, h7, -⟩ := h
  refine (reshape_result_ne (h := h7) ..).trans ?_
  rw [after_ne m d b h6, before1_ne m d b h5 h4, before0_ne m d b h0 h1 h2 h3]

/-- The transposed weights of the first layer. -/
theorem w8_v8 : w8 m d main_v8 = transpose S429x128 [1, 0] (m (lc d main_arg3)) transposes_S128x429_S429x128_1_0 := by
  refine (unary_result ..).trans ?_
  rw [w7_arg m d _ (by decide)]

theorem mlp_x (h : ∀ i, (m (lc d main_arg0) i : BitVec 32).toNat < 100000) : (mlpIn (before2 m d)).x = look (m (lc d main_arg0)) (m (lc d main_arg2)) := by
  show w18 m d main_v7 = _
  rw [w18_ne m d _ (by decide), w17_ne m d _ (by decide), w16_ne m d _ (by decide), w15_ne m d _ (by decide), w14_ne m d _ (by decide), w13_ne m d _ (by decide), w12_ne m d _ (by decide), w11_ne m d _ (by decide), w10_ne m d _ (by decide), w9_ne m d _ (by decide), w8_ne m d _ (by decide)]
  refine (reshape_result' _ _ _ _ _).trans ?_
  rw [Function.update_self]
  show shapeCast S16384x416 (gathered m d) shapeCasts_S425984x16_S16384x416 = _
  unfold gathered
  rw [before1_v5, show before1 m d main_v0 = _ from arrays_ix m d]
  unfold flatRows
  rw [before0_v1, before0_v3]
  exact calls_look _ h _

theorem mlp_nm : (mlpIn (before2 m d)).nm = m (lc d main_arg1) := before2_ne m d main_arg1 (by decide)

theorem mlp_w3 : (mlpIn (before2 m d)).w3 = m (lc d main_arg11) := before2_ne m d main_arg11 (by decide)

theorem mlp_w1 : (mlpIn (before2 m d)).w1 = extractStridedSlice S416x128 ![0, 0] (transpose S429x128 [1, 0] (m (lc d main_arg3)) transposes_S128x429_S429x128_1_0) slices_S429x128_S416x128_0_0 := by
  show w18 m d main_v9 = _
  rw [w18_ne m d _ (by decide), w17_ne m d _ (by decide), w16_ne m d _ (by decide), w15_ne m d _ (by decide), w14_ne m d _ (by decide), w13_ne m d _ (by decide), w12_ne m d _ (by decide), w11_ne m d _ (by decide), w10_ne m d _ (by decide)]
  refine (unary_result ..).trans ?_
  rw [w8_v8]

theorem mlp_wn : (mlpIn (before2 m d)).wn = extractStridedSlice S13x128 ![416, 0] (transpose S429x128 [1, 0] (m (lc d main_arg3)) transposes_S128x429_S429x128_1_0) slices_S429x128_S13x128_416_0 := by
  show w18 m d main_v10 = _
  rw [w18_ne m d _ (by decide), w17_ne m d _ (by decide), w16_ne m d _ (by decide), w15_ne m d _ (by decide), w14_ne m d _ (by decide), w13_ne m d _ (by decide), w12_ne m d _ (by decide), w11_ne m d _ (by decide)]
  refine (unary_result ..).trans ?_
  rw [w9_ne m d _ (by decide), w8_v8]

theorem mlp_w2 : (mlpIn (before2 m d)).w2 = transpose S128x64 [1, 0] (m (lc d main_arg7)) transposes_S64x128_S128x64_1_0 := by
  show w18 m d main_v14 = _
  rw [w18_ne m d _ (by decide), w17_ne m d _ (by decide), w16_ne m d _ (by decide), w15_ne m d _ (by decide)]
  refine (unary_result ..).trans ?_
  rw [w13_ne m d _ (by decide), w12_ne m d _ (by decide), w11_ne m d _ (by decide), w10_ne m d _ (by decide), w9_ne m d _ (by decide), w8_ne m d _ (by decide), w7_arg m d _ (by decide)]

theorem mlp_b1 : (mlpIn (before2 m d)).b1 = shapeCast S1x128 (m (lc d main_arg4)) shapeCasts_S128_S1x128 := by
  show w18 m d main_v11 = _
  rw [w18_ne m d _ (by decide), w17_ne m d _ (by decide), w16_ne m d _ (by decide), w15_ne m d _ (by decide), w14_ne m d _ (by decide), w13_ne m d _ (by decide), w12_ne m d _ (by decide)]
  refine (reshape_result' _ _ _ _ _).trans ?_
  rw [w10_ne m d _ (by decide), w9_ne m d _ (by decide), w8_ne m d _ (by decide), w7_arg m d _ (by decide)]
  rfl

theorem mlp_g1 : (mlpIn (before2 m d)).g1 = shapeCast S1x128 (m (lc d main_arg5)) shapeCasts_S128_S1x128 := by
  show w18 m d main_v12 = _
  rw [w18_ne m d _ (by decide), w17_ne m d _ (by decide), w16_ne m d _ (by decide), w15_ne m d _ (by decide), w14_ne m d _ (by decide), w13_ne m d _ (by decide)]
  refine (reshape_result' _ _ _ _ _).trans ?_
  rw [w11_ne m d _ (by decide), w10_ne m d _ (by decide), w9_ne m d _ (by decide), w8_ne m d _ (by decide), w7_arg m d _ (by decide)]
  rfl

theorem mlp_e1 : (mlpIn (before2 m d)).e1 = shapeCast S1x128 (m (lc d main_arg6)) shapeCasts_S128_S1x128 := by
  show w18 m d main_v13 = _
  rw [w18_ne m d _ (by decide), w17_ne m d _ (by decide), w16_ne m d _ (by decide), w15_ne m d _ (by decide), w14_ne m d _ (by decide)]
  refine (reshape_result' _ _ _ _ _).trans ?_
  rw [w12_ne m d _ (by decide), w11_ne m d _ (by decide), w10_ne m d _ (by decide), w9_ne m d _ (by decide), w8_ne m d _ (by decide), w7_arg m d _ (by decide)]
  rfl

theorem mlp_b2 : (mlpIn (before2 m d)).b2 = shapeCast S1x64 (m (lc d main_arg8)) shapeCasts_S64_S1x64 := by
  show w18 m d main_v15 = _
  rw [w18_ne m d _ (by decide), w17_ne m d _ (by decide), w16_ne m d _ (by decide)]
  refine (reshape_result' _ _ _ _ _).trans ?_
  rw [w14_ne m d _ (by decide), w13_ne m d _ (by decide), w12_ne m d _ (by decide), w11_ne m d _ (by decide), w10_ne m d _ (by decide), w9_ne m d _ (by decide), w8_ne m d _ (by decide), w7_arg m d _ (by decide)]
  rfl

theorem mlp_g2 : (mlpIn (before2 m d)).g2 = shapeCast S1x64 (m (lc d main_arg9)) shapeCasts_S64_S1x64 := by
  show w18 m d main_v16 = _
  rw [w18_ne m d _ (by decide), w17_ne m d _ (by decide)]
  refine (reshape_result' _ _ _ _ _).trans ?_
  rw [w15_ne m d _ (by decide), w14_ne m d _ (by decide), w13_ne m d _ (by decide), w12_ne m d _ (by decide), w11_ne m d _ (by decide), w10_ne m d _ (by decide), w9_ne m d _ (by decide), w8_ne m d _ (by decide), w7_arg m d _ (by decide)]
  rfl

theorem mlp_e2 : (mlpIn (before2 m d)).e2 = shapeCast S1x64 (m (lc d main_arg10)) shapeCasts_S64_S1x64 := by
  show w18 m d main_v17 = _
  rw [w18_ne m d _ (by decide)]
  refine (reshape_result' _ _ _ _ _).trans ?_
  rw [w16_ne m d _ (by decide), w15_ne m d _ (by decide), w14_ne m d _ (by decide), w13_ne m d _ (by decide), w12_ne m d _ (by decide), w11_ne m d _ (by decide), w10_ne m d _ (by decide), w9_ne m d _ (by decide), w8_ne m d _ (by decide), w7_arg m d _ (by decide)]
  rfl

theorem mlp_b3 : (mlpIn (before2 m d)).b3 = shapeCast S1x1 (m (lc d main_arg12)) shapeCasts_S1_S1x1 := by
  show w18 m d main_v18 = _
  refine (reshape_result' _ _ _ _ _).trans ?_
  rw [w17_ne m d _ (by decide), w16_ne m d _ (by decide), w15_ne m d _ (by decide), w14_ne m d _ (by decide), w13_ne m d _ (by decide), w12_ne m d _ (by decide), w11_ne m d _ (by decide), w10_ne m d _ (by decide), w9_ne m d _ (by decide), w8_ne m d _ (by decide), w7_arg m d _ (by decide)]
  rfl

end Cert.Proof

end
-- ==== Proof.Refer.lean ====
/-
  The reference's arrays, entry by entry: its indexing is the table lookup, its layers are products and normalizations
  over the rows.
-/
module

public import proofs.«01_k».proof.Proof.Look
public import proofs.«01_k».proof.Proof.MlpValue
public import proofs.«01_k».proof.Proof.Gen.ReferenceIdeal.Run

@[expose] public section

set_option maxRecDepth 65536

noncomputable section

namespace Cert.Proof

open Cert.ReferenceIdeal Cert.ReferenceIdeal.Gen
open Idealize.ShloMosaic

variable {F : FTy → Type} [FloatOps F]

/-- The field numbers as the reference's indexing takes them: 0 to 25, a negative one counted from the end. -/
abbrev fieldIx : IVec S16384x26x1 32 :=
  broadcastInDim S16384x26x1 ![0, 1] bcast_S16384x26_S16384x26x1_0_1 (broadcastInDim S16384x26 ![0, 1] bcast_S1x26_S16384x26_0_1 (select (cmpi .slt (broadcastInDim S1x26 ![1] bcast_S26_S1x26_1 (iotaInDim S26 32 0)) (broadcastInDim S1x26 ![] bcast_S_S1x26 (constantI S_ 32 0#32))) (addi (broadcastInDim S1x26 ![1] bcast_S26_S1x26_1 (iotaInDim S26 32 0)) (broadcastInDim S1x26 ![] bcast_S_S1x26 (constantI S_ 32 26#32))) (broadcastInDim S1x26 ![1] bcast_S26_S1x26_1 (iotaInDim S26 32 0))))

/-- The row numbers as the reference's indexing takes them: a negative one counted from the end. -/
abbrev rowIx (cat : IVec S16384x26 32) : IVec S16384x26x1 32 :=
  broadcastInDim S16384x26x1 ![0, 1] bcast_S16384x26_S16384x26x1_0_1 (select (cmpi .slt cat (broadcastInDim S16384x26 ![] bcast_S_S16384x26 (constantI S_ 32 0#32))) (addi cat (broadcastInDim S16384x26 ![] bcast_S_S16384x26 (constantI S_ 32 100000#32))) cat)

/-- A field number and a row number for each result row. -/
abbrev pairIx (cat : IVec S16384x26 32) : IVec S16384x26x2 32 :=
  concatenate S16384x26x2 2 [⟨S16384x26x1, fieldIx⟩, ⟨S16384x26x1, rowIx cat⟩] concatenates_S16384x26x1_S16384x26x1_S16384x26x2_d2

/-- A word below 2^31 is not negative as a signed number. -/
theorem slt_zero (v : BitVec 32) (h : v.toNat < 2147483648) : IntOp.cmpi .slt v 0#32 = 0#1 := by
  have e : (BitVec.slt v 0#32) = false := by
    rw [BitVec.slt_eq_decide, decide_eq_false_iff_not, BitVec.toInt_eq_toNat_cond, BitVec.toInt_eq_toNat_cond]
    have : (0#32).toNat = 0 := rfl
    omega
  show BitVec.ofBool _ = _
  rw [e]; rfl

theorem toInt_toNat (v : BitVec 32) (h : v.toNat < 2147483648) : v.toInt.toNat = v.toNat := by
  rw [BitVec.toInt_eq_toNat_cond]; omega

theorem fieldIx_apply (b : Fin 16384) (c : Fin 26) : fieldIx (ix3 b c 0) = BitVec.ofNat 32 c.val := by
  have hc := c.isLt
  have hn : (BitVec.ofNat 32 c.val).toNat = c.val := by rw [BitVec.toNat_ofNat]; omega
  have e : (broadcastInDim S1x26 ![1] bcast_S26_S1x26_1 (iotaInDim S26 32 0) : IVec S1x26 32) (ix2 0 c) = BitVec.ofNat 32 c.val :=
    (broadcastInDim_apply _ _ _ _ (ix1 c : S26.Idx) (fun a => by match a with | ⟨0, _⟩ => rfl)).trans rfl
  refine (broadcastInDim_apply _ _ _ _ (ix2 b c : S16384x26.Idx) (fun a => by match a with | ⟨0, _⟩ => rfl | ⟨1, _⟩ => rfl)).trans ?_
  refine (broadcastInDim_apply _ _ _ _ (ix2 0 c : S1x26.Idx) (fun a => by match a with | ⟨0, _⟩ => rfl | ⟨1, _⟩ => rfl)).trans ?_
  show (if IntOp.cmpi .slt ((broadcastInDim S1x26 ![1] bcast_S26_S1x26_1 (iotaInDim S26 32 0) : IVec S1x26 32) (ix2 0 c)) 0#32 = 1#1 then _ else (broadcastInDim S1x26 ![1] bcast_S26_S1x26_1 (iotaInDim S26 32 0) : IVec S1x26 32) (ix2 0 c)) = _
  rw [e, slt_zero _ (by omega), if_neg (by decide)]

theorem rowIx_apply (cat : IVec S16384x26 32) (b : Fin 16384) (c : Fin 26) (h : (cat (ix2 b c)).toNat < 100000) : rowIx cat (ix3 b c 0) = cat (ix2 b c) := by
  refine (broadcastInDim_apply _ _ _ _ (ix2 b c : S16384x26.Idx) (fun a => by match a with | ⟨0, _⟩ => rfl | ⟨1, _⟩ => rfl)).trans ?_
  show (if IntOp.cmpi .slt (cat (ix2 b c)) 0#32 = 1#1 then _ else cat (ix2 b c)) = _
  rw [slt_zero _ (by omega), if_neg (by decide)]

/-- The first of a pair is the field. -/
theorem pairIx_zero (cat : IVec S16384x26 32) (b : Fin 16384) (c : Fin 26) : pairIx cat (ix3 b c 0) = BitVec.ofNat 32 c.val := by
  refine (concatenate_pair_apply_left (t := S16384x26x2) (s₁ := S16384x26x1) (s₂ := S16384x26x1) 2 fieldIx (rowIx cat) _ (ix3 b c 0) rfl (ix3 b c 0) (fun a => ?_)).trans (fieldIx_apply b c)
  match a with
  | ⟨0, _⟩ => rfl
  | ⟨1, _⟩ => rfl
  | ⟨2, _⟩ => rfl

/-- The second is the row the example names. -/
theorem pairIx_one (cat : IVec S16384x26 32) (b : Fin 16384) (c : Fin 26) (h : (cat (ix2 b c)).toNat < 100000) : pairIx cat (ix3 b c 1) = cat (ix2 b c) := by
  refine (concatenate_pair_apply_right (t := S16384x26x2) (s₁ := S16384x26x1) (s₂ := S16384x26x1) 2 fieldIx (rowIx cat) _ (ix3 b c 1) rfl rfl (ix3 b c 0) (fun a ha => ?_) ?_).trans (rowIx_apply cat b c h)
  · match a with
    | ⟨0, _⟩ => rfl
    | ⟨1, _⟩ => rfl
    | ⟨2, _⟩ => exact absurd rfl ha
  · rfl

/-- With every index in range, the reference's indexing, its rows side by side, is the lookup. -/
theorem refer_look (cat : IVec S16384x26 32) (hcat : ∀ i, (cat i).toNat < 100000) (emb : FVec F S26x100000x16 .f32) :
    shapeCast S16384x416 (Host.gather gather_S26x100000x16_S16384x26x2_S16384x26x16_2_01_n_n_01_2_1116 emb (pairIx cat)) shapeCasts_S16384x26x16_S16384x416
      = look cat emb := by
  funext j
  have hj : (j 1).val < 416 := (j 1).isLt
  rw [shapeCast_apply _ _ _ (ix3 (j 0) ⟨(j 1).val / 16, by omega⟩ ⟨(j 1).val % 16, by omega⟩ : S16384x26x16.Idx) (by
    rw [Shape.rowMajor_val_three, Shape.rowMajor_val_two]
    show ((j 0).val * 26 + (j 1).val / 16) * 16 + (j 1).val % 16 = (j 0).val * 416 + (j 1).val
    omega)]
  have h := hcat (ix2 (j 0) ⟨(j 1).val / 16, by omega⟩)
  refine gather_look _ emb (pairIx cat) (j 0) ⟨(j 1).val / 16, by omega⟩ ⟨(j 1).val % 16, by omega⟩ _ ?_ ?_
  · refine (congrArg (fun z : BitVec 32 => z.toInt.toNat) (pairIx_zero cat _ _)).trans ?_
    have hn : (BitVec.ofNat 32 ((j 1).val / 16)).toNat = (j 1).val / 16 := by rw [BitVec.toNat_ofNat]; omega
    exact (toInt_toNat (BitVec.ofNat 32 ((j 1).val / 16)) (by omega)).trans hn
  · refine (congrArg (fun z : BitVec 32 => z.toInt.toNat) (pairIx_one cat _ _ h)).trans ?_
    refine (toInt_toNat _ (by omega)).trans ?_
    show _ = _ % 100000
    omega

/-! ## The layers as the reference writes them -/

/-- The first layer: the looked-up rows and the numbers side by side, against the weights. -/
def first (x : FVec F S16384x416 .f32) (nm : FVec F S16384x13 .f32) (w : FVec F S128x429 .f32) (b : FVec F S128 .f32) : FVec F S16384x128 .f32 :=
  addf (Host.dotGeneral dot_S16384x429_S429x128_S16384x128_1_0_0_1_n_n none (concatenate S16384x429 1 [⟨S16384x416, x⟩, ⟨S16384x13, nm⟩] concatenates_S16384x416_S16384x13_S16384x429_d1)
      (transpose S429x128 [1, 0] w transposes_S128x429_S429x128_1_0))
    (broadcastInDim S16384x128 ![0, 1] bcast_S1x128_S16384x128_0_1 (broadcastInDim S1x128 ![1] bcast_S128_S1x128_1 b))

/-- The second. -/
def second (a : FVec F S16384x128 .f32) (w : FVec F S64x128 .f32) (b : FVec F S64 .f32) : FVec F S16384x64 .f32 :=
  addf (Host.dotGeneral dot_S16384x128_S128x64_S16384x64_1_0_0_1_n_n none a (transpose S128x64 [1, 0] w transposes_S64x128_S128x64_1_0))
    (broadcastInDim S16384x64 ![0, 1] bcast_S1x64_S16384x64_0_1 (broadcastInDim S1x64 ![1] bcast_S64_S1x64_1 b))

/-- The last. -/
def last (a : FVec F S16384x64 .f32) (w : FVec F S1x64 .f32) (b : FVec F S1 .f32) : FVec F S16384x1 .f32 :=
  addf (Host.dotGeneral dot_S16384x64_S64x1_S16384x1_1_0_0_1_n_n none a (transpose S64x1 [1, 0] w transposes_S1x64_S64x1_1_0))
    (broadcastInDim S16384x1 ![0, 1] bcast_S1x1_S16384x1_0_1 (broadcastInDim S1x1 ![1] bcast_S1_S1x1_1 b))

/-- A layer's mean over the rows, column by column. -/
def mean128 (H : FVec F S16384x128 .f32) : FVec F S128 .f32 :=
  Host.divf (Host.reduceAdd H (constant S_ .f32 0x00000000#32) reducesTo_S16384x128_S128_d0 h_S_) (broadcastInDim S128 ![] bcast_S_S128 (constant S_ .f32 0x46800000#32))

/-- Its entries less their column's mean. -/
def less128 (H : FVec F S16384x128 .f32) : FVec F S16384x128 .f32 :=
  subf H (broadcastInDim S16384x128 ![0, 1] bcast_S1x128_S16384x128_0_1 (Host.divf (broadcastInDim S1x128 ![1] bcast_S128_S1x128_1 (Host.reduceAdd H (constant S_ .f32 0x00000000#32) reducesTo_S16384x128_S128_d0 h_S_)) (broadcastInDim S1x128 ![] bcast_S_S1x128 (constant S_ .f32 0x46800000#32))))

/-- Its variance over the rows. -/
def var128 (H : FVec F S16384x128 .f32) : FVec F S128 .f32 :=
  select (broadcastInDim S128 ![] bcast_S_S128 (cmpf .ogt (subf (constant S_ .f32 0x46800000#32) (sitofp .f32 (constantI S_ 32 0#32)) : FVec F S_ .f32) (constant S_ .f32 0x00000000#32)))
    (Host.divf (Host.reduceAdd (mulf (less128 H) (less128 H)) (constant S_ .f32 0x00000000#32) reducesTo_S16384x128_S128_d0 h_S_) (broadcastInDim S128 ![] bcast_S_S128 (subf (constant S_ .f32 0x46800000#32) (sitofp .f32 (constantI S_ 32 0#32)))))
    (broadcastInDim S128 ![] bcast_S_S128 (id (constant S_ .f32 0x7FC00000#32)))

/-- The layer normalized over the rows, negative entries put to zero. -/
def act128 (H : FVec F S16384x128 .f32) (g e : FVec F S128 .f32) : FVec F S16384x128 .f32 :=
  maximumf (addf (mulf (Host.divf (subf H (broadcastInDim S16384x128 ![0, 1] bcast_S1x128_S16384x128_0_1 (broadcastInDim S1x128 ![1] bcast_S128_S1x128_1 (mean128 H))))
      (broadcastInDim S16384x128 ![0, 1] bcast_S1x128_S16384x128_0_1 (broadcastInDim S1x128 ![1] bcast_S128_S1x128_1 (Host.sqrt (addf (var128 H) (broadcastInDim S128 ![] bcast_S_S128 (constant S_ .f32 0x3727C5AC#32)))))))
      (broadcastInDim S16384x128 ![0, 1] bcast_S1x128_S16384x128_0_1 (broadcastInDim S1x128 ![1] bcast_S128_S1x128_1 g)))
    (broadcastInDim S16384x128 ![0, 1] bcast_S1x128_S16384x128_0_1 (broadcastInDim S1x128 ![1] bcast_S128_S1x128_1 e))) (broadcastInDim S16384x128 ![] bcast_S_S16384x128 (constant S_ .f32 0x00000000#32))

/-- A layer's mean over the rows, column by column. -/
def mean64 (H : FVec F S16384x64 .f32) : FVec F S64 .f32 :=
  Host.divf (Host.reduceAdd H (constant S_ .f32 0x00000000#32) reducesTo_S16384x64_S64_d0 h_S_) (broadcastInDim S64 ![] bcast_S_S64 (constant S_ .f32 0x46800000#32))

/-- Its entries less their column's mean. -/
def less64 (H : FVec F S16384x64 .f32) : FVec F S16384x64 .f32 :=
  subf H (broadcastInDim S16384x64 ![0, 1] bcast_S1x64_S16384x64_0_1 (Host.divf (broadcastInDim S1x64 ![1] bcast_S64_S1x64_1 (Host.reduceAdd H (constant S_ .f32 0x00000000#32) reducesTo_S16384x64_S64_d0 h_S_)) (broadcastInDim S1x64 ![] bcast_S_S1x64 (constant S_ .f32 0x46800000#32))))

/-- Its variance over the rows. -/
def var64 (H : FVec F S16384x64 .f32) : FVec F S64 .f32 :=
  select (broadcastInDim S64 ![] bcast_S_S64 (cmpf .ogt (subf (constant S_ .f32 0x46800000#32) (sitofp .f32 (constantI S_ 32 0#32)) : FVec F S_ .f32) (constant S_ .f32 0x00000000#32)))
    (Host.divf (Host.reduceAdd (mulf (less64 H) (less64 H)) (constant S_ .f32 0x00000000#32) reducesTo_S16384x64_S64_d0 h_S_) (broadcastInDim S64 ![] bcast_S_S64 (subf (constant S_ .f32 0x46800000#32) (sitofp .f32 (constantI S_ 32 0#32)))))
    (broadcastInDim S64 ![] bcast_S_S64 (id (constant S_ .f32 0x7FC00000#32)))

/-- The layer normalized over the rows, negative entries put to zero. -/
def act64 (H : FVec F S16384x64 .f32) (g e : FVec F S64 .f32) : FVec F S16384x64 .f32 :=
  maximumf (addf (mulf (Host.divf (subf H (broadcastInDim S16384x64 ![0, 1] bcast_S1x64_S16384x64_0_1 (broadcastInDim S1x64 ![1] bcast_S64_S1x64_1 (mean64 H))))
      (broadcastInDim S16384x64 ![0, 1] bcast_S1x64_S16384x64_0_1 (broadcastInDim S1x64 ![1] bcast_S64_S1x64_1 (Host.sqrt (addf (var64 H) (broadcastInDim S64 ![] bcast_S_S64 (constant S_ .f32 0x3727C5AC#32)))))))
      (broadcastInDim S16384x64 ![0, 1] bcast_S1x64_S16384x64_0_1 (broadcastInDim S1x64 ![1] bcast_S64_S1x64_1 g)))
    (broadcastInDim S16384x64 ![0, 1] bcast_S1x64_S16384x64_0_1 (broadcastInDim S1x64 ![1] bcast_S64_S1x64_1 e))) (broadcastInDim S16384x64 ![] bcast_S_S16384x64 (constant S_ .f32 0x00000000#32))

open Idealize.ShloMosaic.TcCoe in
/-- The reference's result, layer by layer. -/
theorem res_eq (m : (ℓ : Loc nD τ sig) → Buf (Elt F) ℓ) (c : Dev nD) (hcat : ∀ i, (m ((c.tc : Thread nD τ).loc main_arg0) i : BitVec 32).toNat < 100000) :
    Cert.ReferenceIdeal.Value.res_main_v73 m c
      = last (act64 (second (act128 (first (look (m ((c.tc : Thread nD τ).loc main_arg0)) (m ((c.tc : Thread nD τ).loc main_arg2))) (m ((c.tc : Thread nD τ).loc main_arg1))
            (m ((c.tc : Thread nD τ).loc main_arg3)) (m ((c.tc : Thread nD τ).loc main_arg4))) (m ((c.tc : Thread nD τ).loc main_arg5)) (m ((c.tc : Thread nD τ).loc main_arg6)))
          (m ((c.tc : Thread nD τ).loc main_arg7)) (m ((c.tc : Thread nD τ).loc main_arg8))) (m ((c.tc : Thread nD τ).loc main_arg9)) (m ((c.tc : Thread nD τ).loc main_arg10)))
        (m ((c.tc : Thread nD τ).loc main_arg11)) (m ((c.tc : Thread nD τ).loc main_arg12)) := by
  rw [← refer_look _ hcat]
  rfl

/-! ## Entry by entry -/

theorem first_apply (x : FVec Ideal S16384x416 .f32) (nm : FVec Ideal S16384x13 .f32) (w : FVec Ideal S128x429 .f32) (b : FVec Ideal S128 .f32) (i : Fin 16384) (c : Fin 128) :
    first x nm w b (ix2 i c) = ((∑ k : Fin 416, x (ix2 i k) * w (ix2 c ⟨k.val, by omega⟩)) + ∑ k : Fin 13, nm (ix2 i k) * w (ix2 c ⟨416 + k.val, by omega⟩)) + b (ix1 c) := by
  pointwise [first]

theorem second_apply (a : FVec Ideal S16384x128 .f32) (w : FVec Ideal S64x128 .f32) (b : FVec Ideal S64 .f32) (i : Fin 16384) (c : Fin 64) :
    second a w b (ix2 i c) = (∑ k, a (ix2 i k) * w (ix2 c k)) + b (ix1 c) := by
  pointwise [second]

theorem last_apply (a : FVec Ideal S16384x64 .f32) (w : FVec Ideal S1x64 .f32) (b : FVec Ideal S1 .f32) (i : Fin 16384) (c : Fin 1) :
    last a w b (ix2 i c) = (∑ k, a (ix2 i k) * w (ix2 0 k)) + b (ix1 0) := by
  pointwise [last]

/-- The number of rows less none of them is the number of rows, -/
theorem count_eq : Ideal.ofBits .f32 0x46800000#32 - (FloatOps.sitofp .f32 (0#32) : Ideal .f32) = Ideal.ofBits .f32 0x46800000#32 := by
  show Ideal.ofBits .f32 0x46800000#32 - (((0#32 : BitVec 32).toInt : ℝ) : EReal) = _
  rw [show (0#32 : BitVec 32).toInt = 0 from rfl, Int.cast_zero, EReal.coe_zero, sub_zero]

/-- and it is positive. -/
theorem count_pos : 0 < Ideal.ofBits .f32 0x46800000#32 := by
  rw [rows, EReal.coe_pos]
  norm_num

theorem mean128_apply (H : FVec Ideal S16384x128 .f32) (c : Fin 128) : mean128 H (ix1 c) = rMean fun i => H (ix2 i c) := by
  unfold rMean
  pointwise [mean128]

theorem less128_apply (H : FVec Ideal S16384x128 .f32) (i : Fin 16384) (c : Fin 128) : less128 H (ix2 i c) = H (ix2 i c) - rMean fun i => H (ix2 i c) := by
  unfold rMean
  pointwise [less128]

theorem var128_apply (H : FVec Ideal S16384x128 .f32) (c : Fin 128) : var128 H (ix1 c) = rVar fun i => H (ix2 i c) := by
  unfold rVar
  simp only [← less128_apply]
  pointwise [var128]
  rw [count_eq, if_pos count_pos]

theorem act128_apply (H : FVec Ideal S16384x128 .f32) (g e : FVec Ideal S128 .f32) (i : Fin 16384) (c : Fin 128) :
    act128 H g e (ix2 i c) = max (rNorm (fun i => H (ix2 i c)) (g (ix1 c)) (e (ix1 c)) i) 0 := by
  unfold rNorm
  rw [← mean128_apply, ← var128_apply]
  pointwise [act128]

theorem mean64_apply (H : FVec Ideal S16384x64 .f32) (c : Fin 64) : mean64 H (ix1 c) = rMean fun i => H (ix2 i c) := by
  unfold rMean
  pointwise [mean64]

theorem less64_apply (H : FVec Ideal S16384x64 .f32) (i : Fin 16384) (c : Fin 64) : less64 H (ix2 i c) = H (ix2 i c) - rMean fun i => H (ix2 i c) := by
  unfold rMean
  pointwise [less64]

theorem var64_apply (H : FVec Ideal S16384x64 .f32) (c : Fin 64) : var64 H (ix1 c) = rVar fun i => H (ix2 i c) := by
  unfold rVar
  simp only [← less64_apply]
  pointwise [var64]
  rw [count_eq, if_pos count_pos]

theorem act64_apply (H : FVec Ideal S16384x64 .f32) (g e : FVec Ideal S64 .f32) (i : Fin 16384) (c : Fin 64) :
    act64 H g e (ix2 i c) = max (rNorm (fun i => H (ix2 i c)) (g (ix1 c)) (e (ix1 c)) i) 0 := by
  unfold rNorm
  rw [← mean64_apply, ← var64_apply]
  pointwise [act64]

end Cert.Proof
-- ==== Proof.Agree.lean ====
/-
  The kernel's output is the reference's result.
-/
module

public import proofs.«01_k».proof.Proof.Ends
public import proofs.«01_k».proof.Proof.Refer

@[expose] public section

set_option maxRecDepth 65536

noncomputable section

namespace Cert.Proof

open Cert.ReferenceIdeal.Gen
open Idealize.ShloMosaic Idealize.ShloMosaic.TcCoe
open scoped BigOperators

section
open Cert.ReferenceIdeal

variable (I : MlpIn Ideal) {x : FVec Ideal S16384x416 .f32} {nm : FVec Ideal S16384x13 .f32} {w1 : FVec Ideal S128x429 .f32} {b1 g1 e1 : FVec Ideal S128 .f32}
  {w2 : FVec Ideal S64x128 .f32} {b2 g2 e2 : FVec Ideal S64 .f32} {w3 : FVec Ideal S1x64 .f32} {b3 : FVec Ideal S1 .f32}

/-- On arrays with real entries the call's rows are the reference's layers, when the call's operands are the reference's:
    the weights with their axes exchanged and the first layer's in two pieces, the parameters as rows. -/
theorem layers (hx : ∀ i k, I.x (ix2 i k) = x (ix2 i k)) (hnm : ∀ i k, I.nm (ix2 i k) = nm (ix2 i k))
    (hw1 : ∀ (k : Fin 416) (c : Fin 128), I.w1 (ix2 k c) = w1 (ix2 c ⟨k.val, by omega⟩)) (hwn : ∀ (k : Fin 13) (c : Fin 128), I.wn (ix2 k c) = w1 (ix2 c ⟨416 + k.val, by omega⟩))
    (hb1 : ∀ c, I.b1 (ix2 0 c) = b1 (ix1 c)) (hg1 : ∀ c, I.g1 (ix2 0 c) = g1 (ix1 c)) (he1 : ∀ c, I.e1 (ix2 0 c) = e1 (ix1 c))
    (hw2 : ∀ k c, I.w2 (ix2 k c) = w2 (ix2 c k)) (hb2 : ∀ c, I.b2 (ix2 0 c) = b2 (ix1 c)) (hg2 : ∀ c, I.g2 (ix2 0 c) = g2 (ix1 c)) (he2 : ∀ c, I.e2 (ix2 0 c) = e2 (ix1 c))
    (hw3 : ∀ k, I.w3 (ix2 0 k) = w3 (ix2 0 k)) (hb3 : I.b3 (ix2 0 0) = b3 (ix1 0))
    (rx : ∀ j, IsReal (x j)) (rnm : ∀ j, IsReal (nm j)) (rw1 : ∀ j, IsReal (w1 j)) (rb1 : ∀ j, IsReal (b1 j)) (rg1 : ∀ j, IsReal (g1 j)) (re1 : ∀ j, IsReal (e1 j))
    (rw2 : ∀ j, IsReal (w2 j)) (rb2 : ∀ j, IsReal (b2 j)) (i : Fin 16384) (c : Fin 1) :
    I.O i = last (act64 (second (act128 (first x nm w1 b1) g1 e1) w2 b2) g2 e2) w3 b3 (ix2 i c) := by
  have h1 : ∀ i c, I.H1 i c = first x nm w1 b1 (ix2 i c) := fun i c => by
    unfold MlpIn.H1
    simp only [hx, hnm, hw1, hwn, hb1]
    exact (first_apply x nm w1 b1 i c).symm
  have r1 : ∀ i c, IsReal (I.H1 i c) := fun i c => by
    unfold MlpIn.H1
    simp only [hx, hnm, hw1, hwn, hb1]
    exact ((IsReal.sum _ _ fun k => (rx _).mul (rw1 _)).add (IsReal.sum _ _ fun k => (rnm _).mul (rw1 _))).add (rb1 _)
  have a1 : ∀ i c, I.A1 i c = act128 (first x nm w1 b1) g1 e1 (ix2 i c) := fun i c => by
    unfold MlpIn.A1 act
    rw [norm_eq _ _ (fun i => r1 i c), act128_apply]
    simp only [h1, hg1, he1]
  have s1 : ∀ i c, IsReal (I.A1 i c) := fun i c => by
    unfold MlpIn.A1 act
    refine (norm_real (fun i => r1 i c) ?_ ?_ i).max_zero
    · simp only [hg1]; exact rg1 _
    · simp only [he1]; exact re1 _
  have h2 : ∀ i c, I.H2 i c = second (act128 (first x nm w1 b1) g1 e1) w2 b2 (ix2 i c) := fun i c => by
    unfold MlpIn.H2 lin
    simp only [a1, hw2, hb2]
    exact (second_apply _ w2 b2 i c).symm
  have r2 : ∀ i c, IsReal (I.H2 i c) := fun i c => by
    unfold MlpIn.H2 lin
    simp only [hw2, hb2]
    exact (IsReal.sum _ _ fun k => (s1 _ _).mul (rw2 _)).add (rb2 _)
  have a2 : ∀ i c, I.A2 i c = act64 (second (act128 (first x nm w1 b1) g1 e1) w2 b2) g2 e2 (ix2 i c) := fun i c => by
    unfold MlpIn.A2 act
    rw [norm_eq _ _ (fun i => r2 i c), act64_apply]
    simp only [h2, hg2, he2]
  unfold MlpIn.O
  simp only [a2, hw3, hb3]
  exact (last_apply _ w3 b3 i c).symm

end

open Cert.KernelIdeal

variable (m : (ℓ : Loc nD τ sig) → Buf (Elt Ideal) ℓ) (d : Dev nD)

/-- The lookup's entries are the tables'. -/
theorem look_real (cat : S16384x26.Idx → BitVec 32) (emb : FVec Ideal S26x100000x16 .f32) (h : ∀ j, IsReal (emb j)) (j : S16384x416.Idx) : IsReal (look (F := Ideal) cat emb j) := h _

/-- The result, row by row. -/
theorem result_row (i : Fin 16384) (c : Fin 1) : result m d (ix2 i c) = (mlpIn (before2 m d)).O i := by
  refine ((mlpIn (before2 m d)).out_apply (i.val / 2048) ⟨i.val % 2048, Nat.mod_lt _ (by decide)⟩ c).trans (congrArg _ (Fin.ext ?_))
  show (2048 * (i.val / 2048) + i.val % 2048) % 16384 = i.val
  omega

theorem agree (hcat : ∀ i, (m (lc d main_arg0) i : BitVec 32).toNat < 100000) (r1 : ∀ j, IsReal (m (lc d main_arg1) j)) (r2 : ∀ j, IsReal (m (lc d main_arg2) j))
    (r3 : ∀ j, IsReal (m (lc d main_arg3) j)) (r4 : ∀ j, IsReal (m (lc d main_arg4) j)) (r5 : ∀ j, IsReal (m (lc d main_arg5) j)) (r6 : ∀ j, IsReal (m (lc d main_arg6) j))
    (r7 : ∀ j, IsReal (m (lc d main_arg7) j)) (r8 : ∀ j, IsReal (m (lc d main_arg8) j)) :
    result m d = last (act64 (second (act128 (first (look (m (lc d main_arg0)) (m (lc d main_arg2))) (m (lc d main_arg1)) (m (lc d main_arg3)) (m (lc d main_arg4)))
      (m (lc d main_arg5)) (m (lc d main_arg6))) (m (lc d main_arg7)) (m (lc d main_arg8))) (m (lc d main_arg9)) (m (lc d main_arg10))) (m (lc d main_arg11)) (m (lc d main_arg12)) := by
  funext j
  obtain ⟨i, c, rfl⟩ : ∃ (i : Fin 16384) (c : Fin 1), j = ix2 i c := ⟨j 0, j 1, eq_ix2 j⟩
  rw [result_row]
  refine layers (mlpIn (before2 m d)) ?_ ?_ ?_ ?_ ?_ ?_ ?_ ?_ ?_ ?_ ?_ ?_ ?_ (look_real _ _ r2) r1 r3 r4 r5 r6 r7 r8 i c
  · intro i k; rw [mlp_x m d hcat]
  · intro i k; rw [mlp_nm]
  · intro k c; rw [mlp_w1]; pointwise
  · intro k c; rw [mlp_wn]; pointwise
  · intro c; rw [mlp_b1]; pointwise
  · intro c; rw [mlp_g1]; pointwise
  · intro c; rw [mlp_e1]; pointwise
  · intro k c; rw [mlp_w2]; pointwise
  · intro c; rw [mlp_b2]; pointwise
  · intro c; rw [mlp_g2]; pointwise
  · intro c; rw [mlp_e2]; pointwise
  · intro k; rw [mlp_w3]
  · rw [mlp_b3]; pointwise

end Cert.Proof

end
-- ==== Proof.Same.lean ====
/-
  The program as printed and its idealization are one program: the same bodies and the same body table.
-/
module

public import proofs.«01_k».proof.Defs
public import proofs.«01_k».proof.Proof.Gen.Kernel
public import proofs.«01_k».proof.Proof.Gen.KernelIdeal

@[expose] public section

set_option maxRecDepth 65536

noncomputable section

namespace Cert.Proof

open Idealize.ShloMosaic Idealize.SL.Sem

variable {F : FTy → Type} [FloatOps F]

/-- The dense layers' body. -/
theorem same_mlp (t) (s) :
    Cert.Kernel.defs₀ (F := F) .tc (2 : Fin 3) (t, s) = Cert.KernelIdeal.defs₀ (F := F) .tc (2 : Fin 3) (t, s) := rfl

/-- The bodies on a vector subcore. -/
theorem same_relay (c s) (a) :
    Cert.Kernel.defs₀ (F := F) (.scVector c s) (0 : Fin 3) a
      = Cert.KernelIdeal.defs₀ (F := F) (.scVector c s) (0 : Fin 3) a := rfl

theorem same_gather (c s) (a) :
    Cert.Kernel.defs₀ (F := F) (.scVector c s) (1 : Fin 3) a
      = Cert.KernelIdeal.defs₀ (F := F) (.scVector c s) (1 : Fin 3) a := rfl

theorem same_idle (c s) (a) :
    Cert.Kernel.defs₀ (F := F) (.scVector c s) (2 : Fin 3) a
      = Cert.KernelIdeal.defs₀ (F := F) (.scVector c s) (2 : Fin 3) a := rfl

set_option maxHeartbeats 4000000 in
/-- The kernels' body table, processor by processor and label by label. -/
theorem same_defs₀ : Cert.Kernel.defs₀ (F := F) = Cert.KernelIdeal.defs₀ (F := F) := by
  funext c ℓ a
  match c, ℓ, a with
  | .tc, ⟨0, _⟩, a => rfl
  | .tc, ⟨1, _⟩, a => rfl
  | .tc, ⟨2, _⟩, (t, s) => exact same_mlp t s
  | .scScalar c, ⟨0, _⟩, a => rfl
  | .scScalar c, ⟨1, _⟩, a => rfl
  | .scScalar c, ⟨2, _⟩, a => rfl
  | .scVector c s, ⟨0, _⟩, a => exact same_relay c s a
  | .scVector c s, ⟨1, _⟩, a => exact same_gather c s a
  | .scVector c s, ⟨2, _⟩, a => exact same_idle c s a
  | _, ⟨n + 3, h⟩, _ => exact absurd h (Nat.not_lt.2 (Nat.le_add_left _ _))

/-- The whole body table: the kernels', the pipeline's and the launches' over it. -/
theorem same_defs : Cert.Kernel.defs (F := F) = Cert.KernelIdeal.defs (F := F) :=
  congrArg (fun d => Cert.KernelIdeal.sc.defs (Pipeline.defs Cert.KernelIdeal.pcfgs d)) same_defs₀

/-- What runs on each processor. -/
theorem same_threads : Cert.Kernel.threads (F := F) = Cert.KernelIdeal.threads (F := F) := rfl

end Cert.Proof

end
-- ==== Proof.lean ====
/-
  The certificate: every claim of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Finite
public import proofs.«01_k».proof.Proof.Agree
public import proofs.«01_k».proof.Proof.Same

@[expose] public section

set_option maxRecDepth 65536

noncomputable section

namespace Cert.Proof

open Idealize.ShloMosaic Idealize.SL.Sem

/-- The program as printed, on bit patterns: it ends, leaves its arguments and every counter at zero. -/
theorem frame_kernel : Cert.quiescent_Kernel := by
  intro m ρ hpre
  have h := (θ_run (Cert.KernelIdeal.defs (F := Bits)) _ _).mono
    (fun r h => And.intro (fun c => args_kept m c r.2.mem (h.1 c)) h.2)
    (run_main (F := Bits) m ρ fun d => inRange_ix m d (lt_of_pre (hpre d)))
  rw [same_defs, same_threads]
  exact h

/-- The same of its idealization. -/
theorem frame_ideal : Cert.quiescent_KernelIdeal := fun m ρ hpre =>
  (θ_run Cert.KernelIdeal.defs _ _).mono (fun r h => ⟨fun c => args_kept m c r.2.mem (h.1 c), h.2⟩)
    (run_main (F := Ideal) m ρ fun d => inRange_ix m d (lt_of_pre (hpre d)))

/-- The same under the value claim's precondition. -/
theorem frame_ideal_finite : Cert.quiescent_KernelIdeal_pre_in_range_finite := fun m ρ hpre =>
  (θ_run Cert.KernelIdeal.defs _ _).mono (fun r h => ⟨fun c => args_kept m c r.2.mem (h.1 c), h.2⟩)
    (run_main (F := Ideal) m ρ fun d => inRange_ix m d (finite_of_pre (hpre d)).1)

/-- The reference ends, leaves its arguments and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized program and the reference end with the same array: the dense layers over the table lookup of the
    arguments. -/
theorem same_result : Cert.algebraic_KernelIdeal_ReferenceIdeal_pre_in_range_finite := fun m ρ m' ρ' hpre hm =>
  ⟨fun c => result m c,
    (θ_run Cert.KernelIdeal.defs _ _).mono
      (fun r h c => ⟨(h.1 c Cert.KernelIdeal.main_v19 rfl).trans (atEnd_v19 m c), args_kept m c r.2.mem (h.1 c)⟩)
      (run_main (F := Ideal) m ρ fun d => inRange_ix m d (finite_of_pre (hpre d)).1),
    (θ_run Cert.ReferenceIdeal.defs _ _).mono
      (fun _ h c => ⟨(h c).1.trans (by
        obtain ⟨e0, e1, e2, e3, e4, e5, e6, e7, e8, e9, e10, e11, e12⟩ := hm c
        obtain ⟨hcat, r1, r2, r3, r4, r5, r6, r7, r8⟩ := finite_of_pre (hpre c)
        rw [res_eq (F := Ideal) m' c (by rw [e0]; exact hcat), e0, e1, e2, e3, e4, e5, e6, e7, e8, e9, e10, e11, e12]
        exact (agree m c hcat r1 r2 r3 r4 r5 r6 r7 r8).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts, Cert.Pre_in_range_finite.Gen.facts,
  frame_kernel, frame_ideal, frame_ideal_finite, frame_reference, fun m ρ _ => frame_reference m ρ trivial, trivial, same_result⟩

end Cert.Proof

end
